-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Qkvu (m : (ℓ : Loc Cert.Qkvu.nD Cert.Qkvu.τ Cert.Qkvu.sig) → Buf (Elt Bits) ℓ) : Prop :=
  True

def Pre_QkvuIdeal (m : (ℓ : Loc Cert.QkvuIdeal.nD Cert.QkvuIdeal.τ Cert.QkvuIdeal.sig) → Buf (Elt Ideal) ℓ) : Prop :=
  True

def Pre_QkvuReferenceIdeal (m : (ℓ : Loc Cert.QkvuReferenceIdeal.nD Cert.QkvuReferenceIdeal.τ Cert.QkvuReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def quiescent_Qkvu [hQkvu : Cert.Qkvu.Facts] : Prop :=
  ∀ (m : (ℓ : Loc Cert.Qkvu.nD Cert.Qkvu.τ Cert.Qkvu.sig) → Buf (Elt Bits) ℓ) (g : Dev Cert.Qkvu.nD → PrngReg), Pre_Qkvu m →
    θ_run (Cert.Qkvu.defs (F := Bits)) (onTc (τ := Cert.Qkvu.τ) (Cert.Qkvu.main (F := Bits))) ⟨m, fun _ => 0, g⟩ (fun r => (∀ c : Dev Cert.Qkvu.nD,
      r.2.mem ((c.tc : Thread Cert.Qkvu.nD Cert.Qkvu.τ).loc Cert.Qkvu.main_arg0) = m ((c.tc : Thread Cert.Qkvu.nD Cert.Qkvu.τ).loc Cert.Qkvu.main_arg0)
      ∧ r.2.mem ((c.tc : Thread Cert.Qkvu.nD Cert.Qkvu.τ).loc Cert.Qkvu.main_arg1) = m ((c.tc : Thread Cert.Qkvu.nD Cert.Qkvu.τ).loc Cert.Qkvu.main_arg1)
      ∧ r.2.mem ((c.tc : Thread Cert.Qkvu.nD Cert.Qkvu.τ).loc Cert.Qkvu.main_arg2) = m ((c.tc : Thread Cert.Qkvu.nD Cert.Qkvu.τ).loc Cert.Qkvu.main_arg2)
      ∧ r.2.mem ((c.tc : Thread Cert.Qkvu.nD Cert.Qkvu.τ).loc Cert.Qkvu.main_arg3) = m ((c.tc : Thread Cert.Qkvu.nD Cert.Qkvu.τ).loc Cert.Qkvu.main_arg3))
      ∧ r.2.sem = fun _ => 0)

def quiescent_QkvuIdeal [hQkvuIdeal : Cert.QkvuIdeal.Facts] : Prop :=
  ∀ (m : (ℓ : Loc Cert.QkvuIdeal.nD Cert.QkvuIdeal.τ Cert.QkvuIdeal.sig) → Buf (Elt Ideal) ℓ) (g : Dev Cert.QkvuIdeal.nD → PrngReg), Pre_QkvuIdeal m →
    θ_run (Cert.QkvuIdeal.defs (F := Ideal)) (onTc (τ := Cert.QkvuIdeal.τ) (Cert.QkvuIdeal.main (F := Ideal))) ⟨m, fun _ => 0, g⟩ (fun r => (∀ c : Dev Cert.QkvuIdeal.nD,
      r.2.mem ((c.tc : Thread Cert.QkvuIdeal.nD Cert.QkvuIdeal.τ).loc Cert.QkvuIdeal.main_arg0) = m ((c.tc : Thread Cert.QkvuIdeal.nD Cert.QkvuIdeal.τ).loc Cert.QkvuIdeal.main_arg0)
      ∧ r.2.mem ((c.tc : Thread Cert.QkvuIdeal.nD Cert.QkvuIdeal.τ).loc Cert.QkvuIdeal.main_arg1) = m ((c.tc : Thread Cert.QkvuIdeal.nD Cert.QkvuIdeal.τ).loc Cert.QkvuIdeal.main_arg1)
      ∧ r.2.mem ((c.tc : Thread Cert.QkvuIdeal.nD Cert.QkvuIdeal.τ).loc Cert.QkvuIdeal.main_arg2) = m ((c.tc : Thread Cert.QkvuIdeal.nD Cert.QkvuIdeal.τ).loc Cert.QkvuIdeal.main_arg2)
      ∧ r.2.mem ((c.tc : Thread Cert.QkvuIdeal.nD Cert.QkvuIdeal.τ).loc Cert.QkvuIdeal.main_arg3) = m ((c.tc : Thread Cert.QkvuIdeal.nD Cert.QkvuIdeal.τ).loc Cert.QkvuIdeal.main_arg3))
      ∧ r.2.sem = fun _ => 0)

def quiescent_QkvuReferenceIdeal [hQkvuReferenceIdeal : Cert.QkvuReferenceIdeal.Facts] : Prop :=
  ∀ (m : (ℓ : Loc Cert.QkvuReferenceIdeal.nD Cert.QkvuReferenceIdeal.τ Cert.QkvuReferenceIdeal.sig) → Buf (Elt Ideal) ℓ) (g : Dev Cert.QkvuReferenceIdeal.nD → PrngReg), Pre_QkvuReferenceIdeal m →
    θ_run (Cert.QkvuReferenceIdeal.defs (F := Ideal)) (onTc (τ := Cert.QkvuReferenceIdeal.τ) (Cert.QkvuReferenceIdeal.main (F := Ideal))) ⟨m, fun _ => 0, g⟩ (fun r => (∀ c : Dev Cert.QkvuReferenceIdeal.nD,
      r.2.mem ((c.tc : Thread Cert.QkvuReferenceIdeal.nD Cert.QkvuReferenceIdeal.τ).loc Cert.QkvuReferenceIdeal.main_arg0) = m ((c.tc : Thread Cert.QkvuReferenceIdeal.nD Cert.QkvuReferenceIdeal.τ).loc Cert.QkvuReferenceIdeal.main_arg0)
      ∧ r.2.mem ((c.tc : Thread Cert.QkvuReferenceIdeal.nD Cert.QkvuReferenceIdeal.τ).loc Cert.QkvuReferenceIdeal.main_arg1) = m ((c.tc : Thread Cert.QkvuReferenceIdeal.nD Cert.QkvuReferenceIdeal.τ).loc Cert.QkvuReferenceIdeal.main_arg1)
      ∧ r.2.mem ((c.tc : Thread Cert.QkvuReferenceIdeal.nD Cert.QkvuReferenceIdeal.τ).loc Cert.QkvuReferenceIdeal.main_arg2) = m ((c.tc : Thread Cert.QkvuReferenceIdeal.nD Cert.QkvuReferenceIdeal.τ).loc Cert.QkvuReferenceIdeal.main_arg2)
      ∧ r.2.mem ((c.tc : Thread Cert.QkvuReferenceIdeal.nD Cert.QkvuReferenceIdeal.τ).loc Cert.QkvuReferenceIdeal.main_arg3) = m ((c.tc : Thread Cert.QkvuReferenceIdeal.nD Cert.QkvuReferenceIdeal.τ).loc Cert.QkvuReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "logits" .f32 0x3E0293EE#32 (((Real.log 2)⁻¹ * (11863283 * 134217728⁻¹) : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v7)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v115) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3))

def preserves_Qkvu_QkvuIdeal : Prop :=
  True

def algebraic_QkvuIdeal_QkvuReferenceIdeal [hQkvuIdeal : Cert.QkvuIdeal.Facts] [hQkvuReferenceIdeal : Cert.QkvuReferenceIdeal.Facts] : Prop :=
  ∀ (m : (ℓ : Loc Cert.QkvuIdeal.nD Cert.QkvuIdeal.τ Cert.QkvuIdeal.sig) → Buf (Elt Ideal) ℓ) (g : Dev Cert.QkvuIdeal.nD → PrngReg)
    (m' : (ℓ : Loc Cert.QkvuReferenceIdeal.nD Cert.QkvuReferenceIdeal.τ Cert.QkvuReferenceIdeal.sig) → Buf (Elt Ideal) ℓ) (g' : Dev Cert.QkvuReferenceIdeal.nD → PrngReg), Pre_QkvuIdeal m →
    (∀ c : Dev Cert.QkvuIdeal.nD,
      m' ((c.tc : Thread Cert.QkvuReferenceIdeal.nD Cert.QkvuReferenceIdeal.τ).loc Cert.QkvuReferenceIdeal.main_arg0) = m ((c.tc : Thread Cert.QkvuIdeal.nD Cert.QkvuIdeal.τ).loc Cert.QkvuIdeal.main_arg0)
      ∧ m' ((c.tc : Thread Cert.QkvuReferenceIdeal.nD Cert.QkvuReferenceIdeal.τ).loc Cert.QkvuReferenceIdeal.main_arg1) = m ((c.tc : Thread Cert.QkvuIdeal.nD Cert.QkvuIdeal.τ).loc Cert.QkvuIdeal.main_arg1)
      ∧ m' ((c.tc : Thread Cert.QkvuReferenceIdeal.nD Cert.QkvuReferenceIdeal.τ).loc Cert.QkvuReferenceIdeal.main_arg2) = m ((c.tc : Thread Cert.QkvuIdeal.nD Cert.QkvuIdeal.τ).loc Cert.QkvuIdeal.main_arg2)
      ∧ m' ((c.tc : Thread Cert.QkvuReferenceIdeal.nD Cert.QkvuReferenceIdeal.τ).loc Cert.QkvuReferenceIdeal.main_arg3) = m ((c.tc : Thread Cert.QkvuIdeal.nD Cert.QkvuIdeal.τ).loc Cert.QkvuIdeal.main_arg3)) →
    ∃ (v0 : (c : Dev Cert.QkvuIdeal.nD) → Buf (Elt Ideal) ((c.tc : Thread Cert.QkvuIdeal.nD Cert.QkvuIdeal.τ).loc Cert.QkvuIdeal.main_v7_0)) (v1 : (c : Dev Cert.QkvuIdeal.nD) → Buf (Elt Ideal) ((c.tc : Thread Cert.QkvuIdeal.nD Cert.QkvuIdeal.τ).loc Cert.QkvuIdeal.main_v7_1)),
      θ_run (Cert.QkvuIdeal.defs (F := Ideal)) (onTc (τ := Cert.QkvuIdeal.τ) (Cert.QkvuIdeal.main (F := Ideal))) ⟨m, fun _ => 0, g⟩ (fun r => ∀ c : Dev Cert.QkvuIdeal.nD,
          r.2.mem ((c.tc : Thread Cert.QkvuIdeal.nD Cert.QkvuIdeal.τ).loc Cert.QkvuIdeal.main_v7_0) = v0 c
          ∧ r.2.mem ((c.tc : Thread Cert.QkvuIdeal.nD Cert.QkvuIdeal.τ).loc Cert.QkvuIdeal.main_v7_1) = v1 c
          ∧ r.2.mem ((c.tc : Thread Cert.QkvuIdeal.nD Cert.QkvuIdeal.τ).loc Cert.QkvuIdeal.main_arg0) = m ((c.tc : Thread Cert.QkvuIdeal.nD Cert.QkvuIdeal.τ).loc Cert.QkvuIdeal.main_arg0)
          ∧ r.2.mem ((c.tc : Thread Cert.QkvuIdeal.nD Cert.QkvuIdeal.τ).loc Cert.QkvuIdeal.main_arg1) = m ((c.tc : Thread Cert.QkvuIdeal.nD Cert.QkvuIdeal.τ).loc Cert.QkvuIdeal.main_arg1)
          ∧ r.2.mem ((c.tc : Thread Cert.QkvuIdeal.nD Cert.QkvuIdeal.τ).loc Cert.QkvuIdeal.main_arg2) = m ((c.tc : Thread Cert.QkvuIdeal.nD Cert.QkvuIdeal.τ).loc Cert.QkvuIdeal.main_arg2)
          ∧ r.2.mem ((c.tc : Thread Cert.QkvuIdeal.nD Cert.QkvuIdeal.τ).loc Cert.QkvuIdeal.main_arg3) = m ((c.tc : Thread Cert.QkvuIdeal.nD Cert.QkvuIdeal.τ).loc Cert.QkvuIdeal.main_arg3))
      ∧ θ_run (Cert.QkvuReferenceIdeal.defs (F := Ideal)) (onTc (τ := Cert.QkvuReferenceIdeal.τ) (Cert.QkvuReferenceIdeal.main (F := Ideal))) ⟨m', fun _ => 0, g'⟩ (fun r => ∀ c : Dev Cert.QkvuReferenceIdeal.nD,
          r.2.mem ((c.tc : Thread Cert.QkvuReferenceIdeal.nD Cert.QkvuReferenceIdeal.τ).loc Cert.QkvuReferenceIdeal.main_v51) = v0 c
          ∧ r.2.mem ((c.tc : Thread Cert.QkvuReferenceIdeal.nD Cert.QkvuReferenceIdeal.τ).loc Cert.QkvuReferenceIdeal.main_v53) = v1 c
          ∧ r.2.mem ((c.tc : Thread Cert.QkvuReferenceIdeal.nD Cert.QkvuReferenceIdeal.τ).loc Cert.QkvuReferenceIdeal.main_arg0) = m' ((c.tc : Thread Cert.QkvuReferenceIdeal.nD Cert.QkvuReferenceIdeal.τ).loc Cert.QkvuReferenceIdeal.main_arg0)
          ∧ r.2.mem ((c.tc : Thread Cert.QkvuReferenceIdeal.nD Cert.QkvuReferenceIdeal.τ).loc Cert.QkvuReferenceIdeal.main_arg1) = m' ((c.tc : Thread Cert.QkvuReferenceIdeal.nD Cert.QkvuReferenceIdeal.τ).loc Cert.QkvuReferenceIdeal.main_arg1)
          ∧ r.2.mem ((c.tc : Thread Cert.QkvuReferenceIdeal.nD Cert.QkvuReferenceIdeal.τ).loc Cert.QkvuReferenceIdeal.main_arg2) = m' ((c.tc : Thread Cert.QkvuReferenceIdeal.nD Cert.QkvuReferenceIdeal.τ).loc Cert.QkvuReferenceIdeal.main_arg2)
          ∧ r.2.mem ((c.tc : Thread Cert.QkvuReferenceIdeal.nD Cert.QkvuReferenceIdeal.τ).loc Cert.QkvuReferenceIdeal.main_arg3) = m' ((c.tc : Thread Cert.QkvuReferenceIdeal.nD Cert.QkvuReferenceIdeal.τ).loc Cert.QkvuReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v75) = v0 c
          ∧ r.2.mem ((c.tc : Thread Cert.MergeReferenceIdeal.nD Cert.MergeReferenceIdeal.τ).loc Cert.MergeReferenceIdeal.main_v77) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGates : Cert.Gates.Facts) (hGatesIdeal : Cert.GatesIdeal.Facts) (hGatesReferenceIdeal : Cert.GatesReferenceIdeal.Facts) (hQkvu : Cert.Qkvu.Facts) (hQkvuIdeal : Cert.QkvuIdeal.Facts) (hQkvuReferenceIdeal : Cert.QkvuReferenceIdeal.Facts) (hMerge : Cert.Merge.Facts) (hMergeIdeal : Cert.MergeIdeal.Facts) (hMergeReferenceIdeal : Cert.MergeReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Qkvu (hQkvu := hQkvu)
    ∧ quiescent_QkvuIdeal (hQkvuIdeal := hQkvuIdeal)
    ∧ quiescent_QkvuReferenceIdeal (hQkvuReferenceIdeal := hQkvuReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Ffn_FfnIdeal
    ∧ algebraic_FfnIdeal_FfnReferenceIdeal (hFfnIdeal := hFfnIdeal) (hFfnReferenceIdeal := hFfnReferenceIdeal)
    ∧ preserves_Gates_GatesIdeal
    ∧ algebraic_GatesIdeal_GatesReferenceIdeal (hGatesIdeal := hGatesIdeal) (hGatesReferenceIdeal := hGatesReferenceIdeal)
    ∧ preserves_Qkvu_QkvuIdeal
    ∧ algebraic_QkvuIdeal_QkvuReferenceIdeal (hQkvuIdeal := hQkvuIdeal) (hQkvuReferenceIdeal := hQkvuReferenceIdeal)
    ∧ preserves_Merge_MergeIdeal
    ∧ algebraic_MergeIdeal_MergeReferenceIdeal (hMergeIdeal := hMergeIdeal) (hMergeReferenceIdeal := hMergeReferenceIdeal)
-- ==== Pre_finite_logits.lean ====
abbrev S4096x4096 : Shape := ⟨2, ![4096, 4096]⟩
abbrev S4x1x512x8x128 : Shape := ⟨5, ![4, 1, 512, 8, 128]⟩
abbrev S1x8x15x31 : Shape := ⟨4, ![1, 8, 15, 31]⟩
abbrev S4096x2048 : Shape := ⟨2, ![4096, 2048]⟩
abbrev S_ : Shape := ⟨0, ![]⟩

class Facts : Prop where
  slices_S4096x4096_S4096x2048_0_0 : S4096x4096.Slices ![0, 0] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x1x512x8x128 : S_.BroadcastsInDim S4x1x512x8x128 (![] : Fin 0 → Fin S4x1x512x8x128.rank)
  reducesTo_S4x1x512x8x128_S_d0_1_2_3_4 : S4x1x512x8x128.ReducesTo [0, 1, 2, 3, 4] S_
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S4096x4096 .bf16) (main_arg1 : FVec F S4x1x512x8x128 .f32) (main_arg2 : FVec F S4x1x512x8x128 .f32) (main_arg3 : FVec F S1x8x15x31 .f32) : IVec S_ 1 :=
  let main_v0 : FVec F S4096x2048 .bf16 := (extractStridedSlice S4096x2048 ![0, 0] · slices_S4096x4096_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  let main_v6 : FVec F S4x1x512x8x128 .f32 := Host.absf main_arg1
  let main_cst_0 : FVec F S_ .f32 := constant S_ .f32 0x7F800000#32
  let main_v7 : FVec F S4x1x512x8x128 .f32 := broadcastInDim S4x1x512x8x128 ![] bcast_S_S4x1x512x8x128 main_cst_0
  let main_v8 : IVec S4x1x512x8x128 1 := cmpf .olt main_v6 main_v7
  let main_c_1 : IVec S_ 1 := constantI S_ 1 1#1
  let main_v9 : IVec S_ 1 := (fun x v => Host.reduce IntOp.andi x v reducesTo_S4x1x512x8x128_S_d0_1_2_3_4 h_S_) main_v8 main_c_1
  let main_v10 : IVec S_ 1 := andi main_v5 main_v9
  let main_v11 : FVec F S1x8x15x31 .f32 := Host.absf main_arg3
  let main_cst_2 : FVec F S_ .f32 := constant S_ .f32 0x7F800000#32
  let main_v12 : FVec F S1x8x15x31 .f32 := broadcastInDim S1x8x15x31 ![] bcast_S_S1x8x15x31 main_cst_2
  let main_v13 : IVec S1x8x15x31 1 := cmpf .olt main_v11 main_v12
  let main_c_3 : IVec S_ 1 := constantI S_ 1 1#1
  let main_v14 : IVec S_ 1 := (fun x v => Host.reduce IntOp.andi x v reducesTo_S1x8x15x31_S_d0_1_2_3 h_S_) main_v13 main_c_3
  let main_v15 : IVec S_ 1 := andi main_v10 main_v14
  main_v15
-- ==== Kernel.lean ====
abbrev S4096x4096 : Shape := ⟨2, ![4096, 4096]⟩
abbrev S4x1x512x8x128 : Shape := ⟨5, ![4, 1, 512, 8, 128]⟩
abbrev S1x8x15x31 : Shape := ⟨4, ![1, 8, 15, 31]⟩
abbrev S8x15x31 : Shape := ⟨3, ![8, 15, 31]⟩
abbrev S_ : Shape := ⟨0, ![]⟩
abbrev S8x15x128 : Shape := ⟨3, ![8, 15, 128]⟩
abbrev S8x2x64x1024 : Shape := ⟨4, ![8, 2, 64, 1024]⟩
abbrev S1x15x128 : Shape := ⟨3, ![1, 15, 128]⟩
abbrev S1x2x64x1024 : Shape := ⟨4, ![1, 2, 64, 1024]⟩
abbrev S64x64 : Shape := ⟨2, ![64, 64]⟩
abbrev S1x1x128 : Shape := ⟨3, ![1, 1, 128]⟩
abbrev S1x128 : Shape := ⟨2, ![1, 128]⟩
abbrev S64x128 : Shape := ⟨2, ![64, 128]⟩
abbrev S64x1024 : Shape := ⟨2, ![64, 1024]⟩
abbrev S1x1x64x1024 : Shape := ⟨4, ![1, 1, 64, 1024]⟩
abbrev S4x4096x128 : Shape := ⟨3, ![4, 4096, 128]⟩
abbrev S4096x1024 : Shape := ⟨2, ![4096, 1024]⟩
abbrev S1024x512 : Shape := ⟨2, ![1024, 512]⟩
abbrev S1x4096x128 : Shape := ⟨3, ![1, 4096, 128]⟩
abbrev S4x2x64x1024 : Shape := ⟨4, ![4, 2, 64, 1024]⟩
abbrev S2x1024x512 : Shape := ⟨3, ![2, 1024, 512]⟩
abbrev S1x512x128 : Shape := ⟨3, ![1, 512, 128]⟩
abbrev S512x128 : Shape := ⟨2, ![512, 128]⟩
abbrev S1024x128 : Shape := ⟨2, ![1024, 128]⟩
abbrev S1x1x64x512 : Shape := ⟨4, ![1, 1, 64, 512]⟩
abbrev S64x512 : Shape := ⟨2, ![64, 512]⟩
abbrev S1x1024x512 : Shape := ⟨3, ![1, 1024, 512]⟩
abbrev S1024 : Shape := ⟨1, ![1024]⟩
abbrev S1024x1 : Shape := ⟨2, ![1024, 1]⟩
abbrev S64x1 : Shape := ⟨2, ![64, 1]⟩

abbrev nBuf : Space → Nat
  | .hbm => 12
  | .vmem => 20
  | .smem => 0
  | _ => 0

abbrev bufTy : (tb : Table) → Fin (tcTables nBuf tb) → BufTy
  | .hbm, ⟨0, _⟩ => ⟨S4096x4096, .bf16⟩
  | .hbm, ⟨1, _⟩ => ⟨S4x1x512x8x128, .f32⟩
  | .hbm, ⟨2, _⟩ => ⟨S4x1x512x8x128, .f32⟩
  | .hbm, ⟨3, _⟩ => ⟨S1x8x15x31, .f32⟩
  | .hbm, ⟨4, _⟩ => ⟨S8x15x31, .f32⟩
  | .hbm, ⟨5, _⟩ => ⟨S_, .i32⟩
  | .hbm, ⟨6, _⟩ => ⟨S_, .f32⟩
  | .hbm, ⟨7, _⟩ => ⟨S8x15x128, .f32⟩
  | .hbm, ⟨8, _⟩ => ⟨S8x2x64x1024, .f32⟩
  | .hbm, ⟨9, _⟩ => ⟨S4x4096x128, .f32⟩
  | .hbm, ⟨10, _⟩ => ⟨S4x4096x128, .f32⟩
  | .hbm, ⟨11, _⟩ => ⟨S4096x1024, .bf16⟩
  | .local _ .vmem, ⟨0, _⟩ => ⟨S1x15x128, .f32⟩
  | .local _ .vmem, ⟨1, _⟩ => ⟨S1x15x128, .f32⟩
  | .local _ .vmem, ⟨2, _⟩ => ⟨S1x2x64x1024, .f32⟩
  | .local _ .vmem, ⟨3, _⟩ => ⟨S1x2x64x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S4x2x64x1024, .f32⟩
  | .local _ .vmem, ⟨15, _⟩ => ⟨S4x2x64x1024, .f32⟩
  | .local _ .vmem, ⟨16, _⟩ => ⟨S1024x512, .bf16⟩
  | .local _ .vmem, ⟨17, _⟩ => ⟨S1024x512, .bf16⟩
  | .local _ .vmem, ⟨18, _⟩ => ⟨S2x1024x512, .f32⟩
  | .local _ .vmem, ⟨19, _⟩ => ⟨S2x1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 2], ![false, false]⟩

def k1_off1 (i : grid1.Coords) (c0_i32 : BitVec 32) : Fin 3 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  let c0_0 : Index := 0#32
  ![0, v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x2x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "log2e" => some (((Real.log 2)⁻¹ : ℝ) : EReal)
  | "logits" => some (((Real.log 2)⁻¹ * (11863283 * 134217728⁻¹) : ℝ) : EReal)
  | _ => none
-- ==== ReferenceIdeal.lean ====
abbrev S4096x4096 : Shape := ⟨2, ![4096, 4096]⟩
abbrev S4x1x512x8x128 : Shape := ⟨5, ![4, 1, 512, 8, 128]⟩
abbrev S1x8x15x31 : Shape := ⟨4, ![1, 8, 15, 31]⟩
abbrev S4096x1024 : Shape := ⟨2, ![4096, 1024]⟩
abbrev S4x1024x8x128 : Shape := ⟨4, ![4, 1024, 8, 128]⟩
abbrev S4x512x8x128 : Shape := ⟨4, ![4, 512, 8, 128]⟩
abbrev S8x15x31 : Shape := ⟨3, ![8, 15, 31]⟩
abbrev S4x16x64x8x128 : Shape := ⟨5, ![4, 16, 64, 8, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S16 : Shape := ⟨1, ![16]⟩
abbrev S16x1 : Shape := ⟨2, ![16, 1]⟩
abbrev S16x5 : Shape := ⟨2, ![16, 5]⟩
abbrev S16x4x8x64x8x128 : Shape := ⟨6, ![16, 4, 8, 64, 8, 128]⟩
abbrev S8 : Shape := ⟨1, ![8]⟩
abbrev S1x8 : Shape := ⟨2, ![1, 8]⟩
abbrev S16x8 : Shape := ⟨2, ![16, 8]⟩
abbrev S16x8x1 : Shape := ⟨3, ![16, 8, 1]⟩
abbrev S1 : Shape := ⟨1, ![1]⟩
abbrev S1x1x1 : Shape := ⟨3, ![1, 1, 1]⟩
abbrev S16x8x8x64x64 : Shape := ⟨5, ![16, 8, 8, 64, 64]⟩
abbrev S16x8x64x8x64 : Shape := ⟨5, ![16, 8, 64, 8, 64]⟩
abbrev S16x4x8x64x8x64 : Shape := ⟨6, ![16, 4, 8, 64, 8, 64]⟩
abbrev S16x1x8x64x8x64 : Shape := ⟨6, ![16, 1, 8, 64, 8, 64]⟩
abbrev S1x1x64x1x64 : Shape := ⟨5, ![1, 1, 64, 1, 64]⟩
abbrev S4x8x64x8x64 : Shape := ⟨5, ![4, 8, 64, 8, 64]⟩
abbrev S16x4x8x64x512 : Shape := ⟨5, ![16, 4, 8, 64, 512]⟩
abbrev S4x8x16x64x512 : Shape := ⟨5, ![4, 8, 16, 64, 512]⟩
abbrev S16x4x8x64x1024 : Shape := ⟨5, ![16, 4, 8, 64, 1024]⟩
abbrev S16x4x8x64 : Shape := ⟨4, ![16, 4, 8, 64]⟩
abbrev S16x4x8x64x1 : Shape := ⟨5, ![16, 4, 8, 64, 1]⟩
abbrev S16x4x8x128x64 : Shape := ⟨5, ![16, 4, 8, 128, 64]⟩
abbrev S16x4x64x8x128 : Shape := ⟨5, ![16, 4, 64, 8, 128]⟩
abbrev S4x8x128x16x64 : Shape := ⟨5, ![4, 8, 128, 16, 64]⟩
abbrev S4x1024x1024 : Shape := ⟨3, ![4, 1024, 1024]⟩

abbrev nBuf : Space → Nat
  | .hbm => 201
  | .vmem => 0
  | .smem => 0
  | _ => 0

abbrev hbmTy0_0 (i : Nat) : BufTy := match i % 128 with
  | 0 => ⟨S4096x4096, .bf16⟩
  | 1 => ⟨S4x1x512x8x128, .f32⟩
  | 2 => ⟨S4x1x512x8x128, .f32⟩
  | 3 => ⟨S1x8x15x31, .f32⟩
  | 4 => ⟨S4096x4096, .f32⟩
  | 5 => ⟨S4096x1024, .f32⟩
  | 6 => ⟨S4096x1024, .f32⟩
  | 7 => ⟨S4096x1024, .f32⟩
  | 8 => ⟨S4096x1024, .f32⟩
  | 9 => ⟨S4x1024x8x128, .f32⟩
  | 10 => ⟨S4x1024x8x128, .f32⟩
  | 11 => ⟨S4x1024x8x128, .f32⟩
  | 12 => ⟨S4x512x8x128, .f32⟩
  | 13 => ⟨S4x512x8x128, .f32⟩
  | 14 => ⟨S8x15x31, .f32⟩
  | 15 => ⟨S4x16x64x8x128, .f32⟩
  | 16 => ⟨S4x16x64x8x128, .f32⟩
  | 17 => ⟨S4x16x64x8x128, .f32⟩
  | 18 => ⟨S64, .i32⟩
  | 19 => ⟨S_, .i32⟩
  | 20 => ⟨S64, .i32⟩
  | 21 => ⟨S64, .i32⟩
  | 22 => ⟨S_, .i32⟩
  | 23 => ⟨S_, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S1x64, .i32⟩
  | 31 => ⟨S64x1, .i32⟩
  | 32 => ⟨S64x64, .i32⟩
  | 33 => ⟨S64x64, .i32⟩
  | 34 => ⟨S64x64, .i1⟩
  | 35 => ⟨S1x64, .i32⟩
  | 36 => ⟨S64x1, .i32⟩
  | 37 => ⟨S_, .i32⟩
  | 38 => ⟨S64x1, .i32⟩
  | 39 => ⟨S64x1, .i32⟩
  | 40 => ⟨S64x64, .i32⟩
  | 41 => ⟨S64x64, .i32⟩
  | 42 => ⟨S64x64, .i1⟩
  | 43 => ⟨S64x64, .i1⟩
  | 44 => ⟨S1x64, .i32⟩
  | 45 => ⟨S64x1, .i32⟩
  | 46 => ⟨S64x64, .i32⟩
  | 47 => ⟨S64x64, .i32⟩
  | 48 => ⟨S64x64, .i32⟩
  | 49 => ⟨S_, .i32⟩
  | 50 => ⟨S64x64, .i32⟩
  | 51 => ⟨S64x64, .i32⟩
  | 52 => ⟨S_, .i32⟩
  | 53 => ⟨S_, .i32⟩
  | 54 => ⟨S_, .i32⟩
  | 55 => ⟨S64x64, .i32⟩
  | 56 => ⟨S64x64, .i32⟩
  | 57 => ⟨S_, .i32⟩
  | 58 => ⟨S64x64, .i32⟩
  | 59 => ⟨S64x64, .i32⟩
  | 60 => ⟨S_, .i32⟩
  | 61 => ⟨S64x64, .i32⟩
  | 62 => ⟨S64x64, .i1⟩
  | 63 => ⟨S_, .i32⟩
  | 64 => ⟨S64x64, .i32⟩
  | 65 => ⟨S64x64, .i32⟩
  | 66 => ⟨S64x64, .i32⟩
  | 67 => ⟨S64x64x1, .i32⟩
  | 68 => ⟨S8x15x64x64, .f32⟩
  | 69 => ⟨S16, .i32⟩
  | 70 => ⟨S_, .i32⟩
  | 71 => ⟨S16, .i32⟩
  | 72 => ⟨S16, .i32⟩
  | 73 => ⟨S_, .i32⟩
  | 74 => ⟨S_, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i1⟩
  | 84 => ⟨S_, .i32⟩
  | 85 => ⟨S16, .i32⟩
  | 86 => ⟨S16, .i32⟩
  | 87 => ⟨S16, .i32⟩
  | 88 => ⟨S_, .i32⟩
  | 89 => ⟨S16x1, .i32⟩
  | 90 => ⟨S16x1, .i32⟩
  | 91 => ⟨S_, .i32⟩
  | 92 => ⟨S16x1, .i32⟩
  | 93 => ⟨S_, .i32⟩
  | 94 => ⟨S16x1, .i32⟩
  | 95 => ⟨S_, .i32⟩
  | 96 => ⟨S16x1, .i32⟩
  | 97 => ⟨S16x5, .i32⟩
  | 98 => ⟨S16x4x8x64x8x128, .f32⟩
  | 99 => ⟨S_, .i32⟩
  | 100 => ⟨S16, .i32⟩
  | 101 => ⟨S16, .i1⟩
  | 102 => ⟨S_, .i32⟩
  | 103 => ⟨S16, .i32⟩
  | 104 => ⟨S16, .i32⟩
  | 105 => ⟨S16, .i32⟩
  | 106 => ⟨S_, .i32⟩
  | 107 => ⟨S16x1, .i32⟩
  | 108 => ⟨S16x1, .i32⟩
  | 109 => ⟨S_, .i32⟩
  | 110 => ⟨S16x1, .i32⟩
  | 111 => ⟨S_, .i32⟩
  | 112 => ⟨S16x1, .i32⟩
  | 113 => ⟨S_, .i32⟩
  | 114 => ⟨S16x1, .i32⟩
  | 115 => ⟨S16x5, .i32⟩
  | 116 => ⟨S16x4x8x64x8x128, .f32⟩
  | 117 => ⟨S8, .i32⟩
  | 118 => ⟨S1x8, .i32⟩
  | 119 => ⟨S16x1, .i32⟩
  | 120 => ⟨S16x8, .i32⟩
  | 121 => ⟨S16x8, .i32⟩
  | 122 => ⟨S16x8, .i32⟩
  | 123 => ⟨S16x1, .i32⟩
  | 124 => ⟨S16x8, .i32⟩
  | 125 => ⟨S16x8, .i32⟩
  | 126 => ⟨S_, .i32⟩
  | 127 => ⟨S16x8, .i32⟩
  | _ => ⟨S4096x4096, .bf16⟩

abbrev hbmTy0_1 (i : Nat) : BufTy := match i % 128 with
  | 0 => ⟨S16x8, .i32⟩
  | 1 => ⟨S_, .i32⟩
  | 2 => ⟨S16x8, .i32⟩
  | 3 => ⟨S16x8, .i1⟩
  | 4 => ⟨S_, .i32⟩
  | 5 => ⟨S16x8, .i32⟩
  | 6 => ⟨S16x8, .i32⟩
  | 7 => ⟨S16x8, .i32⟩
  | 8 => ⟨S16x8x1, .i32⟩
  | 9 => ⟨S1, .i32⟩
  | 10 => ⟨S_, .i32⟩
  | 11 => ⟨S16x8x1, .i32⟩
  | 12 => ⟨S16x8x1, .i1⟩
  | 13 => ⟨S1x1x1, .i32⟩
  | 14 => ⟨S16x8x1, .i32⟩
  | 15 => ⟨S16x8x1, .i1⟩
  | 16 => ⟨S16x8x1, .i1⟩
  | 17 => ⟨S_, .i1⟩
  | 18 => ⟨S16x8, .i1⟩
  | 19 => ⟨S16x8x8x64x64, .f32⟩
  | 20 => ⟨S16x8x8x64x64, .i1⟩
  | 21 => ⟨S_, .f32⟩
  | 22 => ⟨S16x8x8x64x64, .f32⟩
  | 23 => ⟨S16x8x8x64x64, .f32⟩
  | 24 => ⟨S16x8x64x8x64, .f32⟩
  | 25 => ⟨S16x4x8x64x8x64, .f32⟩
  | 26 => ⟨S_, .f32⟩
  | 27 => ⟨S16x4x8x64x8x64, .f32⟩
  | 28 => ⟨S16x4x8x64x8x64, .f32⟩
  | 29 => ⟨S16x1x8x64x8x64, .f32⟩
  | 30 => ⟨S16x4x8x64x8x64, .f32⟩
  | 31 => ⟨S16x4x8x64x8x64, .f32⟩
  | 32 => ⟨S1x1x64x1x64, .i1⟩
  | 33 => ⟨S_, .f32⟩
  | 34 => ⟨S_, .f32⟩
  | 35 => ⟨S4x8x64x8x64, .i1⟩
  | 36 => ⟨S4x8x64x8x64, .f32⟩
  | 37 => ⟨S16x4x8x64x8x64, .i1⟩
  | 38 => ⟨S16x4x8x64x8x64, .f32⟩
  | 39 => ⟨S16x4x8x64x8x64, .f32⟩
  | 40 => ⟨S16x4x8x64x512, .f32⟩
  | 41 => ⟨S4x8x16x64x512, .f32⟩
  | 42 => ⟨S_, .f32⟩
  | 43 => ⟨S4x8x16x64x512, .f32⟩
  | 44 => ⟨S4x8x16x64x512, .f32⟩
  | 45 => ⟨S16x4x8x64x512, .f32⟩
  | 46 => ⟨S16x4x8x64x1024, .f32⟩
  | 47 => ⟨S_, .f32⟩
  | 48 => ⟨S16x4x8x64, .f32⟩
  | 49 => ⟨S_, .f32⟩
  | 50 => ⟨S16x4x8x64, .f32⟩
  | 51 => ⟨S16x4x8x64, .f32⟩
  | 52 => ⟨S16x4x8x64x1, .f32⟩
  | 53 => ⟨S16x4x8x64x1024, .f32⟩
  | 54 => ⟨S16x4x8x64x1024, .f32⟩
  | 55 => ⟨S16x4x8x64x1024, .f32⟩
  | 56 => ⟨S_, .f32⟩
  | 57 => ⟨S16x4x8x64, .f32⟩
  | 58 => ⟨S16x4x8x64x1, .f32⟩
  | 59 => ⟨S16x4x8x64x1024, .f32⟩
  | 60 => ⟨S16x4x8x64x1024, .f32⟩
  | 61 => ⟨S16x4x8x64x512, .f32⟩
  | 62 => ⟨S16x4x8x64x8x64, .f32⟩
  | 63 => ⟨S16x4x8x64x512, .f32⟩
  | 64 => ⟨S16x4x8x128x64, .f32⟩
  | 65 => ⟨S16x4x64x8x128, .f32⟩
  | 66 => ⟨S4x8x128x16x64, .f32⟩
  | 67 => ⟨S16x4x64x8x128, .f32⟩
  | 68 => ⟨S16x4x64x8x128, .f32⟩
  | 69 => ⟨S4x16x64x8x128, .f32⟩
  | 70 => ⟨S4x1024x1024, .f32⟩
  | 71 => ⟨S4096x1024, .f32⟩
  | 72 => ⟨S4096x1024, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_c_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_c_10 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_c_15 : Ref sig .tc := ⟨.hbm, 93, rfl⟩
abbrev main_v58 : Ref sig .tc := ⟨.hbm, 94, rfl⟩
abbrev main_c_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_17 : Ref sig .tc := ⟨.hbm, 99, rfl⟩
abbrev main_v62 : Ref sig .tc := ⟨.hbm, 100, rfl⟩
abbrev main_v63 : Ref sig .tc := ⟨.hbm, 101, rfl⟩
abbrev main_c_18 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_19 : Ref sig .tc := ⟨.hbm, 106, rfl⟩
abbrev main_v67 : Ref sig .tc := ⟨.hbm, 107, rfl⟩
abbrev main_v68 : Ref sig .tc := ⟨.hbm, 108, rfl⟩
abbrev main_c_20 : Ref sig .tc := ⟨.hbm, 109, rfl⟩
abbrev main_v69 : Ref sig .tc := ⟨.hbm, 110, rfl⟩
abbrev main_c_21 : Ref sig .tc := ⟨.hbm, 111, rfl⟩
abbrev main_v70 : Ref sig .tc := ⟨.hbm, 112, rfl⟩
abbrev main_c_22 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_23 : Ref sig .tc := ⟨.hbm, 126, rfl⟩
abbrev main_v83 : Ref sig .tc := ⟨.hbm, 127, rfl⟩
abbrev main_v84 : Ref sig .tc := ⟨.hbm, 128, rfl⟩
abbrev main_call3_c : Ref sig .tc := ⟨.hbm, 129, rfl⟩
abbrev main_call3_v0 : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c_1 : Ref sig .tc := ⟨.hbm, 137, rfl⟩
abbrev main_call3_c_2 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_3 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_call3_cst : Ref sig .tc := ⟨.hbm, 149, rfl⟩
abbrev main_call3_v15 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_24 : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_cst_25 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_26 : Ref sig .tc := ⟨.hbm, 175, rfl⟩
abbrev main_v101 : Ref sig .tc := ⟨.hbm, 176, rfl⟩
abbrev main_cst_27 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_cst_28 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩

abbrev nD : Nat := 1
abbrev τ : Topo := Topo.v7x

variable {F : FTy → Type} [FloatOps F]
-- ==== Ffn.lean ====
abbrev S4x1024x2048 : Shape := ⟨3, ![4, 1024, 2048]⟩
abbrev S4x12288 : Shape := ⟨2, ![4, 12288]⟩
abbrev S1x2048 : Shape := ⟨2, ![1, 2048]⟩
abbrev S1x2048x5632 : Shape := ⟨3, ![1, 2048, 5632]⟩
abbrev S1x5632x2048 : Shape := ⟨3, ![1, 5632, 2048]⟩
abbrev S4096x2048 : Shape := ⟨2, ![4096, 2048]⟩
abbrev S4x6x2048 : Shape := ⟨3, ![4, 6, 2048]⟩
abbrev S2048 : Shape := ⟨1, ![2048]⟩
abbrev S2048x5632 : Shape := ⟨2, ![2048, 5632]⟩
abbrev S5632x2048 : Shape := ⟨2, ![5632, 2048]⟩
abbrev S128x2048 : Shape := ⟨2, ![128, 2048]⟩
abbrev S1024x2048 : Shape := ⟨2, ![1024, 2048]⟩
abbrev S1x6x2048 : Shape := ⟨3, ![1, 6, 2048]⟩
abbrev S2048x512 : Shape := ⟨2, ![2048, 512]⟩
abbrev S512x2048 : Shape := ⟨2, ![512, 2048]⟩
abbrev S1024x512 : Shape := ⟨2, ![1024, 512]⟩
abbrev S1x1x2048 : Shape := ⟨3, ![1, 1, 2048]⟩
abbrev S8x2048 : Shape := ⟨2, ![8, 2048]⟩
abbrev S8 : Shape := ⟨1, ![8]⟩
abbrev S8x1 : Shape := ⟨2, ![8, 1]⟩

abbrev nBuf : Space → Nat
  | .hbm => 19
  | .vmem => 16
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .bf16⟩
  | .hbm, ⟨2, _⟩ => ⟨S4x12288, .f32⟩
  | .hbm, ⟨3, _⟩ => ⟨S1x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S4096x2048, .f32⟩
  | .hbm, ⟨8, _⟩ => ⟨S4096x2048, .bf16⟩
  | .hbm, ⟨9, _⟩ => ⟨S4x6x2048, .f32⟩
  | .hbm, ⟨10, _⟩ => ⟨S2048, .f32⟩
  | .hbm, ⟨11, _⟩ => ⟨S1x2048, .f32⟩
  | .hbm, ⟨12, _⟩ => ⟨S2048x5632, .f32⟩
  | .hbm, ⟨13, _⟩ => ⟨S2048x5632, .bf16⟩
  | .hbm, ⟨14, _⟩ => ⟨S2048x5632, .f32⟩
  | .hbm, ⟨15, _⟩ => ⟨S2048x5632, .bf16⟩
  | .hbm, ⟨16, _⟩ => ⟨S5632x2048, .f32⟩
  | .hbm, ⟨17, _⟩ => ⟨S5632x2048, .bf16⟩
  | .hbm, ⟨18, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S1024x2048, .bf16⟩
  | .local _ .vmem, ⟨3, _⟩ => ⟨S1024x2048, .bf16⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let c7_i32 : BitVec 32 := 7#32
  let c0_i32 : BitVec 32 := 0#32
  let arg1 : BitVec 32 := BitVec.ofNat 32 (i 1).val
  let c3_i32 : BitVec 32 := 3#32
  let v0 : BitVec 32 := Scalar.subi arg1 c3_i32
  let v1 : BitVec 32 := Scalar.maxsi c0_i32 v0
  let v2 : BitVec 32 := Scalar.minsi c7_i32 v1
  let c128_i32 : BitVec 32 := 128#32
  let v3 : BitVec 32 := Scalar.muli v2 c128_i32
  v3
def k0_off1 (i : grid0.Coords) : Fin 2 → Nat :=
  let c7_i32 : BitVec 32 := 7#32
  let c0_i32 : BitVec 32 := 0#32
  let arg1 : BitVec 32 := BitVec.ofNat 32 (i 1).val
  let c3_i32 : BitVec 32 := 3#32
  let v0 : BitVec 32 := Scalar.subi arg1 c3_i32
  let v1 : BitVec 32 := Scalar.maxsi c0_i32 v0
  let v2 : BitVec 32 := Scalar.minsi c7_i32 v1
  let c128_i32 : BitVec 32 := 128#32
  let v3 : BitVec 32 := Scalar.muli v2 c128_i32
  let v4 : BitVec 32 := v3
  let v7 : Index := Scalar.indexCast v4
  let c0_1 : Index := 0#32
  ![v7.toNat, 0]
def k0_cond3 (i : grid0.Coords) : BitVec 1 :=
  let arg1 : BitVec 32 := BitVec.ofNat 32 (i 1).val
  let c10_i32 : BitVec 32 := 10#32
  let v15 : BitVec 1 := Scalar.cmpi .eq arg1 c10_i32
  let v16 : BitVec 32 := Scalar.extui v15
  let c0_i32_6 : BitVec 32 := 0#32
  let v17 : BitVec 1 := Scalar.cmpi .ne v16 c0_i32_6
  v17

@[reducible] def k0_t1_loop : Scf.Loop 32 :=
  let c0_i32_11 : BitVec 32 := 0#32
  let c128_i32_12 : BitVec 32 := 128#32
  let v23 : BitVec 32 := Scalar.addi c0_i32_11 c128_i32_12
  let c1_i32 : BitVec 32 := 1#32
  ⟨c0_i32_11, v23, c1_i32⟩
def k0_mult2 (k0_t1 : Fin k0_t1_loop.trips) : BitVec 32 :=
  let c0_i32_11 : BitVec 32 := 0#32
  let c1_i32 : BitVec 32 := 1#32
  let arg11 : BitVec 32 := Scf.iv c0_i32_11 c1_i32 k0_t1
  let c8_i32 : BitVec 32 := 8#32
  let v24 : BitVec 32 := Scalar.muli arg11 c8_i32
  v24
def k0_off2 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c8_i32 : BitVec 32 := 8#32
  let v24 : BitVec 32 := Scalar.muli arg11 c8_i32
  let v25 : BitVec 32 := v24
  let v26 : Index := Scalar.indexCast v25
  let c0_14 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c3_i32 : BitVec 32 := 3#32
  let v1 : BitVec 32 := Scalar.subi arg1 c3_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S4x1024x2048 : Shape := ⟨3, ![4, 1024, 2048]⟩
abbrev S4x12288 : Shape := ⟨2, ![4, 12288]⟩
abbrev S1x2048 : Shape := ⟨2, ![1, 2048]⟩
abbrev S1x2048x5632 : Shape := ⟨3, ![1, 2048, 5632]⟩
abbrev S1x5632x2048 : Shape := ⟨3, ![1, 5632, 2048]⟩
abbrev S4x1x12288 : Shape := ⟨3, ![4, 1, 12288]⟩
abbrev S4x1x2048 : Shape := ⟨3, ![4, 1, 2048]⟩
abbrev S2048x5632 : Shape := ⟨2, ![2048, 5632]⟩
abbrev S4x1024x5632 : Shape := ⟨3, ![4, 1024, 5632]⟩
abbrev S_ : Shape := ⟨0, ![]⟩
abbrev S5632x2048 : Shape := ⟨2, ![5632, 2048]⟩
abbrev S2048 : Shape := ⟨1, ![2048]⟩
abbrev S4x1024 : Shape := ⟨2, ![4, 1024]⟩
abbrev S4x1024x1 : Shape := ⟨3, ![4, 1024, 1]⟩
abbrev S1x1x2048 : Shape := ⟨3, ![1, 1, 2048]⟩
abbrev S4096x2048 : Shape := ⟨2, ![4096, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .bf16⟩
  | .hbm, ⟨2, _⟩ => ⟨S4x12288, .f32⟩
  | .hbm, ⟨3, _⟩ => ⟨S1x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1024x2048, .f32⟩
  | .hbm, ⟨15, _⟩ => ⟨S2048x5632, .f32⟩
  | .hbm, ⟨16, _⟩ => ⟨S4x1024x5632, .f32⟩
  | .hbm, ⟨17, _⟩ => ⟨S4x1024x5632, .f32⟩
  | .hbm, ⟨18, _⟩ => ⟨S4x1024x5632, .f32⟩
  | .hbm, ⟨19, _⟩ => ⟨S_, .f32⟩
  | .hbm, ⟨20, _⟩ => ⟨S4x1024x5632, .f32⟩
  | .hbm, ⟨21, _⟩ => ⟨S4x1024x5632, .f32⟩
  | .hbm, ⟨22, _⟩ => ⟨S_, .f32⟩
  | .hbm, ⟨23, _⟩ => ⟨S4x1024x5632, .f32⟩
  | .hbm, ⟨24, _⟩ => ⟨S4x1024x5632, .f32⟩
  | .hbm, ⟨25, _⟩ => ⟨S4x1024x5632, .f32⟩
  | .hbm, ⟨26, _⟩ => ⟨S2048x5632, .f32⟩
  | .hbm, ⟨27, _⟩ => ⟨S4x1024x5632, .f32⟩
  | .hbm, ⟨28, _⟩ => ⟨S4x1024x5632, .f32⟩
  | .hbm, ⟨29, _⟩ => ⟨S5632x2048, .f32⟩
  | .hbm, ⟨30, _⟩ => ⟨S4x1024x2048, .f32⟩
  | .hbm, ⟨31, _⟩ => ⟨S2048, .f32⟩
  | .hbm, ⟨32, _⟩ => ⟨S4x1024x2048, .f32⟩
  | .hbm, ⟨33, _⟩ => ⟨S_, .f32⟩
  | .hbm, ⟨34, _⟩ => ⟨S4x1024, .f32⟩
  | .hbm, ⟨35, _⟩ => ⟨S4x1024x1, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024x1, .f32⟩
  | .hbm, ⟨43, _⟩ => ⟨S4x1024x2048, .f32⟩
  | .hbm, ⟨44, _⟩ => ⟨S4x1024x2048, .f32⟩
  | .hbm, ⟨45, _⟩ => ⟨S1x1x2048, .f32⟩
  | .hbm, ⟨46, _⟩ => ⟨S4x1024x2048, .f32⟩
  | .hbm, ⟨47, _⟩ => ⟨S4x1024x2048, .f32⟩
  | .hbm, ⟨48, _⟩ => ⟨S4x1024x2048, .f32⟩
  | .hbm, ⟨49, _⟩ => ⟨S4x1024x2048, .f32⟩
  | .hbm, ⟨50, _⟩ => ⟨S4x1024x2048, .f32⟩
  | .hbm, ⟨51, _⟩ => ⟨S4096x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Gates.lean ====
abbrev S16x256x2048 : Shape := ⟨3, ![16, 256, 2048]⟩
abbrev S4x1024x2048 : Shape := ⟨3, ![4, 1024, 2048]⟩
abbrev S1x1024 : Shape := ⟨2, ![1, 1024]⟩
abbrev S1x2048x9216 : Shape := ⟨3, ![1, 2048, 9216]⟩
abbrev S4096x2048 : Shape := ⟨2, ![4096, 2048]⟩
abbrev S1024 : Shape := ⟨1, ![1024]⟩
abbrev S2048x9216 : Shape := ⟨2, ![2048, 9216]⟩
abbrev S2048x5120 : Shape := ⟨2, ![2048, 5120]⟩
abbrev S8192x5120 : Shape := ⟨2, ![8192, 5120]⟩
abbrev S512x2048 : Shape := ⟨2, ![512, 2048]⟩
abbrev S512x5120 : Shape := ⟨2, ![512, 5120]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S16x256x2048, .bf16⟩
  | .hbm, ⟨1, _⟩ => ⟨S4x1024x2048, .bf16⟩
  | .hbm, ⟨2, _⟩ => ⟨S1x1024, .f32⟩
  | .hbm, ⟨3, _⟩ => ⟨S1x2048x9216, .f32⟩
  | .hbm, ⟨4, _⟩ => ⟨S4096x2048, .bf16⟩
  | .hbm, ⟨5, _⟩ => ⟨S4096x2048, .bf16⟩
  | .hbm, ⟨6, _⟩ => ⟨S1024, .f32⟩
  | .hbm, ⟨7, _⟩ => ⟨S1x1024, .f32⟩
  | .hbm, ⟨8, _⟩ => ⟨S2048x9216, .f32⟩
  | .hbm, ⟨9, _⟩ => ⟨S2048x5120, .f32⟩
  | .hbm, ⟨10, _⟩ => ⟨S2048x5120, .bf16⟩
  | .hbm, ⟨11, _⟩ => ⟨S8192x5120, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1024, .f32⟩
  | .local _ .vmem, ⟨5, _⟩ => ⟨S2048x5120, .bf16⟩
  | .local _ .vmem, ⟨6, _⟩ => ⟨S512x5120, .bf16⟩
  | .local _ .vmem, ⟨7, _⟩ => ⟨S512x5120, .bf16⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S16x256x2048 : Shape := ⟨3, ![16, 256, 2048]⟩
abbrev S4x1024x2048 : Shape := ⟨3, ![4, 1024, 2048]⟩
abbrev S1x1024 : Shape := ⟨2, ![1, 1024]⟩
abbrev S1x2048x9216 : Shape := ⟨3, ![1, 2048, 9216]⟩
abbrev S2048x9216 : Shape := ⟨2, ![2048, 9216]⟩
abbrev S1024 : Shape := ⟨1, ![1024]⟩
abbrev S16x256x9216 : Shape := ⟨3, ![16, 256, 9216]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5120 : Shape := ⟨3, ![16, 256, 5120]⟩
abbrev S4096x5120 : Shape := ⟨2, ![4096, 5120]⟩
abbrev S4x1024x9216 : Shape := ⟨3, ![4, 1024, 9216]⟩
abbrev S4x1024x1024 : Shape := ⟨3, ![4, 1024, 1024]⟩
abbrev S4x1024 : Shape := ⟨2, ![4, 1024]⟩
abbrev S4x1024x1 : Shape := ⟨3, ![4, 1024, 1]⟩
abbrev S4x1024x5120 : Shape := ⟨3, ![4, 1024, 5120]⟩
abbrev S8192x5120 : Shape := ⟨2, ![8192, 5120]⟩

abbrev nBuf : Space → Nat
  | .hbm => 146
  | .vmem => 0
  | .smem => 0
  | _ => 0

abbrev hbmTy0_0 (i : Nat) : BufTy := match i % 128 with
  | 0 => ⟨S16x256x2048, .bf16⟩
  | 1 => ⟨S4x1024x2048, .bf16⟩
  | 2 => ⟨S1x1024, .f32⟩
  | 3 => ⟨S1x2048x9216, .f32⟩
  | 4 => ⟨S2048x9216, .f32⟩
  | 5 => ⟨S1024, .f32⟩
  | 6 => ⟨S16x256x2048, .f32⟩
  | 7 => ⟨S16x256x9216, .f32⟩
  | 8 => ⟨S16x256x1024, .f32⟩
  | 9 => ⟨S16x256x1024, .f32⟩
  | 10 => ⟨S16x256x1024, .f32⟩
  | 11 => ⟨S16x256x1024, .f32⟩
  | 12 => ⟨S16x256x1024, .f32⟩
  | 13 => ⟨S16x256x2048, .f32⟩
  | 14 => ⟨S16x256x2048, .f32⟩
  | 15 => ⟨S16x256x2048, .f32⟩
  | 16 => ⟨S16x256x2048, .f32⟩
  | 17 => ⟨S_, .f32⟩
  | 18 => ⟨S16x256x2048, .f32⟩
  | 19 => ⟨S16x256x2048, .f32⟩
  | 20 => ⟨S_, .f32⟩
  | 21 => ⟨S16x256x2048, .f32⟩
  | 22 => ⟨S16x256x2048, .f32⟩
  | 23 => ⟨S16x256x2048, .f32⟩
  | 24 => ⟨S16x256x2048, .f32⟩
  | 25 => ⟨S_, .f32⟩
  | 26 => ⟨S16x256x2048, .f32⟩
  | 27 => ⟨S16x256x2048, .f32⟩
  | 28 => ⟨S_, .f32⟩
  | 29 => ⟨S16x256x2048, .f32⟩
  | 30 => ⟨S16x256x2048, .f32⟩
  | 31 => ⟨S16x256x1024, .f32⟩
  | 32 => ⟨S16x256x1024, .f32⟩
  | 33 => ⟨S_, .f32⟩
  | 34 => ⟨S16x256x1024, .f32⟩
  | 35 => ⟨S16x256x1024, .f32⟩
  | 36 => ⟨S16x256x1024, .f32⟩
  | 37 => ⟨S_, .f32⟩
  | 38 => ⟨S16x256x1024, .f32⟩
  | 39 => ⟨S16x256x1024, .f32⟩
  | 40 => ⟨S16x256x1024, .f32⟩
  | 41 => ⟨S_, .f32⟩
  | 42 => ⟨S16x256x1024, .f32⟩
  | 43 => ⟨S16x256x1024, .f32⟩
  | 44 => ⟨S_, .f32⟩
  | 45 => ⟨S16x256x1024, .f32⟩
  | 46 => ⟨S16x256x1024, .f32⟩
  | 47 => ⟨S16x256x1024, .f32⟩
  | 48 => ⟨S_, .f32⟩
  | 49 => ⟨S16x256, .f32⟩
  | 50 => ⟨S16x256x1, .f32⟩
  | 51 => ⟨S_, .f32⟩
  | 52 => ⟨S16x256x1, .f32⟩
  | 53 => ⟨S16x256x1, .f32⟩
  | 54 => ⟨S16x256x1024, .f32⟩
  | 55 => ⟨S16x256x1024, .f32⟩
  | 56 => ⟨S16x256x1024, .f32⟩
  | 57 => ⟨S_, .f32⟩
  | 58 => ⟨S16x256, .f32⟩
  | 59 => ⟨S16x256x1, .f32⟩
  | 60 => ⟨S_, .f32⟩
  | 61 => ⟨S16x256x1, .f32⟩
  | 62 => ⟨S16x256x1, .f32⟩
  | 63 => ⟨S_, .f32⟩
  | 64 => ⟨S16x256x1, .f32⟩
  | 65 => ⟨S16x256x1, .f32⟩
  | 66 => ⟨S16x256x1, .f32⟩
  | 67 => ⟨S16x256x1024, .f32⟩
  | 68 => ⟨S16x256x1024, .f32⟩
  | 69 => ⟨S1x1x1024, .f32⟩
  | 70 => ⟨S16x256x1024, .f32⟩
  | 71 => ⟨S16x256x1024, .f32⟩
  | 72 => ⟨S16x256x5120, .f32⟩
  | 73 => ⟨S4096x5120, .f32⟩
  | 74 => ⟨S2048x9216, .f32⟩
  | 75 => ⟨S1024, .f32⟩
  | 76 => ⟨S4x1024x2048, .f32⟩
  | 77 => ⟨S4x1024x9216, .f32⟩
  | 78 => ⟨S4x1024x1024, .f32⟩
  | 79 => ⟨S4x1024x1024, .f32⟩
  | 80 => ⟨S4x1024x1024, .f32⟩
  | 81 => ⟨S4x1024x1024, .f32⟩
  | 82 => ⟨S4x1024x1024, .f32⟩
  | 83 => ⟨S4x1024x2048, .f32⟩
  | 84 => ⟨S4x1024x2048, .f32⟩
  | 85 => ⟨S4x1024x2048, .f32⟩
  | 86 => ⟨S4x1024x2048, .f32⟩
  | 87 => ⟨S_, .f32⟩
  | 88 => ⟨S4x1024x2048, .f32⟩
  | 89 => ⟨S4x1024x2048, .f32⟩
  | 90 => ⟨S_, .f32⟩
  | 91 => ⟨S4x1024x2048, .f32⟩
  | 92 => ⟨S4x1024x2048, .f32⟩
  | 93 => ⟨S4x1024x2048, .f32⟩
  | 94 => ⟨S4x1024x2048, .f32⟩
  | 95 => ⟨S_, .f32⟩
  | 96 => ⟨S4x1024x2048, .f32⟩
  | 97 => ⟨S4x1024x2048, .f32⟩
  | 98 => ⟨S_, .f32⟩
  | 99 => ⟨S4x1024x2048, .f32⟩
  | 100 => ⟨S4x1024x2048, .f32⟩
  | 101 => ⟨S4x1024x1024, .f32⟩
  | 102 => ⟨S4x1024x1024, .f32⟩
  | 103 => ⟨S_, .f32⟩
  | 104 => ⟨S4x1024x1024, .f32⟩
  | 105 => ⟨S4x1024x1024, .f32⟩
  | 106 => ⟨S4x1024x1024, .f32⟩
  | 107 => ⟨S_, .f32⟩
  | 108 => ⟨S4x1024x1024, .f32⟩
  | 109 => ⟨S4x1024x1024, .f32⟩
  | 110 => ⟨S4x1024x1024, .f32⟩
  | 111 => ⟨S_, .f32⟩
  | 112 => ⟨S4x1024x1024, .f32⟩
  | 113 => ⟨S4x1024x1024, .f32⟩
  | 114 => ⟨S_, .f32⟩
  | 115 => ⟨S4x1024x1024, .f32⟩
  | 116 => ⟨S4x1024x1024, .f32⟩
  | 117 => ⟨S4x1024x1024, .f32⟩
  | 118 => ⟨S_, .f32⟩
  | 119 => ⟨S4x1024, .f32⟩
  | 120 => ⟨S4x1024x1, .f32⟩
  | 121 => ⟨S_, .f32⟩
  | 122 => ⟨S4x1024x1, .f32⟩
  | 123 => ⟨S4x1024x1, .f32⟩
  | 124 => ⟨S4x1024x1024, .f32⟩
  | 125 => ⟨S4x1024x1024, .f32⟩
  | 126 => ⟨S4x1024x1024, .f32⟩
  | 127 => ⟨S_, .f32⟩
  | _ => ⟨S16x256x2048, .bf16⟩

abbrev hbmTy0_1 (i : Nat) : BufTy := match i % 128 with
  | 0 => ⟨S4x1024, .f32⟩
  | 1 => ⟨S4x1024x1, .f32⟩
  | 2 => ⟨S_, .f32⟩
  | 3 => ⟨S4x1024x1, .f32⟩
  | 4 => ⟨S4x1024x1, .f32⟩
  | 5 => ⟨S_, .f32⟩
  | 6 => ⟨S4x1024x1, .f32⟩
  | 7 => ⟨S4x1024x1, .f32⟩
  | 8 => ⟨S4x1024x1, .f32⟩
  | 9 => ⟨S4x1024x1024, .f32⟩
  | 10 => ⟨S4x1024x1024, .f32⟩
  | 11 => ⟨S1x1x1024, .f32⟩
  | 12 => ⟨S4x1024x1024, .f32⟩
  | 13 => ⟨S4x1024x1024, .f32⟩
  | 14 => ⟨S4x1024x5120, .f32⟩
  | 15 => ⟨S4096x5120, .f32⟩
  | 16 => ⟨S8192x5120, .f32⟩
  | 17 => ⟨S8192x5120, .bf16⟩
  | _ => ⟨S16x256x2048, .bf16⟩

abbrev hbmTy (i : Nat) : BufTy := match i / 128 with
  | 0 => hbmTy0_0 i
  | 1 => hbmTy0_1 i
  | _ => ⟨S16x256x2048, .bf16⟩

abbrev bufTy : (tb : Table) → Fin (tcTables nBuf tb) → BufTy
  | .hbm, ⟨i, _⟩ => hbmTy i
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_cst_15 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_17 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩

abbrev nD : Nat := 1
abbrev τ : Topo := Topo.v7x

variable {F : FTy → Type} [FloatOps F]
-- ==== Qkvu.lean ====
abbrev S4x1024x2048 : Shape := ⟨3, ![4, 1024, 2048]⟩
abbrev S4x12288 : Shape := ⟨2, ![4, 12288]⟩
abbrev S1x2048 : Shape := ⟨2, ![1, 2048]⟩
abbrev S1x2048x9216 : Shape := ⟨3, ![1, 2048, 9216]⟩
abbrev S4096x2048 : Shape := ⟨2, ![4096, 2048]⟩
abbrev S4x6x2048 : Shape := ⟨3, ![4, 6, 2048]⟩
abbrev S2048 : Shape := ⟨1, ![2048]⟩
abbrev S2048x9216 : Shape := ⟨2, ![2048, 9216]⟩
abbrev S2048x4096 : Shape := ⟨2, ![2048, 4096]⟩
abbrev S4096x4096 : Shape := ⟨2, ![4096, 4096]⟩
abbrev S512x2048 : Shape := ⟨2, ![512, 2048]⟩
abbrev S1x6x2048 : Shape := ⟨3, ![1, 6, 2048]⟩
abbrev S512x4096 : Shape := ⟨2, ![512, 4096]⟩
abbrev S512 : Shape := ⟨1, ![512]⟩
abbrev S512x1 : Shape := ⟨2, ![512, 1]⟩
abbrev S1x1x2048 : Shape := ⟨3, ![1, 1, 2048]⟩
abbrev S2048x1024 : Shape := ⟨2, ![2048, 1024]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x1024x2048, .f32⟩
  | .hbm, ⟨1, _⟩ => ⟨S4x12288, .f32⟩
  | .hbm, ⟨2, _⟩ => ⟨S1x2048, .f32⟩
  | .hbm, ⟨3, _⟩ => ⟨S1x2048x9216, .f32⟩
  | .hbm, ⟨4, _⟩ => ⟨S4096x2048, .f32⟩
  | .hbm, ⟨5, _⟩ => ⟨S4x6x2048, .f32⟩
  | .hbm, ⟨6, _⟩ => ⟨S2048, .f32⟩
  | .hbm, ⟨7, _⟩ => ⟨S1x2048, .f32⟩
  | .hbm, ⟨8, _⟩ => ⟨S2048x9216, .f32⟩
  | .hbm, ⟨9, _⟩ => ⟨S2048x4096, .f32⟩
  | .hbm, ⟨10, _⟩ => ⟨S2048x4096, .bf16⟩
  | .hbm, ⟨11, _⟩ => ⟨S4096x2048, .bf16⟩
  | .hbm, ⟨12, _⟩ => ⟨S4096x4096, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4096, .bf16⟩
  | .local _ .vmem, ⟨6, _⟩ => ⟨S512x2048, .bf16⟩
  | .local _ .vmem, ⟨7, _⟩ => ⟨S512x2048, .bf16⟩
  | .local _ .vmem, ⟨8, _⟩ => ⟨S512x4096, .bf16⟩
  | .local _ .vmem, ⟨9, _⟩ => ⟨S512x4096, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvuReferenceIdeal.lean ====
abbrev S4x1024x2048 : Shape := ⟨3, ![4, 1024, 2048]⟩
abbrev S4x12288 : Shape := ⟨2, ![4, 12288]⟩
abbrev S1x2048 : Shape := ⟨2, ![1, 2048]⟩
abbrev S1x2048x9216 : Shape := ⟨3, ![1, 2048, 9216]⟩
abbrev S4x1x12288 : Shape := ⟨3, ![4, 1, 12288]⟩
abbrev S4x1x2048 : Shape := ⟨3, ![4, 1, 2048]⟩
abbrev S2048 : Shape := ⟨1, ![2048]⟩
abbrev S_ : Shape := ⟨0, ![]⟩
abbrev S4x1024 : Shape := ⟨2, ![4, 1024]⟩
abbrev S4x1024x1 : Shape := ⟨3, ![4, 1024, 1]⟩
abbrev S1x1x2048 : Shape := ⟨3, ![1, 1, 2048]⟩
abbrev S2048x9216 : Shape := ⟨2, ![2048, 9216]⟩
abbrev S4x1024x9216 : Shape := ⟨3, ![4, 1024, 9216]⟩
abbrev S4x1024x1024 : Shape := ⟨3, ![4, 1024, 1024]⟩
abbrev S4x1024x4096 : Shape := ⟨3, ![4, 1024, 4096]⟩
abbrev S4096x2048 : Shape := ⟨2, ![4096, 2048]⟩
abbrev S4096x4096 : Shape := ⟨2, ![4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x12288, .f32⟩
  | .hbm, ⟨2, _⟩ => ⟨S1x2048, .f32⟩
  | .hbm, ⟨3, _⟩ => ⟨S1x2048x9216, .f32⟩
  | .hbm, ⟨4, _⟩ => ⟨S4x1x12288, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S2048, .f32⟩
  | .hbm, ⟨12, _⟩ => ⟨S4x1024x2048, .f32⟩
  | .hbm, ⟨13, _⟩ => ⟨S_, .f32⟩
  | .hbm, ⟨14, _⟩ => ⟨S4x1024, .f32⟩
  | .hbm, ⟨15, _⟩ => ⟨S4x1024x1, .f32⟩
  | .hbm, ⟨16, _⟩ => ⟨S_, .f32⟩
  | .hbm, ⟨17, _⟩ => ⟨S4x1024x1, .f32⟩
  | .hbm, ⟨18, _⟩ => ⟨S4x1024x1, .f32⟩
  | .hbm, ⟨19, _⟩ => ⟨S_, .f32⟩
  | .hbm, ⟨20, _⟩ => ⟨S4x1024x1, .f32⟩
  | .hbm, ⟨21, _⟩ => ⟨S4x1024x1, .f32⟩
  | .hbm, ⟨22, _⟩ => ⟨S4x1024x1, .f32⟩
  | .hbm, ⟨23, _⟩ => ⟨S4x1024x2048, .f32⟩
  | .hbm, ⟨24, _⟩ => ⟨S4x1024x2048, .f32⟩
  | .hbm, ⟨25, _⟩ => ⟨S1x1x2048, .f32⟩
  | .hbm, ⟨26, _⟩ => ⟨S4x1024x2048, .f32⟩
  | .hbm, ⟨27, _⟩ => ⟨S4x1024x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x1024x2048, .f32⟩
  | .hbm, ⟨32, _⟩ => ⟨S4x1024x2048, .f32⟩
  | .hbm, ⟨33, _⟩ => ⟨S4x1024x2048, .f32⟩
  | .hbm, ⟨34, _⟩ => ⟨S4x1024x2048, .f32⟩
  | .hbm, ⟨35, _⟩ => ⟨S2048x9216, .f32⟩
  | .hbm, ⟨36, _⟩ => ⟨S4x1024x9216, .f32⟩
  | .hbm, ⟨37, _⟩ => ⟨S4x1024x1024, .f32⟩
  | .hbm, ⟨38, _⟩ => ⟨S4x1024x1024, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S4x1024x2048, .f32⟩
  | .hbm, ⟨43, _⟩ => ⟨S4x1024x2048, .f32⟩
  | .hbm, ⟨44, _⟩ => ⟨S4x1024x1024, .f32⟩
  | .hbm, ⟨45, _⟩ => ⟨S4x1024x1024, .f32⟩
  | .hbm, ⟨46, _⟩ => ⟨S_, .f32⟩
  | .hbm, ⟨47, _⟩ => ⟨S4x1024x1024, .f32⟩
  | .hbm, ⟨48, _⟩ => ⟨S4x1024x1024, .f32⟩
  | .hbm, ⟨49, _⟩ => ⟨S4x1024x1024, .f32⟩
  | .hbm, ⟨50, _⟩ => ⟨S_, .f32⟩
  | .hbm, ⟨51, _⟩ => ⟨S4x1024x1024, .f32⟩
  | .hbm, ⟨52, _⟩ => ⟨S4x1024x1024, .f32⟩
  | .hbm, ⟨53, _⟩ => ⟨S4x1024x1024, .f32⟩
  | .hbm, ⟨54, _⟩ => ⟨S_, .f32⟩
  | .hbm, ⟨55, _⟩ => ⟨S4x1024x1024, .f32⟩
  | .hbm, ⟨56, _⟩ => ⟨S4x1024x1024, .f32⟩
  | .hbm, ⟨57, _⟩ => ⟨S_, .f32⟩
  | .hbm, ⟨58, _⟩ => ⟨S4x1024x1024, .f32⟩
  | .hbm, ⟨59, _⟩ => ⟨S4x1024x1024, .f32⟩
  | .hbm, ⟨60, _⟩ => ⟨S4x1024x1024, .f32⟩
  | .hbm, ⟨61, _⟩ => ⟨S4x1024x4096, .f32⟩
  | .hbm, ⟨62, _⟩ => ⟨S4096x2048, .f32⟩
  | .hbm, ⟨63, _⟩ => ⟨S4096x2048, .bf16⟩
  | .hbm, ⟨64, _⟩ => ⟨S4096x4096, .f32⟩
  | .hbm, ⟨65, _⟩ => ⟨S4096x4096, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Merge.lean ====
abbrev S4x1024x2048 : Shape := ⟨3, ![4, 1024, 2048]⟩
abbrev S4x12288 : Shape := ⟨2, ![4, 12288]⟩
abbrev S4096x1024 : Shape := ⟨2, ![4096, 1024]⟩
abbrev S4096x4096 : Shape := ⟨2, ![4096, 4096]⟩
abbrev S8192x5120 : Shape := ⟨2, ![8192, 5120]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S4096x2048 : Shape := ⟨2, ![4096, 2048]⟩
abbrev S4x6x2048 : Shape := ⟨3, ![4, 6, 2048]⟩
abbrev S8x128x128 : Shape := ⟨3, ![8, 128, 128]⟩
abbrev S8x128 : Shape := ⟨2, ![8, 128]⟩
abbrev S128x8 : Shape := ⟨2, ![128, 8]⟩
abbrev S1024x2048 : Shape := ⟨2, ![1024, 2048]⟩
abbrev S2048x2048 : Shape := ⟨2, ![2048, 2048]⟩
abbrev S2048 : Shape := ⟨1, ![2048]⟩
abbrev S512x2048 : Shape := ⟨2, ![512, 2048]⟩
abbrev S1x6x2048 : Shape := ⟨3, ![1, 6, 2048]⟩
abbrev S512x1024 : Shape := ⟨2, ![512, 1024]⟩
abbrev S512x5120 : Shape := ⟨2, ![512, 5120]⟩
abbrev S1x128x128 : Shape := ⟨3, ![1, 128, 128]⟩
abbrev S128x128 : Shape := ⟨2, ![128, 128]⟩
abbrev S128x1 : Shape := ⟨2, ![128, 1]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 30
  | .vmem => 22
  | .smem => 0
  | _ => 0

abbrev bufTy : (tb : Table) → Fin (tcTables nBuf tb) → BufTy
  | .hbm, ⟨0, _⟩ => ⟨S4x1024x2048, .f32⟩
  | .hbm, ⟨1, _⟩ => ⟨S4x12288, .f32⟩
  | .hbm, ⟨2, _⟩ => ⟨S4096x1024, .bf16⟩
  | .hbm, ⟨3, _⟩ => ⟨S4096x4096, .bf16⟩
  | .hbm, ⟨4, _⟩ => ⟨S8192x5120, .bf16⟩
  | .hbm, ⟨5, _⟩ => ⟨S1x8x128x128, .f32⟩
  | .hbm, ⟨6, _⟩ => ⟨S1x8x128, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4x6x2048, .f32⟩
  | .hbm, ⟨14, _⟩ => ⟨S8x128x128, .f32⟩
  | .hbm, ⟨15, _⟩ => ⟨S8x128x128, .bf16⟩
  | .hbm, ⟨16, _⟩ => ⟨S8x128, .f32⟩
  | .hbm, ⟨17, _⟩ => ⟨S128x8, .f32⟩
  | .hbm, ⟨18, _⟩ => ⟨S1024x2048, .f32⟩
  | .hbm, ⟨19, _⟩ => ⟨S1024x2048, .bf16⟩
  | .hbm, ⟨20, _⟩ => ⟨S1024x2048, .f32⟩
  | .hbm, ⟨21, _⟩ => ⟨S1024x2048, .bf16⟩
  | .hbm, ⟨22, _⟩ => ⟨S2048x2048, .f32⟩
  | .hbm, ⟨23, _⟩ => ⟨S2048x2048, .bf16⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x5120, .bf16⟩
  | .local _ .vmem, ⟨9, _⟩ => ⟨S512x5120, .bf16⟩
  | .local _ .vmem, ⟨10, _⟩ => ⟨S8x128x128, .bf16⟩
  | .local _ .vmem, ⟨11, _⟩ => ⟨S128x8, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S4x1024x2048 : Shape := ⟨3, ![4, 1024, 2048]⟩
abbrev S4x12288 : Shape := ⟨2, ![4, 12288]⟩
abbrev S4096x1024 : Shape := ⟨2, ![4096, 1024]⟩
abbrev S4096x4096 : Shape := ⟨2, ![4096, 4096]⟩
abbrev S8192x5120 : Shape := ⟨2, ![8192, 5120]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S4x1x12288 : Shape := ⟨3, ![4, 1, 12288]⟩
abbrev S4x1x2048 : Shape := ⟨3, ![4, 1, 2048]⟩
abbrev S4x1024x1024 : Shape := ⟨3, ![4, 1024, 1024]⟩
abbrev S4096x5120 : Shape := ⟨2, ![4096, 5120]⟩
abbrev S4x1024x5120 : Shape := ⟨3, ![4, 1024, 5120]⟩
abbrev S8x128x128 : Shape := ⟨3, ![8, 128, 128]⟩
abbrev S8x128 : Shape := ⟨2, ![8, 128]⟩
abbrev S4x8x128x8x128 : Shape := ⟨5, ![4, 8, 128, 8, 128]⟩
abbrev S8x4x8x128x128 : Shape := ⟨5, ![8, 4, 8, 128, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S4x1024 : Shape := ⟨2, ![4, 1024]⟩
abbrev S4x1024x1 : Shape := ⟨3, ![4, 1024, 1]⟩
abbrev S1x1x2048 : Shape := ⟨3, ![1, 1, 2048]⟩
abbrev S4096x2048 : Shape := ⟨2, ![4096, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x12288, .f32⟩
  | .hbm, ⟨2, _⟩ => ⟨S4096x1024, .bf16⟩
  | .hbm, ⟨3, _⟩ => ⟨S4096x4096, .bf16⟩
  | .hbm, ⟨4, _⟩ => ⟨S8192x5120, .bf16⟩
  | .hbm, ⟨5, _⟩ => ⟨S1x8x128x128, .f32⟩
  | .hbm, ⟨6, _⟩ => ⟨S1x8x128, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S4x1x12288, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S4096x1024, .bf16⟩
  | .hbm, ⟨20, _⟩ => ⟨S4096x1024, .f32⟩
  | .hbm, ⟨21, _⟩ => ⟨S4x1024x1024, .f32⟩
  | .hbm, ⟨22, _⟩ => ⟨S4096x5120, .bf16⟩
  | .hbm, ⟨23, _⟩ => ⟨S4096x5120, .f32⟩
  | .hbm, ⟨24, _⟩ => ⟨S4x1024x5120, .f32⟩
  | .hbm, ⟨25, _⟩ => ⟨S4x1024x2048, .f32⟩
  | .hbm, ⟨26, _⟩ => ⟨S4x1024x2048, .f32⟩
  | .hbm, ⟨27, _⟩ => ⟨S4x1024x1024, .f32⟩
  | .hbm, ⟨28, _⟩ => ⟨S8x128x128, .f32⟩
  | .hbm, ⟨29, _⟩ => ⟨S8x128, .f32⟩
  | .hbm, ⟨30, _⟩ => ⟨S4x8x128x8x128, .f32⟩
  | .hbm, ⟨31, _⟩ => ⟨S8x4x8x128x128, .f32⟩
  | .hbm, ⟨32, _⟩ => ⟨S4x8x128x8x128, .f32⟩
  | .hbm, ⟨33, _⟩ => ⟨S128x8, .f32⟩
  | .hbm, ⟨34, _⟩ => ⟨S1x1x128x8x1, .f32⟩
  | .hbm, ⟨35, _⟩ => ⟨S4x8x128x8x128, .f32⟩
  | .hbm, ⟨36, _⟩ => ⟨S4x8x128x8x128, .f32⟩
  | .hbm, ⟨37, _⟩ => ⟨S4x1024x1024, .f32⟩
  | .hbm, ⟨38, _⟩ => ⟨S4x1024x1024, .f32⟩
  | .hbm, ⟨39, _⟩ => ⟨S4096x1024, .f32⟩
  | .hbm, ⟨40, _⟩ => ⟨S4x1024x1024, .f32⟩
  | .hbm, ⟨41, _⟩ => ⟨S1024x2048, .f32⟩
  | .hbm, ⟨42, _⟩ => ⟨S4x1024x2048, .f32⟩
  | .hbm, ⟨43, _⟩ => ⟨S4x1024x2048, .f32⟩
  | .hbm, ⟨44, _⟩ => ⟨S1024x2048, .f32⟩
  | .hbm, ⟨45, _⟩ => ⟨S4x1024x2048, .f32⟩
  | .hbm, ⟨46, _⟩ => ⟨S4x1024x2048, .f32⟩
  | .hbm, ⟨47, _⟩ => ⟨S4x1024x2048, .f32⟩
  | .hbm, ⟨48, _⟩ => ⟨S2048x2048, .f32⟩
  | .hbm, ⟨49, _⟩ => ⟨S4x1024x2048, .f32⟩
  | .hbm, ⟨50, _⟩ => ⟨S2048, .f32⟩
  | .hbm, ⟨51, _⟩ => ⟨S4x1024x2048, .f32⟩
  | .hbm, ⟨52, _⟩ => ⟨S_, .f32⟩
  | .hbm, ⟨53, _⟩ => ⟨S4x1024, .f32⟩
  | .hbm, ⟨54, _⟩ => ⟨S4x1024x1, .f32⟩
  | .hbm, ⟨55, _⟩ => ⟨S_, .f32⟩
  | .hbm, ⟨56, _⟩ => ⟨S4x1024x1, .f32⟩
  | .hbm, ⟨57, _⟩ => ⟨S4x1024x1, .f32⟩
  | .hbm, ⟨58, _⟩ => ⟨S_, .f32⟩
  | .hbm, ⟨59, _⟩ => ⟨S4x1024x1, .f32⟩
  | .hbm, ⟨60, _⟩ => ⟨S4x1024x1, .f32⟩
  | .hbm, ⟨61, _⟩ => ⟨S4x1024x1, .f32⟩
  | .hbm, ⟨62, _⟩ => ⟨S4x1024x2048, .f32⟩
  | .hbm, ⟨63, _⟩ => ⟨S4x1024x2048, .f32⟩
  | .hbm, ⟨64, _⟩ => ⟨S1x1x2048, .f32⟩
  | .hbm, ⟨65, _⟩ => ⟨S4x1024x2048, .f32⟩
  | .hbm, ⟨66, _⟩ => ⟨S4x1024x2048, .f32⟩
  | .hbm, ⟨67, _⟩ => ⟨S4x1024x2048, .f32⟩
  | .hbm, ⟨68, _⟩ => ⟨S4x1024x2048, .f32⟩
  | .hbm, ⟨69, _⟩ => ⟨S4x1024x2048, .f32⟩
  | .hbm, ⟨70, _⟩ => ⟨S2048, .f32⟩
  | .hbm, ⟨71, _⟩ => ⟨S4x1024x2048, .f32⟩
  | .hbm, ⟨72, _⟩ => ⟨S_, .f32⟩
  | .hbm, ⟨73, _⟩ => ⟨S4x1024, .f32⟩
  | .hbm, ⟨74, _⟩ => ⟨S4x1024x1, .f32⟩
  | .hbm, ⟨75, _⟩ => ⟨S_, .f32⟩
  | .hbm, ⟨76, _⟩ => ⟨S4x1024x1, .f32⟩
  | .hbm, ⟨77, _⟩ => ⟨S4x1024x1, .f32⟩
  | .hbm, ⟨78, _⟩ => ⟨S_, .f32⟩
  | .hbm, ⟨79, _⟩ => ⟨S4x1024x1, .f32⟩
  | .hbm, ⟨80, _⟩ => ⟨S4x1024x1, .f32⟩
  | .hbm, ⟨81, _⟩ => ⟨S4x1024x1, .f32⟩
  | .hbm, ⟨82, _⟩ => ⟨S4x1024x2048, .f32⟩
  | .hbm, ⟨83, _⟩ => ⟨S4x1024x2048, .f32⟩
  | .hbm, ⟨84, _⟩ => ⟨S1x1x2048, .f32⟩
  | .hbm, ⟨85, _⟩ => ⟨S4x1024x2048, .f32⟩
  | .hbm, ⟨86, _⟩ => ⟨S4x1024x2048, .f32⟩
  | .hbm, ⟨87, _⟩ => ⟨S_, .f32⟩
  | .hbm, ⟨88, _⟩ => ⟨S4x1x2048, .f32⟩
  | .hbm, ⟨89, _⟩ => ⟨S4x1x2048, .f32⟩
  | .hbm, ⟨90, _⟩ => ⟨S4x1024x2048, .f32⟩
  | .hbm, ⟨91, _⟩ => ⟨S4x1024x2048, .f32⟩
  | .hbm, ⟨92, _⟩ => ⟨S4x1024x2048, .f32⟩
  | .hbm, ⟨93, _⟩ => ⟨S4x1024x2048, .f32⟩
  | .hbm, ⟨94, _⟩ => ⟨S4096x2048, .f32⟩
  | .hbm, ⟨95, _⟩ => ⟨S4096x2048, .f32⟩
  | .hbm, ⟨96, _⟩ => ⟨S4096x2048, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_2 : Ref sig .tc := ⟨.hbm, 72, rfl⟩
abbrev main_v57 : Ref sig .tc := ⟨.hbm, 73, rfl⟩
abbrev main_v58 : Ref sig .tc := ⟨.hbm, 74, rfl⟩
abbrev main_cst_3 : Ref sig .tc := ⟨.hbm, 75, rfl⟩
abbrev main_v59 : Ref sig .tc := ⟨.hbm, 76, rfl⟩
abbrev main_v60 : Ref sig .tc := ⟨.hbm, 77, rfl⟩
abbrev main_cst_4 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_5 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.RefGather.lean ====
module

public import proofs.«01_k».proof.Proof.Gen.ReferenceIdeal.Read
public import Idealize.ShloMosaic.Lib.Pointwise

/-!
# The reference's gathers read at an index
-/

@[expose] public section

namespace Cert.ReferenceIdeal.Block

open Cert.ReferenceIdeal Cert.ReferenceIdeal.Gen Cert.ReferenceIdeal.Read Idealize.ShloMosaic Idealize.ShloMosaic.TcCoe

noncomputable section

set_option maxRecDepth 16384

variable {α : Type}

/-- The biases taken at a column of each pair. -/
theorem gather_columns (x : S8x15x31.Idx → α) (idx : IVec S64x64x1 32) (hd : Fin 8) (dr : Fin 15) (a k : Fin 64) (n : ℕ)
    (hn : (idx (ix3 a k 0)).toInt.toNat = n) (h31 : n < 31) :
    Host.gather gather_S8x15x31_S64x64x1_S8x15x64x64_01_2_n_n_2_2_8151 x idx (ix4 hd dr a k) =
      x (ix3 hd dr ⟨n, h31⟩) := by
  unfold Host.gather
  refine congrArg x (funext fun i => Fin.ext ?_)
  fin_cases i
  · show 0 + 0 + hd.val = hd.val; omega
  · show 0 + 0 + dr.val = dr.val; omega
  · have h : gather_S8x15x31_S64x64x1_S8x15x64x64_01_2_n_n_2_2_8151.siIdx (ix4 hd dr a k) ⟨0, by decide⟩ = ix3 a k 0 := by
      refine funext fun i => ?_
      fin_cases i <;> rfl
    refine Eq.trans (b := min (idx (ix3 a k 0)).toInt.toNat 30) ?_ (by rw [hn]; exact min_eq_left (by omega))
    refine Eq.trans ?_ (congrArg (fun y => min (idx y).toInt.toNat 30) h)
    rfl

/-- The rows of the taken biases at an offset of each pair of rows. -/
theorem gather_offsets (x : S8x15x64x64.Idx → α) (idx : IVec S16x8x1 32) (r : Fin 16) (hd : Fin 8) (j : Fin 8) (a k : Fin 64) (n : ℕ)
    (hn : (idx (ix3 r j 0)).toInt.toNat = n) (h15 : n < 15) :
    Host.gather gather_S8x15x64x64_S16x8x1_S16x8x8x64x64_134_1_n_n_1_2_816464 x idx (ix5 r hd j a k) =
      x (ix4 hd ⟨n, h15⟩ a k) := by
  unfold Host.gather
  refine congrArg x (funext fun i => Fin.ext ?_)
  fin_cases i
  · show 0 + 0 + hd.val = hd.val; omega
  · have h : gather_S8x15x64x64_S16x8x1_S16x8x8x64x64_134_1_n_n_1_2_816464.siIdx (ix5 r hd j a k) ⟨0, by decide⟩ = ix3 r j 0 := by
      refine funext fun i => ?_
      fin_cases i <;> rfl
    refine Eq.trans (b := min (idx (ix3 r j 0)).toInt.toNat 14) ?_ (by rw [hn]; exact min_eq_left (by omega))
    refine Eq.trans ?_ (congrArg (fun y => min (idx y).toInt.toNat 14) h)
    rfl
  · show 0 + 0 + a.val = a.val; omega
  · show 0 + 0 + k.val = k.val; omega

/-- The eight rows from a first row. -/
theorem gather_rows (x : S4x16x64x8x128.Idx → α) (idx : IVec S16x5 32) (r : Fin 16) (bt : Fin 4) (j : Fin 8) (k : Fin 64) (hd : Fin 8) (d : Fin 128) (n : ℕ)
    (hn : (idx (ix2 r 1)).toInt.toNat = n) (h8 : n ≤ 8) :
    Host.gather gather_S4x16x64x8x128_S16x5_S16x4x8x64x8x128_12345_n_n_n_01234_1_48648128 x idx (ix6 r bt j k hd d) =
      x (ix5 bt ⟨n + j.val, by omega⟩ k hd d) := by
  have h : ∀ i : Fin 5, gather_S4x16x64x8x128_S16x5_S16x4x8x64x8x128_12345_n_n_n_01234_1_48648128.siIdx (ix6 r bt j k hd d) i = ix2 r i := by
    intro i
    refine funext fun a => ?_
    fin_cases a <;> rfl
  unfold Host.gather
  refine congrArg x (funext fun i => Fin.ext ?_)
  fin_cases i
  · refine Eq.trans (b := min (idx (ix2 r 0)).toInt.toNat 0 + 0 + bt.val) ?_ (by show _ = bt.val; omega)
    exact congrArg (fun y => min (idx y).toInt.toNat 0 + 0 + bt.val) (h 0)
  · refine Eq.trans (b := min (idx (ix2 r 1)).toInt.toNat 8 + 0 + j.val) ?_ (by rw [hn, min_eq_left h8]; rfl)
    exact congrArg (fun y => min (idx y).toInt.toNat 8 + 0 + j.val) (h 1)
  · refine Eq.trans (b := min (idx (ix2 r 2)).toInt.toNat 0 + 0 + k.val) ?_ (by show _ = k.val; omega)
    exact congrArg (fun y => min (idx y).toInt.toNat 0 + 0 + k.val) (h 2)
  · refine Eq.trans (b := min (idx (ix2 r 3)).toInt.toNat 0 + 0 + hd.val) ?_ (by show _ = hd.val; omega)
    exact congrArg (fun y => min (idx y).toInt.toNat 0 + 0 + hd.val) (h 3)
  · refine Eq.trans (b := min (idx (ix2 r 4)).toInt.toNat 0 + 0 + d.val) ?_ (by show _ = d.val; omega)
    exact congrArg (fun y => min (idx y).toInt.toNat 0 + 0 + d.val) (h 4)

end

end Cert.ReferenceIdeal.Block
-- ==== Proof.Block.lean ====
module

public import proofs.«01_k».proof.Proof.Gen.KernelIdeal.Frame

/-!
# What one point of the attention call stores, in a uniform form

The generated run of the call's body lists its stores one at a time.  Here the same lists are written once for head `j`
(of the four heads of a point) and grid row `r` (of the sixteen): the scores of one row (`rowTile`), the two scratch blocks
(the scores, the window weights) and the sixty-four output tiles.
-/

@[expose] public section

namespace Cert.KernelIdeal.Block

open Idealize.ShloMosaic Idealize.ShloMosaic.TcCoe Cert.KernelIdeal.Gen

noncomputable section

variable {F : FTy → Type} [FloatOps F] [Named F]

/-- The first grid row of the window of grid row `r`. -/
def first (r : Fin 16) : ℕ := min (r.val - 4) 8

/-- Which tile of the bias table the window's first row reads. -/
def biasTile (r : Fin 16) : ℕ := first r + 7 - r.val

theorem first_le (r : Fin 16) : first r ≤ 8 := by unfold first; omega

theorem biasTile_le (r : Fin 16) : biasTile r ≤ 7 := by unfold biasTile first; omega

theorem inbQ (j : Fin 4) (r : Fin 16) : ∀ a, (![64 * r.val, 128 * j.val] : Fin 2 → ℕ) a + S64x128.size a ≤ S1024x512.size a := by
  intro a; fin_cases a
  · show 64 * r.val + 64 ≤ 1024; omega
  · show 128 * j.val + 128 ≤ 512; omega

theorem inbW (j : Fin 4) (r : Fin 16) : ∀ a, (![64 * first r, 128 * j.val] : Fin 2 → ℕ) a + S512x128.size a ≤ S1024x512.size a := by
  have := first_le r
  intro a; fin_cases a
  · show 64 * first r + 512 ≤ 1024; omega
  · show 128 * j.val + 128 ≤ 512; omega

theorem inbT (j : Fin 4) (r : Fin 16) :
    ∀ a, (![j.val, biasTile r % 2, 0, 64 * (biasTile r + biasTile r % 2)] : Fin 4 → ℕ) a + S1x1x64x512.size a ≤ S4x2x64x1024.size a := by
  have := biasTile_le r
  intro a; fin_cases a
  · show j.val + 1 ≤ 4; omega
  · show biasTile r % 2 + 1 ≤ 2; omega
  · show 0 + 64 ≤ 64; omega
  · show 64 * (biasTile r + biasTile r % 2) + 512 ≤ 1024; omega

theorem inbS (j : Fin 4) : ∀ a, (![j.val % 2, 0, 0] : Fin 3 → ℕ) a + S1x1024x512.size a ≤ S2x1024x512.size a := by
  intro a; fin_cases a
  · show j.val % 2 + 1 ≤ 2; omega
  · show 0 + 1024 ≤ 1024; omega
  · show 0 + 512 ≤ 512; omega

theorem inbR (r : Fin 16) : ∀ a, (![64 * r.val, 0] : Fin 2 → ℕ) a + S64x512.size a ≤ S1024x512.size a := by
  intro a; fin_cases a
  · show 64 * r.val + 64 ≤ 1024; omega
  · show 0 + 512 ≤ 512; omega

theorem inbH (j : Fin 4) : ∀ a, (![0, 128 * j.val] : Fin 2 → ℕ) a + S1024x128.size a ≤ S1024x512.size a := by
  intro a; fin_cases a
  · show 0 + 1024 ≤ 1024; omega
  · show 128 * j.val + 128 ≤ 512; omega

theorem hdrop : ∀ a : Fin 2, (![1, 1024, 512] : Fin 3 → ℕ) a.succ = S1024x512.size a := by decide

theorem slicesO (r : Fin 16) : S1024x128.Slices ![64 * r.val, 0] S64x128 := by
  refine ⟨rfl, fun a => ?_⟩
  fin_cases a
  · show 64 * r.val + 64 ≤ 1024; omega
  · show 0 + 128 ≤ 128; omega

theorem slicesI (r : Fin 16) : S1024x1.Slices ![64 * r.val, 0] S64x1 := by
  refine ⟨rfl, fun a => ?_⟩
  fin_cases a
  · show 64 * r.val + 64 ≤ 1024; omega
  · show 0 + 1 ≤ 1; omega

/-! ## The arithmetic, over the loaded vectors -/

/-- The scores of one grid row against its window: scaled products plus the bias tile. -/
def tileOf (b : FVec F S1x1x64x512 .f32) (q : FVec F S64x128 .bf16) (k : FVec F S512x128 .bf16) : FVec F S64x512 .f32 :=
  shapeCast S64x512 (addf (mulf (matmul dot_S64x128_S512x128_S64x512_1_1_0_0_n_n none q k (constant S64x512 .f32 0x00000000#32))
      (broadcast S64x512 (Named.named κ "logits" 0x3E0293EE#32)))
    (shapeCast S64x512 b shapeCasts_S1x1x64x512_S64x512)) shapeCasts_S64x512_S64x512

/-- The scores of all rows against the cached keys. -/
def cacheScores (q : FVec F S1024x128 .bf16) (k : FVec F S1x512x128 .f32) : FVec F S1024x512 .f32 :=
  mulf (matmul dot_S1024x128_S512x128_S1024x512_1_1_0_0_n_n none q
      (truncf .bf16 (shapeCast S512x128 k shapeCasts_S1x512x128_S512x128) bitsLt_bf16_f32) (constant S1024x512 .f32 0x00000000#32))
    (broadcast S1024x512 (Named.named κ "logits" 0x3E0293EE#32))

/-- The row maxima over both parts. -/
def rowMax (sw sc : FVec F S1024x512 .f32) : FVec F S1024x1 .f32 :=
  maximumf (shapeCast S1024x1 (multiReduction .maximumf [1] S1024 sw 0xFF800000#32 reduces_S1024x512_S1024 (.inl rfl) rfl) shapeCasts_S1024_S1024x1)
    (shapeCast S1024x1 (multiReduction .maximumf [1] S1024 sc 0xFF800000#32 reduces_S1024x512_S1024 (.inl rfl) rfl) shapeCasts_S1024_S1024x1)

/-- One part's weights, not yet normalised. -/
def weights (s : FVec F S1024x512 .f32) (mx : FVec F S1024x1 .f32) : FVec F S1024x512 .f32 :=
  exp2 (subf s (broadcastTo S1024x512 mx broadcasts_S1024x1_S1024x512))

/-- One over the sum of both parts' weights. -/
def invSum (ew ec : FVec F S1024x512 .f32) : FVec F S1024x1 .f32 :=
  divf (broadcast S1024x1 (FloatOps.ofBits .f32 0x3F800000#32))
    (addf (shapeCast S1024x1 (multiReduction .add [1] S1024 ew 0x00000000#32 reduces_S1024x512_S1024 (.inl rfl) rfl) shapeCasts_S1024_S1024x1)
      (shapeCast S1024x1 (multiReduction .add [1] S1024 ec 0x00000000#32 reduces_S1024x512_S1024 (.inl rfl) rfl) shapeCasts_S1024_S1024x1))

/-- The cached part of the output. -/
def cacheOut (ec : FVec F S1024x512 .f32) (v : FVec F S1x512x128 .f32) : FVec F S1024x128 .f32 :=
  matmul dot_S1024x512_S512x128_S1024x128_1_0_0_1_n_n none (truncf .bf16 ec bitsLt_bf16_f32)
    (truncf .bf16 (shapeCast S512x128 v shapeCasts_S1x512x128_S512x128) bitsLt_bf16_f32) (constant S1024x128 .f32 0x00000000#32)

/-- One output tile: the window's part and the cached part together, normalised. -/
def tileOut (r : Fin 16) (p : FVec F S64x512 .bf16) (v : FVec F S512x128 .bf16) (oc : FVec F S1024x128 .f32) (inv : FVec F S1024x1 .f32) :
    FVec F S64x128 .bf16 :=
  truncf .bf16 (mulf (addf (matmul dot_S64x512_S512x128_S64x128_1_0_0_1_n_n none p v (constant S64x128 .f32 0x00000000#32))
      (extractStridedSlice S64x128 ![64 * r.val, 0] oc (slicesO r)))
    (broadcastTo S64x128 (extractStridedSlice S64x1 ![64 * r.val, 0] inv (slicesI r)) broadcasts_S64x1_S64x128)) bitsLt_bf16_f32

section Run

variable (c : Dev nD) (i : grid1.Coords)
  (arg2 : Memref sig .tc .vmem S1024x512 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1x4096x128 .f32) (harg5 : arg5.IsWhole)
  (arg6 : Memref sig .tc .vmem S1x4096x128 .f32) (harg6 : arg6.IsWhole) (arg7 : Memref sig .tc .vmem S4x2x64x1024 .f32) (harg7 : arg7.IsWhole)
  (arg8 : Memref sig .tc .vmem S1024x512 .bf16) (harg8 : arg8.IsWhole) (arg9 : Memref sig .tc .vmem S2x1024x512 .f32) (harg9 : arg9.IsWhole)
  (arg10 : Memref sig .tc .vmem S2x1024x512 .bf16) (harg10 : arg10.IsWhole)
  (x0 x1 x2 : Vec F S1024x512 .bf16) (x3 x4 : Vec F S1x4096x128 .f32) (x5 : Vec F S4x2x64x1024 .f32)

/-- The scores of row `r` of head `j`, from the call's blocks. -/
def rowTile (j : Fin 4) (r : Fin 16) : FVec F S64x512 .f32 :=
  tileOf
    (View.readAt (Elt F) arg7.view (Rect.unit (s := S4x2x64x1024) ![j.val, biasTile r % 2, 0, 64 * (biasTile r + biasTile r % 2)] S1x1x64x512.size (inbT j r)).toLoadRect
      (harg7.unread x5))
    (View.readAt (Elt F) arg2.view (Rect.unit (s := S1024x512) ![64 * r.val, 128 * j.val] S64x128.size (inbQ j r)).toLoadRect (harg2.unread x0))
    (View.readAt (Elt F) arg3.view (Rect.unit (s := S1024x512) ![64 * first r, 128 * j.val] S512x128.size (inbW j r)).toLoadRect (harg3.unread x1))

/-- The rectangle of the scores' scratch that row `r` of head `j` stores at. -/
abbrev rowRect (j : Fin 4) (r : Fin 16) : Rect S2x1024x512 :=
  (Rect.unit (s := S2x1024x512) ![j.val % 2, 0, 0] S1x1024x512.size (inbS j)).within
    ((Rect.unit (s := S1024x512) ![64 * r.val, 0] S64x512.size (inbR r)).consLift ![1, 1024, 512] rfl hdrop) (fun _ => rfl)

/-- The store of the scores of row `r` of head `j`. -/
def rowPiece (j : Fin 4) (r : Fin 16) : View.Piece (Elt F) S2x1024x512 .f32 :=
  ⟨rowRect j r, Rect.payAlong (r := Rect.unit (s := S1024x512) ![64 * r.val, 0] S64x512.size (inbR r)) (R := rowRect j r)
    (Rect.numel_consLift (Rect.unit (s := S1024x512) ![64 * r.val, 0] S64x512.size (inbR r)) ![1, 1024, 512] rfl hdrop)
    (rowTile arg2 harg2 arg3 harg3 arg7 harg7 x0 x1 x5 j r)⟩

/-- The sixteen stores of head `j`'s scores, the last first. -/
def scorePieces (j : Fin 4) : List (View.Piece (Elt F) S2x1024x512 .f32) :=
  List.ofFn fun n : Fin 16 => rowPiece arg2 harg2 arg3 harg3 arg7 harg7 x0 x1 x5 j (Fin.ofNat 16 (15 - n.val))

/-- Head `j`'s scores against its windows, as read back from the scratch. -/
def windowScores (j : Fin 4) : FVec F S1024x512 .f32 :=
  shapeCast S1024x512 (arg9.view.readCov (match j with
      | 0 => kernelRun1_A.sl.HS0_16 c arg2 harg2 arg3 harg3 arg7 harg7 x0 x1 x5
      | 1 => kernelRun1_A.sl.HS0_32 c arg2 harg2 arg3 harg3 arg7 harg7 x0 x1 x5
      | 2 => kernelRun1_A.sl.HS0_48 c arg2 harg2 arg3 harg3 arg7 harg7 x0 x1 x5
      | 3 => kernelRun1_A.sl.HS0_64 c arg2 harg2 arg3 harg3 arg7 harg7 x0 x1 x5)
    (Rect.unit (s := S2x1024x512) ![j.val % 2, 0, 0] S1x1024x512.size (inbS j)).toLoadRect) shapeCasts_S1x1024x512_S1024x512

/-- Each head's stores are the newest sixteen of the scratch when it is read. -/
theorem scores_eq (j : Fin 4) : ∃ L, (match j with
      | 0 => kernelRun1_A.sl.HS0_16 c arg2 harg2 arg3 harg3 arg7 harg7 x0 x1 x5
      | 1 => kernelRun1_A.sl.HS0_32 c arg2 harg2 arg3 harg3 arg7 harg7 x0 x1 x5
      | 2 => kernelRun1_A.sl.HS0_48 c arg2 harg2 arg3 harg3 arg7 harg7 x0 x1 x5
      | 3 => kernelRun1_A.sl.HS0_64 c arg2 harg2 arg3 harg3 arg7 harg7 x0 x1 x5)
    = scorePieces arg2 harg2 arg3 harg3 arg7 harg7 x0 x1 x5 j ++ L := by
  match j with
  | 0 => exact ⟨[], (List.append_nil _).symm⟩
  | 1 => exact ⟨kernelRun1_A.sl.HS0_16 c arg2 harg2 arg3 harg3 arg7 harg7 x0 x1 x5, rfl⟩
  | 2 => exact ⟨kernelRun1_A.sl.HS0_32 c arg2 harg2 arg3 harg3 arg7 harg7 x0 x1 x5, rfl⟩
  | 3 => exact ⟨kernelRun1_A.sl.HS0_48 c arg2 harg2 arg3 harg3 arg7 harg7 x0 x1 x5, rfl⟩

/-- Head `j`'s cached keys or values in a block of the cache: every eighth row. -/
def cacheRect (j : Fin 4) : LoadRect S1x4096x128 := ⟨k1_off1 i (BitVec.ofNat 32 j.val), S1x512x128.size, ![1, 8, 1], k1_off1_inb i j⟩

/-- Head `j`'s scores against the cached keys. -/
def ctxScores (j : Fin 4) : FVec F S1024x512 .f32 :=
  cacheScores (View.readAt (Elt F) arg2.view (Rect.unit (s := S1024x512) ![0, 128 * j.val] S1024x128.size (inbH j)).toLoadRect (harg2.unread x0))
    (View.readAt (Elt F) arg5.view (cacheRect i j) (harg5.unread x3))

/-- Head `j`'s row maxima. -/
def maxes (j : Fin 4) : FVec F S1024x1 .f32 :=
  rowMax (windowScores c arg2 harg2 arg3 harg3 arg7 harg7 arg9 x0 x1 x5 j) (ctxScores i arg2 harg2 arg5 harg5 x0 x3 j)

/-- Head `j`'s weights on its windows. -/
def windowWeights (j : Fin 4) : FVec F S1024x512 .f32 :=
  weights (windowScores c arg2 harg2 arg3 harg3 arg7 harg7 arg9 x0 x1 x5 j) (maxes c i arg2 harg2 arg3 harg3 arg5 harg5 arg7 harg7 arg9 x0 x1 x3 x5 j)

/-- Head `j`'s weights on the cached keys. -/
def ctxWeights (j : Fin 4) : FVec F S1024x512 .f32 :=
  weights (ctxScores i arg2 harg2 arg5 harg5 x0 x3 j) (maxes c i arg2 harg2 arg3 harg3 arg5 harg5 arg7 harg7 arg9 x0 x1 x3 x5 j)

/-- The store of head `j`'s window weights. -/
def weightPiece (j : Fin 4) : View.Piece (Elt F) S2x1024x512 .bf16 :=
  ⟨Rect.unit ![j.val % 2, 0, 0] S1x1024x512.size (inbS j), shapeCast S1x1024x512 (truncf .bf16
    (windowWeights c i arg2 harg2 arg3 harg3 arg5 harg5 arg7 harg7 arg9 x0 x1 x3 x5 j) bitsLt_bf16_f32) shapeCasts_S1024x512_S1x1024x512⟩

/-- The stores of the window weights up to head `j`, the last first. -/
def weightPieces : (n : ℕ) → List (View.Piece (Elt F) S2x1024x512 .bf16)
  | 0 => []
  | n + 1 => weightPiece c i arg2 harg2 arg3 harg3 arg5 harg5 arg7 harg7 arg9 x0 x1 x3 x5 (Fin.ofNat 4 n) :: weightPieces n

/-- The part of the weights' scratch that row `r` of head `j` reads. -/
abbrev readRect (j : Fin 4) (r : Fin 16) : LoadRect S2x1024x512 :=
  (Rect.unit (s := S2x1024x512) ![j.val % 2, 0, 0] S1x1024x512.size (inbS j)).withinL
    ((Rect.unit (s := S1024x512) ![64 * r.val, 0] S64x512.size (inbR r)).toLoadRect.consLift ![1, 1024, 512] rfl hdrop) (fun _ => rfl)

theorem numel_read {d : Fin 2 → ℕ} (o sz : Fin 3 → ℕ) (inb : ∀ a, o a + sz a ≤ S2x1024x512.size a) (lr : LoadRect ⟨2, d⟩) (h0 : sz 0 = 1)
    (hs : ∀ a, sz (Fin.succ a) = d a) :
    lr.shape.numel = ((Rect.unit (s := S2x1024x512) o sz inb).withinL (lr.consLift sz h0 hs) (fun _ => rfl)).shape.numel :=
  lr.numel_consLift sz h0 hs

theorem numelR (j : Fin 4) (r : Fin 16) :
    (Rect.unit (s := S1024x512) ![64 * r.val, 0] S64x512.size (inbR r)).toLoadRect.shape.numel = (readRect j r).shape.numel :=
  numel_read (d := S1024x512.size) ![j.val % 2, 0, 0] ![1, 1024, 512] (inbS j)
    (Rect.unit (s := S1024x512) ![64 * r.val, 0] S64x512.size (inbR r)).toLoadRect rfl hdrop

/-- Row `r` of head `j`'s window weights, as read back from the scratch. -/
def weightTile (j : Fin 4) (r : Fin 16) : Vec F S64x512 .bf16 :=
  LoadRect.valAlong (lr := (Rect.unit (s := S1024x512) ![64 * r.val, 0] S64x512.size (inbR r)).toLoadRect) (LR := readRect j r) (numelR j r)
    (V := Elt F .bf16)
    (arg10.view.readCov (weightPieces c i arg2 harg2 arg3 harg3 arg5 harg5 arg7 harg7 arg9 x0 x1 x3 x5 (j.val + 1)) (readRect j r))

/-- The output tile of row `r` of head `j`. -/
def outTile (j : Fin 4) (r : Fin 16) : FVec F S64x128 .bf16 :=
  tileOut r (weightTile c i arg2 harg2 arg3 harg3 arg5 harg5 arg7 harg7 arg9 arg10 x0 x1 x3 x5 j r)
    (View.readAt (Elt F) arg4.view (Rect.unit (s := S1024x512) ![64 * first r, 128 * j.val] S512x128.size (inbW j r)).toLoadRect (harg4.unread x2))
    (cacheOut (ctxWeights c i arg2 harg2 arg3 harg3 arg5 harg5 arg7 harg7 arg9 x0 x1 x3 x5 j)
      (View.readAt (Elt F) arg6.view (cacheRect i j) (harg6.unread x4)))
    (invSum (windowWeights c i arg2 harg2 arg3 harg3 arg5 harg5 arg7 harg7 arg9 x0 x1 x3 x5 j)
      (ctxWeights c i arg2 harg2 arg3 harg3 arg5 harg5 arg7 harg7 arg9 x0 x1 x3 x5 j))

/-- The sixty-four output tiles, the last stored first: the stored tile of count `n` is of head `3 - n / 16`, row `15 - n % 16`. -/
theorem pieces_eq : (kernelRun1_A c i arg2 harg2 arg3 harg3 arg4 harg4 arg5 harg5 arg6 harg6 arg7 harg7 arg8 harg8 arg9 harg9 arg10 harg10 x0 x1 x2 x3 x4 x5).1
    = List.ofFn fun n : Fin 64 =>
      (⟨Rect.unit ![64 * (Fin.ofNat 16 (15 - n.val % 16)).val, 128 * (Fin.ofNat 4 (3 - n.val / 16)).val] S64x128.size
          (inbQ (Fin.ofNat 4 (3 - n.val / 16)) (Fin.ofNat 16 (15 - n.val % 16))),
        outTile c i arg2 harg2 arg3 harg3 arg4 harg4 arg5 harg5 arg6 harg6 arg7 harg7 arg9 arg10 x0 x1 x2 x3 x4 x5
          (Fin.ofNat 4 (3 - n.val / 16)) (Fin.ofNat 16 (15 - n.val % 16))⟩ : View.Piece (Elt F) S1024x512 .bf16) := rfl

end Run

end

end Cert.KernelIdeal.Block
-- ==== Proof.BlockOps.lean ====
module

public import proofs.«01_k».proof.Proof.Block
public import Idealize.ShloMosaic.Lib.Pipeline.CanonAppend
public import Idealize.ShloMosaic.Lib.Pipeline.ValueKit.Tiles
public import Idealize.ShloMosaic.Lib.Pointwise

/-!
# The arithmetic of one point at an index, over the extended reals
-/

@[expose] public section

namespace Cert.KernelIdeal.Block

open Idealize.ShloMosaic Idealize.ShloMosaic.TcCoe Cert.KernelIdeal.Gen

noncomputable section

set_option maxRecDepth 16384

/-- Row `a` of the block `64 * r` lies within the 1024 rows. -/
theorem row_lt (r : Fin 16) (a : Fin 64) : 64 * r.val + a.val < 1024 := by omega

theorem win_lt (r : Fin 16) (b : Fin 512) : 64 * first r + b.val < 1024 := by have := first_le r; omega

theorem lane_lt (j : Fin 4) (d : Fin 128) : 128 * j.val + d.val < 512 := by omega

theorem tab_lt (r : Fin 16) (b : Fin 512) : 64 * (biasTile r + biasTile r % 2) + b.val < 1024 := by have := biasTile_le r; omega

/-- The named scale of the scores. -/
def kappa : EReal := (Named.named (F := Ideal) κ "logits" 0x3E0293EE#32 : Ideal .f32)

theorem tileOf_apply (t : Vec Ideal S1x1x64x512 .f32) (q : Vec Ideal S64x128 .bf16) (k : Vec Ideal S512x128 .bf16) (a : Fin 64) (b : Fin 512) :
    tileOf (F := Ideal) t q k (ix2 a b) = (∑ d : Fin 128, q (ix2 a d) * k (ix2 b d)) * kappa + t (ix4 0 0 a b) := by
  unfold tileOf
  pointwise []
  rfl

theorem cacheScores_apply (q : Vec Ideal S1024x128 .bf16) (k : Vec Ideal S1x512x128 .f32) (y : Fin 1024) (b : Fin 512) :
    cacheScores (F := Ideal) q k (ix2 y b) = (∑ d : Fin 128, q (ix2 y d) * k (ix3 0 b d)) * kappa := by
  unfold cacheScores
  pointwise []
  rfl

theorem rowMax_apply (sw sc : Vec Ideal S1024x512 .f32) (y : Fin 1024) :
    rowMax (F := Ideal) sw sc (ix2 y 0) = max ((Finset.univ : Finset (Fin 512)).fold max ⊥ fun b => sw (ix2 y b))
      ((Finset.univ : Finset (Fin 512)).fold max ⊥ fun b => sc (ix2 y b)) := by
  unfold rowMax
  pointwise []
  rfl

theorem weights_apply (s : Vec Ideal S1024x512 .f32) (mx : Vec Ideal S1024x1 .f32) (y : Fin 1024) (b : Fin 512) :
    weights (F := Ideal) s mx (ix2 y b) = Ideal.exp2 (s (ix2 y b) - mx (ix2 y 0)) := by
  unfold weights
  pointwise []
  rfl

theorem invSum_apply (ew ec : Vec Ideal S1024x512 .f32) (y : Fin 1024) :
    invSum (F := Ideal) ew ec (ix2 y 0) = Ideal.div 1 ((∑ b : Fin 512, ew (ix2 y b)) + ∑ b : Fin 512, ec (ix2 y b)) := by
  unfold invSum
  pointwise []

theorem cacheOut_apply (ec : Vec Ideal S1024x512 .f32) (v : Vec Ideal S1x512x128 .f32) (y : Fin 1024) (d : Fin 128) :
    cacheOut (F := Ideal) ec v (ix2 y d) = ∑ b : Fin 512, ec (ix2 y b) * v (ix3 0 b d) := by
  unfold cacheOut
  pointwise []

theorem tileOut_apply (r : Fin 16) (p : Vec Ideal S64x512 .bf16) (v : Vec Ideal S512x128 .bf16) (oc : Vec Ideal S1024x128 .f32)
    (inv : Vec Ideal S1024x1 .f32) (a : Fin 64) (d : Fin 128) :
    tileOut (F := Ideal) r p v oc inv (ix2 a d)
      = ((∑ b : Fin 512, p (ix2 a b) * v (ix2 b d)) + oc (ix2 ⟨64 * r.val + a.val, row_lt r a⟩ d)) * inv (ix2 ⟨64 * r.val + a.val, row_lt r a⟩ 0) := by
  unfold tileOut
  pointwise []

theorem cast_scores (v : Vec Ideal S1x1024x512 .f32) (y : Fin 1024) (b : Fin 512) :
    shapeCast S1024x512 v shapeCasts_S1x1024x512_S1024x512 (ix2 y b) = v (ix3 0 y b) := by
  pointwise []

theorem cast_weights (v : Vec Ideal S1024x512 .f32) (y : Fin 1024) (b : Fin 512) :
    shapeCast S1x1024x512 (truncf (F := Ideal) .bf16 v bitsLt_bf16_f32) shapeCasts_S1024x512_S1x1024x512 (ix3 0 y b) = v (ix2 y b) := by
  pointwise []

/-- A load through a unit-stride rectangle, at an index. -/
theorem ld_unit {S : Shape} {e : EltTy} (X : S.Idx → Elt Ideal e) (off size : Fin S.rank → ℕ) (inb : ∀ a, off a + size a ≤ S.size a)
    (x : (⟨S.rank, size⟩ : Shape).Idx) (y : S.Idx) (h : ∀ a, (y a).val = off a + (x a).val) :
    View.ld (Val := Elt Ideal) X (Rect.unit off size inb) x = X y := by
  refine congrArg X (funext fun a => Fin.ext ?_)
  refine Eq.trans ?_ (h a).symm
  show off a + 1 * (x a).val = _
  rw [one_mul]

end

end Cert.KernelIdeal.Block
-- ==== Proof.BlockValue.lean ====
module

public import proofs.«01_k».proof.Proof.BlockOps

/-!
# The elements of one point's output block, over the extended reals
-/

@[expose] public section

namespace Cert.KernelIdeal.Block

open Idealize.ShloMosaic Idealize.ShloMosaic.TcCoe Cert.KernelIdeal.Gen

noncomputable section

set_option maxRecDepth 16384

/-- A load through a unit-stride rectangle of a whole buffer, at an index. -/
theorem readAt_unit {sg : RefSig} {kd : Kind} {sp : Space} {S : Shape} {e : EltTy} {mr : Memref sg kd sp S e} (h : mr.IsWhole)
    (X : S.Idx → Elt Ideal e) (off size : Fin S.rank → ℕ) (inb : ∀ a, off a + size a ≤ S.size a)
    (x : (⟨S.rank, size⟩ : Shape).Idx) (y : S.Idx) (hy : ∀ a, (y a).val = off a + (x a).val) :
    View.readAt (Elt Ideal) mr.view (Rect.unit off size inb).toLoadRect (h.unread X) x = X y := by
  rw [View.readAt_eq_ld, h.read_unread]
  exact ld_unit X off size inb x y hy

section Run

variable (c : Dev nD) (i : grid1.Coords)
  (arg2 : Memref sig .tc .vmem S1024x512 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1x4096x128 .f32) (harg5 : arg5.IsWhole)
  (arg6 : Memref sig .tc .vmem S1x4096x128 .f32) (harg6 : arg6.IsWhole) (arg7 : Memref sig .tc .vmem S4x2x64x1024 .f32) (harg7 : arg7.IsWhole)
  (arg8 : Memref sig .tc .vmem S1024x512 .bf16) (harg8 : arg8.IsWhole) (arg9 : Memref sig .tc .vmem S2x1024x512 .f32) (harg9 : arg9.IsWhole)
  (arg10 : Memref sig .tc .vmem S2x1024x512 .bf16) (harg10 : arg10.IsWhole)
  (x0 x1 x2 : Vec Ideal S1024x512 .bf16) (x3 x4 : Vec Ideal S1x4096x128 .f32) (x5 : Vec Ideal S4x2x64x1024 .f32)

/-- One score: query row `a` of grid row `r` against position `b` of its window, scaled, plus the bias. -/
theorem rowTile_apply (j : Fin 4) (r : Fin 16) (a : Fin 64) (b : Fin 512) :
    rowTile arg2 harg2 arg3 harg3 arg7 harg7 x0 x1 x5 j r (ix2 a b)
      = (∑ d : Fin 128, x0 (ix2 ⟨64 * r.val + a.val, row_lt r a⟩ ⟨128 * j.val + d.val, lane_lt j d⟩)
          * x1 (ix2 ⟨64 * first r + b.val, win_lt r b⟩ ⟨128 * j.val + d.val, lane_lt j d⟩)) * kappa
        + x5 (ix4 j ⟨biasTile r % 2, Nat.mod_lt _ two_pos⟩ a ⟨64 * (biasTile r + biasTile r % 2) + b.val, tab_lt r b⟩) := by
  unfold rowTile
  rw [View.readAt_eq_ld, View.readAt_eq_ld, View.readAt_eq_ld, harg2.read_unread, harg3.read_unread, harg7.read_unread, tileOf_apply]
  refine congrArg₂ (· + ·) (congrArg (· * kappa) (Finset.sum_congr rfl fun d _ => congrArg₂ (· * ·) (ld_unit _ _ _ _ _ _ ?_) (ld_unit _ _ _ _ _ _ ?_)))
    (ld_unit _ _ _ _ _ _ ?_)
  · intro a; fin_cases a <;> rfl
  · intro a; fin_cases a <;> rfl
  · intro a; fin_cases a
    · rfl
    · rfl
    · exact (Nat.zero_add _).symm
    · rfl

/-- A row's store, at an index of its rectangle: the tile's element. -/
theorem rowPiece_apply (j : Fin 4) (r : Fin 16) (x : (rowRect j r).shape.Idx) (a : Fin 64) (b : Fin 512) (ha : a.val = (x 1).val)
    (hb : b.val = (x 2).val) :
    (rowPiece arg2 harg2 arg3 harg3 arg7 harg7 x0 x1 x5 j r).2 x = rowTile arg2 harg2 arg3 harg3 arg7 harg7 x0 x1 x5 j r (ix2 a b) :=
  Rect.payAlong_consLift (r := Rect.unit (s := S1024x512) ![64 * r.val, 0] S64x512.size (inbR r)) (sz := ![1, 1024, 512]) (h0 := rfl) (hs := hdrop)
    (rowTile arg2 harg2 arg3 harg3 arg7 harg7 x0 x1 x5 j r) _ x (ix2 a b) (Fin.forall_fin_two.mpr ⟨ha, hb⟩)

/-- The scratch's element at row `y`, lane `b`, as head `j` leaves it. -/
def scoreAt (j : Fin 4) (z : S2x1024x512.Idx) : EReal :=
  rowTile arg2 harg2 arg3 harg3 arg7 harg7 x0 x1 x5 j ⟨(z 1).val / 64, by have := (z 1).isLt; change (z 1).val < 1024 at this; omega⟩
      (ix2 ⟨(z 1).val % 64, by omega⟩ (z 2))

theorem rowPiece_scoreAt (j : Fin 4) (r : Fin 16) (x : (rowRect j r).shape.Idx) :
    (rowPiece arg2 harg2 arg3 harg3 arg7 harg7 x0 x1 x5 j r).2 x
      = scoreAt arg2 harg2 arg3 harg3 arg7 harg7 x0 x1 x5 j ((rowRect j r).emb x) := by
  have h1 := (x 1).isLt
  have h2 := (x 2).isLt
  change (x 1).val < 64 at h1
  change (x 2).val < 512 at h2
  have e1 : ((rowRect j r).emb x 1).val = 64 * r.val + (x 1).val := by
    rw [Rect.emb_apply]; show (0 + 64 * r.val) + 1 * (x 1).val = _; omega
  have e2 : ((rowRect j r).emb x 2).val = (x 2).val := by
    rw [Rect.emb_apply]; show (0 + 0) + 1 * (x 2).val = _; omega
  refine (rowPiece_apply arg2 harg2 arg3 harg3 arg7 harg7 x0 x1 x5 j r x ⟨(x 1).val, h1⟩ ⟨(x 2).val, h2⟩ rfl rfl).trans ?_
  refine congrArg₂ (fun r z => rowTile arg2 harg2 arg3 harg3 arg7 harg7 x0 x1 x5 j r z) (Fin.ext ?_) (congrArg₂ ix2 (Fin.ext ?_) (Fin.ext ?_))
  · show r.val = ((rowRect j r).emb x 1).val / 64
    rw [e1]; omega
  · show (x 1).val = ((rowRect j r).emb x 1).val % 64
    rw [e1]; omega
  · exact e2.symm

theorem mem_rowRect (j : Fin 4) (r : Fin 16) (a : Fin 64) (b : Fin 512) (z : S2x1024x512.Idx) (h0 : (z 0).val = j.val % 2)
    (h1 : (z 1).val = 64 * r.val + a.val) (h2 : (z 2).val = b.val) : z ∈ (rowRect j r).set := by
  refine (LoadRect.mem_set _).mpr fun k => ?_
  fin_cases k
  · exact ⟨0, Nat.one_pos, h0.trans rfl⟩
  · exact ⟨a.val, a.isLt, h1.trans (by show _ = (0 + 64 * r.val) + 1 * a.val; omega)⟩
  · exact ⟨b.val, b.isLt, h2.trans (by show _ = (0 + 0) + 1 * b.val; omega)⟩

/-- The scores' scratch read back: the row's tile. -/
theorem windowScores_apply (j : Fin 4) (r : Fin 16) (a : Fin 64) (b : Fin 512) :
    windowScores c arg2 harg2 arg3 harg3 arg7 harg7 arg9 x0 x1 x5 j (ix2 ⟨64 * r.val + a.val, row_lt r a⟩ b)
      = rowTile arg2 harg2 arg3 harg3 arg7 harg7 x0 x1 x5 j r (ix2 a b) := by
  obtain ⟨L, hL⟩ := scores_eq c arg2 harg2 arg3 harg3 arg7 harg7 x0 x1 x5 j
  unfold windowScores
  rw [hL, View.readCov_eq_canon']
  refine (cast_scores _ ⟨64 * r.val + a.val, row_lt r a⟩ b).trans ?_
  refine (View.canon_append_of_pieces (scoreAt arg2 harg2 arg3 harg3 arg7 harg7 x0 x1 x5 j) L _ ?_ _ ?_).trans ?_
  · intro p hp
    obtain ⟨n, rfl⟩ := (List.mem_ofFn).mp hp
    exact rowPiece_scoreAt arg2 harg2 arg3 harg3 arg7 harg7 x0 x1 x5 j _
  · have hr : Fin.ofNat 16 (15 - (15 - r.val)) = r := Fin.ext (by show (15 - (15 - r.val)) % 16 = _; omega)
    refine ⟨_, (List.mem_ofFn).mpr ⟨(⟨15 - r.val, by omega⟩ : Fin 16), rfl⟩, ?_⟩
    show _ ∈ (rowRect j (Fin.ofNat 16 (15 - (15 - r.val)))).set
    rw [hr]
    exact mem_rowRect j r a b _ rfl (by show 0 + 1 * (64 * r.val + a.val) = _; omega) (by show 0 + 1 * b.val = _; omega)
  · refine congrArg₂ (fun r z => rowTile arg2 harg2 arg3 harg3 arg7 harg7 x0 x1 x5 j r z) (Fin.ext ?_) (congrArg₂ ix2 (Fin.ext ?_) (Fin.ext ?_))
    · show (0 + 1 * (64 * r.val + a.val)) / 64 = _; omega
    · show (0 + 1 * (64 * r.val + a.val)) % 64 = _; omega
    · show 0 + 1 * b.val = _; omega

theorem head_lt (h : Fin 2) (j : Fin 4) : 4 * h.val + j.val < 8 := by omega

theorem off1_word : ∀ (h : Fin 2) (j : Fin 4),
    (Scalar.indexCast (Scalar.addi (Scalar.muli (BitVec.ofNat 32 h.val) 4#32) (BitVec.ofNat 32 j.val)) : BitVec 32).toNat = 4 * h.val + j.val := by
  decide

/-- Where head `j` of a point reads the cached rows. -/
theorem off1 (j : Fin 4) : k1_off1 i (BitVec.ofNat 32 j.val) = ![0, 4 * (i 1).val + j.val, 0] := by
  show ![0, _, 0] = _
  rw [← off1_word (i 1) j]

theorem cached_lt (h : Fin 2) (j : Fin 4) (b : Fin 512) : 8 * b.val + (4 * h.val + j.val) < 4096 := by omega

theorem cacheRect_idx (j : Fin 4) (b : Fin 512) (d : Fin 128) :
    (cacheRect i j).idx (ix3 (0 : Fin 1) b d : S1x512x128.Idx) = ix3 (0 : Fin 1) ⟨8 * b.val + (4 * (i 1).val + j.val), cached_lt (i 1) j b⟩ d := by
  have h := off1 i j
  refine funext fun a => Fin.ext ?_
  fin_cases a
  · rfl
  · show k1_off1 i (BitVec.ofNat 32 j.val) 1 + 8 * b.val = _
    rw [h]; show 4 * (i 1).val + j.val + 8 * b.val = 8 * b.val + (4 * (i 1).val + j.val); omega
  · show k1_off1 i (BitVec.ofNat 32 j.val) 2 + 1 * d.val = _
    rw [h]; show 0 + 1 * d.val = d.val; omega

/-- One score against a cached key. -/
theorem ctxScores_apply (j : Fin 4) (y : Fin 1024) (b : Fin 512) :
    ctxScores i arg2 harg2 arg5 harg5 x0 x3 j (ix2 y b)
      = (∑ d : Fin 128, x0 (ix2 y ⟨128 * j.val + d.val, lane_lt j d⟩) * x3 (ix3 0 ⟨8 * b.val + (4 * (i 1).val + j.val), cached_lt (i 1) j b⟩ d)) * kappa := by
  unfold ctxScores
  refine (cacheScores_apply _ _ y b).trans ?_
  rw [View.readAt_eq_ld, harg2.read_unread]
  refine congrArg (· * kappa) (Finset.sum_congr rfl fun d _ => congrArg₂ (· * ·) (ld_unit _ _ _ _ _ _ ?_) ?_)
  · intro a; fin_cases a
    · exact (Nat.zero_add _).symm
    · rfl
  · refine (View.readAt_apply _ _ _).trans ?_
    rw [harg5.read_unread]
    exact congrArg x3 (cacheRect_idx i j b d)

/-- Row `r` of the window weights read back: the head's own weights. -/
theorem weightTile_apply (j : Fin 4) (r : Fin 16) (a : Fin 64) (b : Fin 512) :
    weightTile c i arg2 harg2 arg3 harg3 arg5 harg5 arg7 harg7 arg9 arg10 x0 x1 x3 x5 j r (ix2 a b)
      = windowWeights c i arg2 harg2 arg3 harg3 arg5 harg5 arg7 harg7 arg9 x0 x1 x3 x5 j (ix2 ⟨64 * r.val + a.val, row_lt r a⟩ b) := by
  have hj : Fin.ofNat 4 j.val = j := Fin.ext (Nat.mod_eq_of_lt j.isLt)
  unfold weightTile
  rw [View.readCov_eq_canon']
  set z := Shape.reshapeEquiv (numelR j r) (ix2 a b) with hz
  have hz' : z = (Fin.cons ⟨0, Nat.one_pos⟩ (ix2 a b) : (readRect j r).shape.Idx) :=
    Shape.reshapeEquiv_cons_one (d := S64x512.size) (numelR j r) (ix2 a b)
  have hz0 : (z 0).val = 0 := by rw [hz']; rfl
  have hz1 : (z 1).val = a.val := by rw [hz']; rfl
  have hz2 : (z 2).val = b.val := by rw [hz']; rfl
  unfold weightPieces
  rw [hj]
  have hi : (readRect j r).idx z = (Rect.unit (s := S2x1024x512) ![j.val % 2, 0, 0] S1x1024x512.size (inbS j)).emb
      (ix3 (0 : Fin 1) (⟨64 * r.val + a.val, row_lt r a⟩ : Fin 1024) b) := by
    refine funext fun k => Fin.ext ?_
    fin_cases k
    · show (j.val % 2 + 0) + 1 * (z 0).val = j.val % 2 + 1 * 0
      rw [hz0]
    · show (0 + 64 * r.val) + 1 * (z 1).val = 0 + 1 * (64 * r.val + a.val)
      rw [hz1]; omega
    · show (0 + 0) + 1 * (z 2).val = 0 + 1 * b.val
      rw [hz2]
  show View.canon _ ((readRect j r).idx z) = _
  rw [hi]
  refine (View.canon_cons_emb _ _ _ _).trans ?_
  exact cast_weights _ _ _

/-- The scores of row `r` of head `j` against its window, at a query and a window position. -/
def sw (j : Fin 4) (r : Fin 16) (a : Fin 64) (b : Fin 512) : EReal :=
  (∑ d : Fin 128, x0 (ix2 ⟨64 * r.val + a.val, row_lt r a⟩ ⟨128 * j.val + d.val, lane_lt j d⟩)
      * x1 (ix2 ⟨64 * first r + b.val, win_lt r b⟩ ⟨128 * j.val + d.val, lane_lt j d⟩)) * kappa
    + x5 (ix4 j ⟨biasTile r % 2, Nat.mod_lt _ two_pos⟩ a ⟨64 * (biasTile r + biasTile r % 2) + b.val, tab_lt r b⟩)

/-- The scores of row `r` of head `j` against the cached keys. -/
def sc (j : Fin 4) (r : Fin 16) (a : Fin 64) (b : Fin 512) : EReal :=
  (∑ d : Fin 128, x0 (ix2 ⟨64 * r.val + a.val, row_lt r a⟩ ⟨128 * j.val + d.val, lane_lt j d⟩)
      * x3 (ix3 0 ⟨8 * b.val + (4 * (i 1).val + j.val), cached_lt (i 1) j b⟩ d)) * kappa

/-- Attention over two lists of scores, with base-two exponentials and the division at the end. -/
def attend2 (s t : Fin 512 → EReal) (v w : Fin 512 → EReal) : EReal :=
  let m := max ((Finset.univ : Finset (Fin 512)).fold max ⊥ s) ((Finset.univ : Finset (Fin 512)).fold max ⊥ t)
  ((∑ b, Ideal.exp2 (s b - m) * v b) + ∑ b, Ideal.exp2 (t b - m) * w b) * Ideal.div 1 ((∑ b, Ideal.exp2 (s b - m)) + ∑ b, Ideal.exp2 (t b - m))

/-- One element of the point's output block. -/
theorem outTile_apply (j : Fin 4) (r : Fin 16) (a : Fin 64) (d : Fin 128) :
    outTile c i arg2 harg2 arg3 harg3 arg4 harg4 arg5 harg5 arg6 harg6 arg7 harg7 arg9 arg10 x0 x1 x2 x3 x4 x5 j r (ix2 a d)
      = attend2 (sw x0 x1 x5 j r a) (sc i x0 x3 j r a)
        (fun b => x2 (ix2 ⟨64 * first r + b.val, win_lt r b⟩ ⟨128 * j.val + d.val, lane_lt j d⟩))
        (fun b => x4 (ix3 0 ⟨8 * b.val + (4 * (i 1).val + j.val), cached_lt (i 1) j b⟩ d)) := by
  have hsw : ∀ b, windowScores c arg2 harg2 arg3 harg3 arg7 harg7 arg9 x0 x1 x5 j (ix2 ⟨64 * r.val + a.val, row_lt r a⟩ b) = sw x0 x1 x5 j r a b :=
    fun b => (windowScores_apply c arg2 harg2 arg3 harg3 arg7 harg7 arg9 x0 x1 x5 j r a b).trans (rowTile_apply arg2 harg2 arg3 harg3 arg7 harg7 x0 x1 x5 j r a b)
  have hsc : ∀ b, ctxScores i arg2 harg2 arg5 harg5 x0 x3 j (ix2 ⟨64 * r.val + a.val, row_lt r a⟩ b) = sc i x0 x3 j r a b :=
    fun b => ctxScores_apply i arg2 harg2 arg5 harg5 x0 x3 j _ b
  have hm := rowMax_apply (windowScores c arg2 harg2 arg3 harg3 arg7 harg7 arg9 x0 x1 x5 j) (ctxScores i arg2 harg2 arg5 harg5 x0 x3 j) ⟨64 * r.val + a.val, row_lt r a⟩
  simp only [hsw, hsc] at hm
  have hw : ∀ b, windowWeights c i arg2 harg2 arg3 harg3 arg5 harg5 arg7 harg7 arg9 x0 x1 x3 x5 j (ix2 ⟨64 * r.val + a.val, row_lt r a⟩ b)
      = Ideal.exp2 (sw x0 x1 x5 j r a b - max ((Finset.univ : Finset (Fin 512)).fold max ⊥ (sw x0 x1 x5 j r a)) ((Finset.univ : Finset (Fin 512)).fold max ⊥ (sc i x0 x3 j r a))) := fun b => by
    rw [← hsw b]
    refine (weights_apply _ _ _ b).trans ?_
    exact congrArg (fun m : EReal => Ideal.exp2 (windowScores c arg2 harg2 arg3 harg3 arg7 harg7 arg9 x0 x1 x5 j (ix2 ⟨64 * r.val + a.val, row_lt r a⟩ b) - m)) hm
  have hc : ∀ b, ctxWeights c i arg2 harg2 arg3 harg3 arg5 harg5 arg7 harg7 arg9 x0 x1 x3 x5 j (ix2 ⟨64 * r.val + a.val, row_lt r a⟩ b)
      = Ideal.exp2 (sc i x0 x3 j r a b - max ((Finset.univ : Finset (Fin 512)).fold max ⊥ (sw x0 x1 x5 j r a)) ((Finset.univ : Finset (Fin 512)).fold max ⊥ (sc i x0 x3 j r a))) := fun b => by
    rw [← hsc b]
    refine (weights_apply _ _ _ b).trans ?_
    exact congrArg (fun m : EReal => Ideal.exp2 (ctxScores i arg2 harg2 arg5 harg5 x0 x3 j (ix2 ⟨64 * r.val + a.val, row_lt r a⟩ b) - m)) hm
  unfold outTile
  refine (tileOut_apply r _ _ _ _ a d).trans ?_
  refine congrArg₂ (· * ·) (congrArg₂ (· + ·) (Finset.sum_congr rfl fun b _ => congrArg₂ (· * ·) ?_ ?_) ?_) ?_
  · exact (weightTile_apply c i arg2 harg2 arg3 harg3 arg5 harg5 arg7 harg7 arg9 arg10 x0 x1 x3 x5 j r a b).trans (hw b)
  · exact readAt_unit harg4 x2 _ _ _ _ _ (Fin.forall_fin_two.mpr ⟨rfl, rfl⟩)
  · refine (cacheOut_apply _ _ _ d).trans (Finset.sum_congr rfl fun b _ => congrArg₂ (· * ·) (hc b) ?_)
    refine (congrFun (harg6.read_unread x4) _).trans ?_
    exact congrArg x4 (cacheRect_idx i j b d)
  · refine (invSum_apply _ _ _).trans ?_
    exact congrArg (Ideal.div 1) (congrArg₂ (· + ·) (Finset.sum_congr rfl fun b _ => hw b) (Finset.sum_congr rfl fun b _ => hc b))

/-- The block that the point leaves in the output's buffer, at an index. -/
theorem out_apply (j : Fin 4) (r : Fin 16) (a : Fin 64) (d : Fin 128) :
    out1_A_6 c i arg2 harg2 arg3 harg3 arg4 harg4 arg5 harg5 arg6 harg6 arg7 harg7 arg8 harg8 arg9 harg9 arg10 harg10 x0 x1 x2 x3 x4 x5
      (ix2 ⟨64 * r.val + a.val, row_lt r a⟩ ⟨128 * j.val + d.val, lane_lt j d⟩)
      = attend2 (sw x0 x1 x5 j r a) (sc i x0 x3 j r a)
        (fun b => x2 (ix2 ⟨64 * first r + b.val, win_lt r b⟩ ⟨128 * j.val + d.val, lane_lt j d⟩))
        (fun b => x4 (ix3 0 ⟨8 * b.val + (4 * (i 1).val + j.val), cached_lt (i 1) j b⟩ d)) := by
  rw [← outTile_apply c i arg2 harg2 arg3 harg3 arg4 harg4 arg5 harg5 arg6 harg6 arg7 harg7 arg9 arg10 x0 x1 x2 x3 x4 x5 j r a d]
  unfold out1_A_6
  rw [pieces_eq, View.read_writes_junk_eq_canon]
  refine View.canon_ofFn_unit_eq_of_forall _ _ _ _ _ _ ?_ ?_
  · have hj : (Fin.ofNat 4 (3 - (63 - (16 * j.val + r.val)) / 16)).val = j.val := by show (3 - (63 - (16 * j.val + r.val)) / 16) % 4 = _; omega
    have hr : (Fin.ofNat 16 (15 - (63 - (16 * j.val + r.val)) % 16)).val = r.val := by
      show (15 - (63 - (16 * j.val + r.val)) % 16) % 16 = _; omega
    refine ⟨⟨63 - (16 * j.val + r.val), by omega⟩, Fin.forall_fin_two.mpr ⟨?_, ?_⟩⟩
    · show 64 * (Fin.ofNat 16 (15 - (63 - (16 * j.val + r.val)) % 16)).val ≤ 64 * r.val + a.val
        ∧ 64 * r.val + a.val < 64 * (Fin.ofNat 16 (15 - (63 - (16 * j.val + r.val)) % 16)).val + 64
      omega
    · show 128 * (Fin.ofNat 4 (3 - (63 - (16 * j.val + r.val)) / 16)).val ≤ 128 * j.val + d.val
        ∧ 128 * j.val + d.val < 128 * (Fin.ofNat 4 (3 - (63 - (16 * j.val + r.val)) / 16)).val + 128
      omega
  · intro n x hx
    have h1 : 64 * r.val + a.val = 64 * (Fin.ofNat 16 (15 - n.val % 16)).val + (x 0).val := hx 0
    have h2 : 128 * j.val + d.val = 128 * (Fin.ofNat 4 (3 - n.val / 16)).val + (x 1).val := hx 1
    have x0lt : (x 0).val < 64 := (x 0).isLt
    have x1lt : (x 1).val < 128 := (x 1).isLt
    have hr : Fin.ofNat 16 (15 - n.val % 16) = r := Fin.ext (by omega)
    have hj : Fin.ofNat 4 (3 - n.val / 16) = j := Fin.ext (by omega)
    have hx' : x = ix2 a d := funext (Fin.forall_fin_two.mpr ⟨Fin.ext (by show (x 0).val = a.val; rw [hr] at h1; omega),
      Fin.ext (by show (x 1).val = d.val; rw [hj] at h2; omega)⟩)
    rw [hr, hj, hx']

end Run

end

end Cert.KernelIdeal.Block
-- ==== Proof.RegionValue.lean ====
module

public import proofs.«01_k».proof.Proof.BlockValue
public import Idealize.ShloMosaic.Lib.Pipeline.ValueKit

/-!
# The array that the attention call leaves, element by element
-/

@[expose] public section

namespace Cert.KernelIdeal.Block

open Idealize.ShloMosaic Idealize.ShloMosaic.TcCoe Cert.KernelIdeal.Gen
open Idealize.ShloMosaic.Pipeline (Dat Cfg Window)

noncomputable section

set_option maxRecDepth 16384

theorem frameRow_lt (bt : Fin 4) (r : Fin 16) (a : Fin 64) : 1024 * bt.val + (64 * r.val + a.val) < 4096 := by omega

theorem frameWin_lt (bt : Fin 4) (r : Fin 16) (b : Fin 512) : 1024 * bt.val + (64 * first r + b.val) < 4096 := by have := first_le r; omega

theorem col_lt (k : ℕ) (hk : k < 4) (hd : Fin 8) (d : Fin 128) : 1024 * k + (128 * hd.val + d.val) < 4096 := by omega

theorem ctxRow_lt (hd : Fin 8) (b : Fin 512) : 8 * b.val + hd.val < 4096 := by omega

section Values

variable (P : S4096x4096.Idx → EReal) (T : S8x2x64x1024.Idx → EReal) (CK CV : S4x4096x128.Idx → EReal)

/-- A query's score against position `b` of its row's window. -/
def winScore (bt : Fin 4) (hd : Fin 8) (r : Fin 16) (a : Fin 64) (b : Fin 512) : EReal :=
  (∑ d : Fin 128, P (ix2 ⟨1024 * bt.val + (64 * r.val + a.val), frameRow_lt bt r a⟩ ⟨1024 * 0 + (128 * hd.val + d.val), col_lt 0 (by decide) hd d⟩)
      * P (ix2 ⟨1024 * bt.val + (64 * first r + b.val), frameWin_lt bt r b⟩ ⟨1024 * 1 + (128 * hd.val + d.val), col_lt 1 (by decide) hd d⟩)) * kappa
    + T (ix4 hd ⟨biasTile r % 2, Nat.mod_lt _ two_pos⟩ a ⟨64 * (biasTile r + biasTile r % 2) + b.val, tab_lt r b⟩)

/-- A query's score against a cached key. -/
def ctxScore (bt : Fin 4) (hd : Fin 8) (r : Fin 16) (a : Fin 64) (b : Fin 512) : EReal :=
  (∑ d : Fin 128, P (ix2 ⟨1024 * bt.val + (64 * r.val + a.val), frameRow_lt bt r a⟩ ⟨1024 * 0 + (128 * hd.val + d.val), col_lt 0 (by decide) hd d⟩)
      * CK (ix3 bt ⟨8 * b.val + hd.val, ctxRow_lt hd b⟩ d)) * kappa

/-- One element of the result: lane `d` of head `hd` of query `a` of grid row `r` of frame `bt`. -/
def resultAt (bt : Fin 4) (hd : Fin 8) (r : Fin 16) (a : Fin 64) (d : Fin 128) : EReal :=
  attend2 (winScore P T bt hd r a) (ctxScore P CK bt hd r a)
    (fun b => P (ix2 ⟨1024 * bt.val + (64 * first r + b.val), frameWin_lt bt r b⟩ ⟨1024 * 2 + (128 * hd.val + d.val), col_lt 2 (by decide) hd d⟩))
    (fun b => CV (ix3 bt ⟨8 * b.val + hd.val, ctxRow_lt hd b⟩ d))

/-- The result, at an index of its array. -/
def result (y : S4096x1024.Idx) : EReal :=
  resultAt P T CK CV
    ⟨(y 0).val / 1024, by have := (y 0).isLt; change (y 0).val < 4096 at this; omega⟩
    ⟨(y 1).val / 128, by have := (y 1).isLt; change (y 1).val < 1024 at this; omega⟩
    ⟨(y 0).val % 1024 / 64, by omega⟩ ⟨(y 0).val % 64, by omega⟩ ⟨(y 1).val % 128, by omega⟩

theorem result_eq (bt : Fin 4) (hd : Fin 8) (r : Fin 16) (a : Fin 64) (d : Fin 128) (y : S4096x1024.Idx)
    (h0 : (y 0).val = 1024 * bt.val + (64 * r.val + a.val)) (h1 : (y 1).val = 128 * hd.val + d.val) :
    result P T CK CV y = resultAt P T CK CV bt hd r a d := by
  have e1 : (⟨(y 0).val / 1024, by have := (y 0).isLt; change (y 0).val < 4096 at this; omega⟩ : Fin 4) = bt := Fin.ext (by show (y 0).val / 1024 = _; omega)
  have e2 : (⟨(y 1).val / 128, by have := (y 1).isLt; change (y 1).val < 1024 at this; omega⟩ : Fin 8) = hd := Fin.ext (by show (y 1).val / 128 = _; omega)
  have e3 : (⟨(y 0).val % 1024 / 64, by omega⟩ : Fin 16) = r := Fin.ext (by show (y 0).val % 1024 / 64 = _; omega)
  have e4 : (⟨(y 0).val % 64, by omega⟩ : Fin 64) = a := Fin.ext (by show (y 0).val % 64 = _; omega)
  have e5 : (⟨(y 1).val % 128, by omega⟩ : Fin 128) = d := Fin.ext (by show (y 1).val % 128 = _; omega)
  unfold result
  rw [e1, e2, e3, e4, e5]

end Values

variable (V : (c : Dev nD) → (b : Ref sig .tc) → Buf (Elt Ideal) ((c : Thread nD τ).loc b))

theorem idx0 : ∀ t : Fin grid1.N, win1_0.index t = ![(grid1.coords t 0).val, (grid1.coords t 1).val] := by decide +kernel
theorem idx1 : ∀ t : Fin grid1.N, win1_1.index t = ![(grid1.coords t 0).val, 2 + (grid1.coords t 1).val] := by decide +kernel
theorem idx2 : ∀ t : Fin grid1.N, win1_2.index t = ![(grid1.coords t 0).val, 4 + (grid1.coords t 1).val] := by decide +kernel
theorem idx3 : ∀ t : Fin grid1.N, win1_3.index t = ![(grid1.coords t 0).val, 0, 0] := by decide +kernel
theorem idx4 : ∀ t : Fin grid1.N, win1_4.index t = ![(grid1.coords t 0).val, 0, 0] := by decide +kernel
theorem idx5 : ∀ t : Fin grid1.N, win1_5.index t = ![(grid1.coords t 1).val, 0, 0, 0] := by decide +kernel
theorem idx6 : ∀ t : Fin grid1.N, win1_6.index t = ![(grid1.coords t 0).val, (grid1.coords t 1).val] := by decide +kernel

theorem final1 (c : Dev nD) : (dat1 V c).arrAt 6 cfg1.N = result (V c main_arg0) (V c main_v2) (V c main_v3) (V c main_v4) := by
  refine (dat1 V c).arrAt_eq_of_covers 6 _ (by decide +kernel) fun t hf y => ?_
  blk_simp
  rw [after1_6]
  obtain ⟨y0, y1, rfl⟩ : ∃ (a : Fin 1024) (b : Fin 512), y = ix2 a b := ⟨y 0, y 1, eq_ix2 y⟩
  have ht0 : (grid1.coords t 0).val < 4 := (grid1.coords t 0).isLt
  have ht1 : (grid1.coords t 1).val < 2 := (grid1.coords t 1).isLt
  obtain ⟨r, a, hra⟩ : ∃ (r : Fin 16) (a : Fin 64), y0.val = 64 * r.val + a.val := ⟨⟨y0.val / 64, by omega⟩, ⟨y0.val % 64, by omega⟩, by
    show y0.val = 64 * (y0.val / 64) + y0.val % 64; omega⟩
  obtain ⟨j, d, hjd⟩ : ∃ (j : Fin 4) (d : Fin 128), y1.val = 128 * j.val + d.val := ⟨⟨y1.val / 128, by omega⟩, ⟨y1.val % 128, by omega⟩, by
    show y1.val = 128 * (y1.val / 128) + y1.val % 128; omega⟩
  obtain rfl : y0 = ⟨64 * r.val + a.val, row_lt r a⟩ := Fin.ext hra
  obtain rfl : y1 = ⟨128 * j.val + d.val, lane_lt j d⟩ := Fin.ext hjd
  refine Eq.trans ?_ (result_eq (V c main_arg0) (V c main_v2) (V c main_v3) (V c main_v4) ⟨(grid1.coords t 0).val, ht0⟩
    ⟨4 * (grid1.coords t 1).val + j.val, by omega⟩ r a d _ ?_ ?_).symm
  · unfold outsAt1
    refine (out_apply c (grid1.coords t) _ _ _ _ _ _ _ _ _ _ _ _ _ _ _ _ _ _ _ _ _ _ _ _ j r a d).trans ?_
    have e0 : ∀ (p : Fin 1024) (q : Fin 512) (z : S4096x4096.Idx), (z 0).val = 1024 * (grid1.coords t 0).val + p.val →
        (z 1).val = 512 * ((grid1.coords t 1).val) + q.val → iblk1 V c 0 t (ix2 p q) = V c main_arg0 z := fun p q z h0 h1 => by
      blk_simp [iblk1]
      refine congrArg (V c main_arg0) (funext (Fin.forall_fin_two.mpr ⟨Fin.ext ?_, Fin.ext ?_⟩))
      · blk_simp [idx0 t]; omega
      · blk_simp [idx0 t]; omega
    have e1 : ∀ (p : Fin 1024) (q : Fin 512) (z : S4096x4096.Idx), (z 0).val = 1024 * (grid1.coords t 0).val + p.val →
        (z 1).val = 512 * (2 + (grid1.coords t 1).val) + q.val → iblk1 V c 1 t (ix2 p q) = V c main_arg0 z := fun p q z h0 h1 => by
      blk_simp [iblk1]
      refine congrArg (V c main_arg0) (funext (Fin.forall_fin_two.mpr ⟨Fin.ext ?_, Fin.ext ?_⟩))
      · blk_simp [idx1 t]; omega
      · blk_simp [idx1 t]; omega
    have e2 : ∀ (p : Fin 1024) (q : Fin 512) (z : S4096x4096.Idx), (z 0).val = 1024 * (grid1.coords t 0).val + p.val →
        (z 1).val = 512 * (4 + (grid1.coords t 1).val) + q.val → iblk1 V c 2 t (ix2 p q) = V c main_arg0 z := fun p q z h0 h1 => by
      blk_simp [iblk1]
      refine congrArg (V c main_arg0) (funext (Fin.forall_fin_two.mpr ⟨Fin.ext ?_, Fin.ext ?_⟩))
      · blk_simp [idx2 t]; omega
      · blk_simp [idx2 t]; omega
    have e3 : ∀ (p : Fin 4096) (q : Fin 128) (z : S4x4096x128.Idx), (z 0).val = (grid1.coords t 0).val → (z 1).val = p.val → (z 2).val = q.val →
        iblk1 V c 3 t (ix3 0 p q) = V c main_v3 z := fun p q z h0 h1 h2 => by
      blk_simp [iblk1]
      refine congrArg (V c main_v3) (funext (Fin.forall_fin_succ.mpr ⟨Fin.ext ?_, Fin.forall_fin_two.mpr ⟨Fin.ext ?_, Fin.ext ?_⟩⟩))
      · blk_simp [idx3 t]; first | omega | (show (grid1.coords t 0).val * 1 + 0 = _; omega)
      · blk_simp [idx3 t]; first | omega | (show 0 * 4096 + p.val = (z 1).val; omega)
      · blk_simp [idx3 t]; first | omega | (show 0 * 128 + q.val = (z 2).val; omega)
    have e4 : ∀ (p : Fin 4096) (q : Fin 128) (z : S4x4096x128.Idx), (z 0).val = (grid1.coords t 0).val → (z 1).val = p.val → (z 2).val = q.val →
        iblk1 V c 4 t (ix3 0 p q) = V c main_v4 z := fun p q z h0 h1 h2 => by
      blk_simp [iblk1]
      refine congrArg (V c main_v4) (funext (Fin.forall_fin_succ.mpr ⟨Fin.ext ?_, Fin.forall_fin_two.mpr ⟨Fin.ext ?_, Fin.ext ?_⟩⟩))
      · blk_simp [idx4 t]; first | omega | (show (grid1.coords t 0).val * 1 + 0 = _; omega)
      · blk_simp [idx4 t]; first | omega | (show 0 * 4096 + p.val = (z 1).val; omega)
      · blk_simp [idx4 t]; first | omega | (show 0 * 128 + q.val = (z 2).val; omega)
    have e5 : ∀ (p : Fin 4) (q : Fin 2) (u : Fin 64) (w : Fin 1024) (z : S8x2x64x1024.Idx), (z 0).val = 4 * (grid1.coords t 1).val + p.val →
        (z 1).val = q.val → (z 2).val = u.val → (z 3).val = w.val → iblk1 V c 5 t (ix4 p q u w) = V c main_v2 z := fun p q u w z h0 h1 h2 h3 => by
      blk_simp [iblk1]
      refine congrArg (V c main_v2) (funext (Fin.forall_fin_succ.mpr ⟨Fin.ext ?_, Fin.forall_fin_succ.mpr ⟨Fin.ext ?_, Fin.forall_fin_two.mpr ⟨Fin.ext ?_, Fin.ext ?_⟩⟩⟩))
      · blk_simp [idx5 t]; omega
      · blk_simp [idx5 t]; first | omega | (show 0 * 2 + q.val = (z 1).val; omega)
      · blk_simp [idx5 t]; first | omega | (show 0 * 64 + u.val = (z 2).val; omega)
      · blk_simp [idx5 t]; first | omega | (show 0 * 1024 + w.val = (z 3).val; omega)
    refine congr (congr (congr (congrArg attend2 (funext fun b => ?_)) (funext fun b => ?_)) (funext fun b => ?_)) (funext fun b => ?_)
    · refine congrArg₂ (· + ·) (congrArg (· * kappa) (Finset.sum_congr rfl fun d _ => congrArg₂ (· * ·) (e0 _ _ _ ?_ ?_) (e1 _ _ _ ?_ ?_)))
        (e5 _ _ _ _ _ ?_ ?_ ?_ ?_)
      · rfl
      · show 1024 * 0 + (128 * (4 * (grid1.coords t 1).val + j.val) + d.val) = 512 * (grid1.coords t 1).val + (128 * j.val + d.val); omega
      · rfl
      · show 1024 * 1 + (128 * (4 * (grid1.coords t 1).val + j.val) + d.val) = 512 * (2 + (grid1.coords t 1).val) + (128 * j.val + d.val); omega
      · rfl
      · rfl
      · rfl
      · rfl
    · refine congrArg (· * kappa) (Finset.sum_congr rfl fun d _ => congrArg₂ (· * ·) (e0 _ _ _ ?_ ?_) (e3 _ _ _ ?_ ?_ ?_))
      · rfl
      · show 1024 * 0 + (128 * (4 * (grid1.coords t 1).val + j.val) + d.val) = 512 * (grid1.coords t 1).val + (128 * j.val + d.val); omega
      · rfl
      · rfl
      · rfl
    · refine e2 _ _ _ ?_ ?_
      · rfl
      · show 1024 * 2 + (128 * (4 * (grid1.coords t 1).val + j.val) + d.val) = 512 * (4 + (grid1.coords t 1).val) + (128 * j.val + d.val); omega
    · refine e4 _ _ _ ?_ ?_ ?_
      · rfl
      · rfl
      · rfl
  · blk_simp [idx6 t]
    show (grid1.coords t 0).val * 1024 + (64 * r.val + a.val) = 1024 * (grid1.coords t 0).val + (64 * r.val + a.val)
    omega
  · blk_simp [idx6 t]
    show (grid1.coords t 1).val * 512 + (128 * j.val + d.val) = 128 * (4 * (grid1.coords t 1).val + j.val) + d.val
    omega

end

end Cert.KernelIdeal.Block
-- ==== Proof.TableValue.lean ====
module

public import proofs.«01_k».proof.Proof.RegionValue

/-!
# The bias table the first region leaves, at an index

The tile of offset `dr` holds, for the query column `a` and the key column `b`, the row `dr` of the biases at the lane
`b - a + 15`, times the named `log2 e`, where `b` lies in the column window of `a`, and -∞ elsewhere. The table of parity `0` is
the fifteen tiles and a tile of zeros, that of parity `1` the zeros first.
-/

@[expose] public section

namespace Cert.KernelIdeal.Block

open Idealize.ShloMosaic Idealize.ShloMosaic.TcCoe Cert.KernelIdeal.Gen

noncomputable section

set_option maxRecDepth 16384

/-- The first key column of the window of query column `a`. -/
def colLo (a : ℕ) : ℕ := min 48 (a - 8)

/-- The named `log2 e`. -/
def log2e : EReal := (Named.named (F := Ideal) κ "log2e" 0x3FB8AA3B#32 : Ideal .f32)

/-- The entry `(a, b)` of the tile made of one row of biases. -/
def tileAt (w : Fin 128 → EReal) (a b : Fin 64) : EReal :=
  if colLo a.val ≤ b.val ∧ b.val < colLo a.val + 16 then w ⟨(b.val + 143 - a.val) % 128, Nat.mod_lt _ (by decide)⟩ * log2e else ⊥

theorem inbBias (dr : Fin 15) : ∀ i, (![0, dr.val, 0] : Fin 3 → ℕ) i + S1x1x128.size i ≤ S1x15x128.size i := by
  intro i; fin_cases i
  · show 0 + 1 ≤ 1; omega
  · show dr.val + 1 ≤ 15; omega
  · show 0 + 128 ≤ 128; omega

/-- The tile of offset `n`, zeros for an `n` outside the fifteen. -/
def piece (x0 : Vec Ideal S1x15x128 .f32) (n : ℕ) : FVec Ideal S64x64 .f32 :=
  if h : n < 15 then
    k0_pay2 (F := Ideal) (k0_pay6) (View.ld x0 (Rect.unit (s := S1x15x128) ![0, n, 0] S1x1x128.size (inbBias ⟨n, h⟩)))
  else k0_pay3 (F := Ideal)

/-- Sixteen tiles side by side. -/
def laid (f : Fin 16 → FVec Ideal S64x64 .f32) : FVec Ideal S1x1x64x1024 .f32 :=
  shapeCast S1x1x64x1024 (concatenate S64x1024 1 (List.ofFn fun n : Fin 16 => (⟨S64x64, f n⟩ : (s : Shape) × (s.Idx → EReal)))
    concatenates_S64x64_S64x64_S64x64_S64x64_S64x64_S64x64_S64x64_S64x64_S64x64_S64x64_S64x64_S64x64_S64x64_S64x64_S64x64_S64x64_S64x1024_d1) shapeCasts_S64x1024_S1x1x64x1024

theorem out0_eq (x0 : Vec Ideal S1x15x128 .f32) : out0_1 (F := Ideal) x0 =
    View.canon [⟨r0_16, laid fun n => if n.val = 0 then k0_pay3 (F := Ideal) else piece x0 (n.val - 1)⟩, ⟨r0_15, laid fun n => piece x0 n.val⟩] := rfl

theorem mask_apply : ∀ a b : Fin 64, k0_pay6 (ix2 a b) = if colLo a.val ≤ b.val ∧ b.val < colLo a.val + 16 then 1#1 else 0#1 := by
  intro a b
  unfold k0_pay6
  pointwise []
  revert a b
  decide +kernel

theorem tile_apply (w : Vec Ideal S1x1x128 .f32) (a b : Fin 64) :
    k0_pay2 (F := Ideal) k0_pay6 w (ix2 a b) = tileAt (fun l => w (ix3 0 0 l)) a b := by
  have hm := mask_apply a b
  unfold k0_pay2
  generalize k0_pay6 = M at hm ⊢
  pointwise []
  rw [hm]
  unfold tileAt
  split_ifs with hv
  · refine congrArg (fun l => w (ix3 0 0 l) * log2e) (Fin.ext ?_)
    show (b.val + 128 - (113 + a.val) % 128) % 128 = (b.val + 143 - a.val) % 128
    omega
  · rfl

theorem laid_apply (f : Fin 16 → FVec Ideal S64x64 .f32) (a : Fin 64) (k : Fin 1024) :
    laid f (ix4 0 0 a k) = f ⟨k.val / 64, by omega⟩ (ix2 a ⟨k.val % 64, by omega⟩) := by
  unfold laid
  have e : ∀ v : FVec Ideal S64x1024 .f32, shapeCast S1x1x64x1024 v shapeCasts_S64x1024_S1x1x64x1024 (ix4 0 0 a k) = v (ix2 a k) := by
    intro v; pointwise []
  rw [e]
  refine concatenate_ofFn_apply (t := S64x1024) (s₁ := S64x64) 1 f _ rfl 64 rfl (ix2 a k) ⟨k.val / 64, by omega⟩ rfl (ix2 a ⟨k.val % 64, by omega⟩) rfl ?_
  intro i hi
  fin_cases i
  · rfl
  · exact absurd rfl hi

/-- Tile `n` of one head's biases, at `(a, b)`: the tile of row `n`, or zero. -/
def pieceAt (B : Fin 15 → Fin 128 → EReal) (n : ℕ) (a b : Fin 64) : EReal :=
  if h : n < 15 then tileAt (B ⟨n, h⟩) a b else 0

theorem piece_apply (x0 : Vec Ideal S1x15x128 .f32) (n : ℕ) (a b : Fin 64) :
    piece x0 n (ix2 a b) = pieceAt (fun dr l => x0 (ix3 0 dr l)) n a b := by
  unfold piece pieceAt
  split_ifs with h
  · refine (tile_apply _ a b).trans (congrArg (fun w => tileAt w a b) (funext fun l => ?_))
    refine congrArg x0 (funext fun i => Fin.ext ?_)
    fin_cases i
    · rfl
    · show n + 1 * 0 = n; omega
    · show 0 + 1 * l.val = l.val; omega
  · show (Ideal.ofBits .f32 0x00000000#32 : EReal) = 0
    exact Ideal.ofBits_zero ..

/-- One head's table from its rows of biases. -/
def tableAt (B : Fin 15 → Fin 128 → EReal) (e : Fin 2) (a : Fin 64) (k : Fin 1024) : EReal :=
  if e = 0 then pieceAt B (k.val / 64) a ⟨k.val % 64, by omega⟩
  else if k.val / 64 = 0 then 0 else pieceAt B (k.val / 64 - 1) a ⟨k.val % 64, by omega⟩

theorem out0_apply (x0 : Vec Ideal S1x15x128 .f32) (e : Fin 2) (a : Fin 64) (k : Fin 1024) :
    out0_1 (F := Ideal) x0 (ix4 0 e a k) = tableAt (fun dr l => x0 (ix3 0 dr l)) e a k := by
  rw [out0_eq]
  unfold tableAt
  fin_cases e
  · rw [View.canon_cons_of_not_mem]
    · have h : r0_15.emb (ix4 0 0 a k) = ix4 0 0 a k := by
        refine funext fun i => Fin.ext ?_
        fin_cases i
        · rfl
        · rfl
        · show 0 + 1 * a.val = a.val; omega
        · show 0 + 1 * k.val = k.val; omega
      refine (congrArg _ h.symm).trans ((View.canon_cons_emb _ _ _ _).trans ?_)
      exact (laid_apply _ a k).trans (piece_apply _ _ _ _)
    · rintro hm
      obtain ⟨z, hz, h1⟩ := r0_16.mem_set.mp hm 1
      have h2 : (0 : ℕ) = 1 + 1 * z := h1
      omega
  · have h : r0_16.emb (ix4 0 0 a k) = ix4 0 1 a k := by
      refine funext fun i => Fin.ext ?_
      fin_cases i
      · rfl
      · rfl
      · show 0 + 1 * a.val = a.val; omega
      · show 0 + 1 * k.val = k.val; omega
    refine (congrArg _ h.symm).trans ((View.canon_cons_emb _ _ _ _).trans ?_)
    refine (laid_apply _ a k).trans ?_
    show (if k.val / 64 = 0 then k0_pay3 (F := Ideal) else piece x0 (k.val / 64 - 1)) _ =
      if k.val / 64 = 0 then 0 else pieceAt (fun dr l => x0 (ix3 0 dr l)) (k.val / 64 - 1) a ⟨k.val % 64, by omega⟩
    split_ifs with h0
    · show (Ideal.ofBits .f32 0x00000000#32 : EReal) = 0
      exact Ideal.ofBits_zero ..
    · exact piece_apply _ _ _ _

theorem idx00 : ∀ t : Fin grid0.N, win0_0.index t = ![(grid0.coords t 0).val, 0, 0] := by decide +kernel
theorem idx01 : ∀ t : Fin grid0.N, win0_1.index t = ![(grid0.coords t 0).val, 0, 0, 0] := by decide +kernel

variable (V : (c : Dev nD) → (b : Ref sig .tc) → Buf (Elt Ideal) ((c : Thread nD τ).loc b))

/-- The tables of all heads. -/
def table (B : Vec Ideal S8x15x128 .f32) : Vec Ideal S8x2x64x1024 .f32 :=
  fun y => tableAt (fun dr l => B (ix3 (y 0) dr l)) (y 1) (y 2) (y 3)

theorem final0 (c : Dev nD) : (dat0 V c).arrAt 1 cfg0.N = table (V c main_v1) := by
  refine (dat0 V c).arrAt_eq_of_covers 1 _ (by decide +kernel) fun t hf y => ?_
  blk_simp
  rw [after0_1]
  obtain ⟨y0, e, a, k, rfl⟩ : ∃ (y0 : Fin 1) (e : Fin 2) (a : Fin 64) (k : Fin 1024), y = ix4 y0 e a k := ⟨y 0, y 1, y 2, y 3, eq_ix4 y⟩
  obtain rfl : y0 = 0 := Subsingleton.elim _ _
  have ht0 : (grid0.coords t 0).val < 8 := (grid0.coords t 0).isLt
  refine (out0_apply _ e a k).trans ?_
  refine Eq.trans (b := tableAt (fun dr l => V c main_v1 (ix3 ⟨(grid0.coords t 0).val, ht0⟩ dr l)) e a k)
    (congrArg (fun B => tableAt B e a k) (funext fun dr => funext fun l => ?_)) (congrArg (table (V c main_v1))
      (show ix4 ⟨(grid0.coords t 0).val, ht0⟩ e a k = _ from funext fun i => Fin.ext ?_))
  · blk_simp [iblk0]
    refine congrArg (V c main_v1) (funext fun i => Fin.ext ?_)
    fin_cases i
    · blk_simp [idx00 t]; rfl
    · blk_simp [idx00 t]; rfl
    · blk_simp [idx00 t]; rfl
  · fin_cases i
    · blk_simp [idx01 t]; rfl
    · blk_simp [idx01 t]; rfl
    · blk_simp [idx01 t]; rfl
    · blk_simp [idx01 t]; rfl

end

end Cert.KernelIdeal.Block
-- ==== Proof.RefMask.lean ====
module

public import proofs.«01_k».proof.Proof.RefGather
public import proofs.«01_k».proof.Proof.TableValue

/-!
# The reference's integer buffers

The first row of each window, the column windows, the bias columns and the bias rows, as numbers.
-/

@[expose] public section

namespace Cert.ReferenceIdeal.Block

open Cert.ReferenceIdeal Cert.ReferenceIdeal.Gen Cert.ReferenceIdeal.Read Idealize.ShloMosaic Idealize.ShloMosaic.TcCoe
open Cert.KernelIdeal.Block (first first_le biasTile biasTile_le colLo)

noncomputable section

set_option maxRecDepth 16384

theorem first_at : ∀ r : Fin 16, val_main_v49 (F := Ideal) (ix1 r) = BitVec.ofNat 32 (first r) := by decide +kernel

theorem start_at : ∀ r : Fin 16, val_main_v54 (F := Ideal) (ix1 r) = BitVec.ofNat 32 (first r) := by decide +kernel

theorem start_at' : ∀ r : Fin 16, val_main_v66 (F := Ideal) (ix1 r) = BitVec.ofNat 32 (first r) := by decide +kernel

theorem offset_at : ∀ (r : Fin 16) (j : Fin 8), val_main_call3_v5 (F := Ideal) (ix3 r j 0) = BitVec.ofNat 32 (biasTile r + j.val) := by decide +kernel

theorem inside_at : ∀ (r : Fin 16) (j : Fin 8), val_main_call3_v11 (F := Ideal) (ix3 r j 0) = 1#1 := by decide +kernel

theorem window_at : ∀ a k : Fin 64, val_main_v30 (F := Ideal) (ix2 a k) = if colLo a.val ≤ k.val ∧ k.val < colLo a.val + 16 then 1#1 else 0#1 := by decide +kernel

theorem column_at : ∀ a k : Fin 64, val_main_v44 (F := Ideal) (ix3 a k 0) = BitVec.ofNat 32 (min 30 (k.val + 15 - a.val)) := by decide +kernel

end

end Cert.ReferenceIdeal.Block
-- ==== Proof.Softmax.lean ====
module

public import proofs.«01_k».proof.Proof.BlockValue
public import Mathlib.Data.EReal.Operations

/-!
# The attention of one query: powers of two of scaled scores are the exponentials

`attend2` takes scores already scaled by `(log 2)⁻¹`, keeps the weights unnormalised and multiplies by the inverse of their sum at the end;
`softmax2` normalises every weight. They agree where each score of the window is real or -∞ and each score of the cache is real;
the values are any extended reals.
-/

@[expose] public section

namespace Cert.KernelIdeal.Block

open Idealize.ShloMosaic

noncomputable section

/-- The attention of one query with normalised weights. -/
def softmax2 (s t v w : Fin 512 → EReal) : EReal :=
  let m := max ⊥ (max ((Finset.univ : Finset (Fin 512)).fold max ⊥ s) ((Finset.univ : Finset (Fin 512)).fold max ⊥ t))
  let z := (∑ b, Ideal.exp (s b - m)) + ∑ b, Ideal.exp (t b - m)
  (∑ b, v b * Ideal.div (Ideal.exp (s b - m)) z) + ∑ b, w b * Ideal.div (Ideal.exp (t b - m)) z

/-- Multiplying by a positive real commutes with the largest of a family. -/
theorem fold_mul (f : Fin 512 → EReal) (c : ℝ) (hc : 0 < c) :
    ((Finset.univ : Finset (Fin 512)).fold max ⊥ fun b => f b * (c : EReal)) = (Finset.univ : Finset (Fin 512)).fold max ⊥ f * (c : EReal) := by
  have hm : Monotone fun x : EReal => x * (c : EReal) := fun x y h => mul_le_mul_of_nonneg_right h (by exact_mod_cast hc.le)
  exact (Finset.comp_sup_eq_sup_comp_of_is_total (s := Finset.univ) (f := f) (fun x : EReal => x * (c : EReal)) hm (EReal.bot_mul_coe_of_pos hc)).symm

/-- A largest score is one of the scores. -/
theorem fold_mem (f : Fin 512 → EReal) : ∃ b, (Finset.univ : Finset (Fin 512)).fold max ⊥ f = f b := by
  obtain ⟨b, -, h⟩ := Finset.exists_mem_eq_sup (Finset.univ : Finset (Fin 512)) Finset.univ_nonempty f
  exact ⟨b, h⟩

theorem exp2_scaled (x : EReal) (hx : x = ⊥ ∨ ∃ r : ℝ, x = r) (μ c : ℝ) (hc : c = (Real.log 2)⁻¹) :
    Ideal.exp2 (x * (c : EReal) - (μ : EReal) * (c : EReal)) = Ideal.exp (x - (μ : EReal)) := by
  have h2 : (0 : ℝ) < Real.log 2 := Real.log_pos (by norm_num)
  have hcp : 0 < c := by rw [hc]; exact inv_pos.mpr h2
  rcases hx with rfl | ⟨r, rfl⟩
  · rw [EReal.bot_mul_coe_of_pos hcp, EReal.bot_sub, EReal.bot_sub]; rfl
  · rw [← EReal.coe_mul, ← EReal.coe_mul, ← EReal.coe_sub, ← EReal.coe_sub, Ideal.exp2_coe, Ideal.exp_coe]
    refine congrArg _ ?_
    show (2 : ℝ) ^ (r * c - μ * c) = Real.exp (r - μ)
    rw [Real.rpow_def_of_pos (by norm_num), hc]
    refine congrArg _ ?_
    field_simp

theorem exp_real (x : EReal) (hx : x = ⊥ ∨ ∃ r : ℝ, x = r) (μ : ℝ) : ∃ e : ℝ, 0 ≤ e ∧ Ideal.exp (x - (μ : EReal)) = (e : EReal) := by
  rcases hx with rfl | ⟨r, rfl⟩
  · exact ⟨0, le_refl _, by rw [EReal.bot_sub]; rfl⟩
  · exact ⟨Real.exp (r - μ), (Real.exp_pos _).le, by rw [← EReal.coe_sub, Ideal.exp_coe]⟩

/-- A sum of reals in the extended reals. -/
theorem sum_real (e : Fin 512 → ℝ) : ∑ b, ((e b : ℝ) : EReal) = ((∑ b, e b : ℝ) : EReal) :=
  (map_sum (⟨⟨Real.toEReal, EReal.coe_zero⟩, EReal.coe_add⟩ : ℝ →+ EReal) e Finset.univ).symm

/-- A sum times a nonnegative real. -/
theorem sum_mul_real (f : Fin 512 → EReal) (k : ℝ) (hk : 0 ≤ k) : (∑ b, f b) * (k : EReal) = ∑ b, f b * (k : EReal) :=
  map_sum (⟨⟨fun x : EReal => x * (k : EReal), zero_mul _⟩,
    fun x y => EReal.right_distrib_of_nonneg_of_ne_top (by exact_mod_cast hk) (EReal.coe_ne_top k) x y⟩ : EReal →+ EReal) f Finset.univ

theorem attend2_eq (s t v w : Fin 512 → EReal) (hs : ∀ b, s b = ⊥ ∨ ∃ r : ℝ, s b = r) (ht : ∀ b, ∃ r : ℝ, t b = r) (c : ℝ) (hc : c = (Real.log 2)⁻¹) :
    attend2 (fun b => s b * (c : EReal)) (fun b => t b * (c : EReal)) v w = softmax2 s t v w := by
  have hcp : 0 < c := by rw [hc]; exact inv_pos.mpr (Real.log_pos (by norm_num))
  have hm : Monotone fun x : EReal => x * (c : EReal) := fun x y h => mul_le_mul_of_nonneg_right h (by exact_mod_cast hcp.le)
  obtain ⟨μ, hμ⟩ : ∃ μ : ℝ, max ((Finset.univ : Finset (Fin 512)).fold max ⊥ s) ((Finset.univ : Finset (Fin 512)).fold max ⊥ t) = μ := by
    obtain ⟨b, hb⟩ := fold_mem s
    obtain ⟨b', hb'⟩ := fold_mem t
    rw [hb, hb']
    obtain ⟨r', hr'⟩ := ht b'
    rcases hs b with h | ⟨r, h⟩
    · exact ⟨r', by rw [h, hr', max_eq_right bot_le]⟩
    · exact ⟨max r r', by rw [h, hr']; exact (EReal.coe_strictMono.monotone.map_max).symm⟩
  have ht' : ∀ b, t b = ⊥ ∨ ∃ r : ℝ, t b = r := fun b => .inr (ht b)
  choose e he0 he using fun b => exp_real (s b) (hs b) μ
  choose f hf0 hf using fun b => exp_real (t b) (ht' b) μ
  have hfp : 0 < f 0 := by
    obtain ⟨r, hr⟩ := ht 0
    have h := hf 0
    rw [hr, ← EReal.coe_sub, Ideal.exp_coe] at h
    rw [← EReal.coe_injective h]
    exact Real.exp_pos _
  have hz : 0 < (∑ b, e b) + ∑ b, f b :=
    add_pos_of_nonneg_of_pos (Finset.sum_nonneg fun b _ => he0 b) (Finset.sum_pos' (fun b _ => hf0 b) ⟨0, Finset.mem_univ _, hfp⟩)
  have hk : 0 ≤ 1 / ((∑ b, e b) + ∑ b, f b) := (one_div_pos.mpr hz).le
  unfold attend2 softmax2
  simp only [fold_mul _ c hcp, ← hm.map_max]
  rw [hμ, max_eq_right bot_le]
  simp only [exp2_scaled _ (hs _) μ c hc, exp2_scaled _ (ht' _) μ c hc, he, hf, sum_real, ← EReal.coe_add, Ideal.div_coe hz.ne', one_mul]
  rw [EReal.right_distrib_of_nonneg_of_ne_top (by exact_mod_cast hk) (EReal.coe_ne_top _), sum_mul_real _ _ hk, sum_mul_real _ _ hk]
  refine congrArg₂ (· + ·) (Finset.sum_congr rfl fun b _ => ?_) (Finset.sum_congr rfl fun b _ => ?_)
  · rw [mul_comm (e b : EReal), mul_assoc]
  · rw [mul_comm (f b : EReal), mul_assoc]

end

end Cert.KernelIdeal.Block
-- ==== Proof.RefValue.lean ====
module

public import proofs.«01_k».proof.Proof.RefMask
public import proofs.«01_k».proof.Proof.Softmax
public import Idealize.ShloMosaic.Lib.Tactic.CleanTypes

/-!
# The reference's scores at an index
-/

@[expose] public section

namespace Cert.ReferenceIdeal.Block

open Cert.ReferenceIdeal Cert.ReferenceIdeal.Gen Cert.ReferenceIdeal.Read Idealize.ShloMosaic Idealize.ShloMosaic.TcCoe
open Cert.KernelIdeal.Block (first first_le biasTile biasTile_le colLo softmax2)

noncomputable section

set_option maxRecDepth 16384

variable (x0 : Vec Ideal S4096x4096 .bf16) (x1 x2 : Vec Ideal S4x1x512x8x128 .f32) (x3 : Vec Ideal S1x8x15x31 .f32)

theorem toNat_small (n : ℕ) (h : n < 100) : (BitVec.ofNat 32 n).toInt.toNat = n := by
  rw [BitVec.toInt_eq_toNat_of_lt (by rw [BitVec.toNat_ofNat]; omega), BitVec.toNat_ofNat]; omega

/-- Batch, row and column of a token named together. -/
theorem rows_idx (bt : Fin 4) (r : Fin 16) (a : Fin 64) (hd : Fin 8) (d : Fin 128) :
    idx_main_v11 (ix5 bt r a hd d) = ix4 bt ⟨64 * r.val + a.val, by omega⟩ hd d := by
  refine funext fun i => Fin.ext ?_
  fin_cases i
  · show ((((bt.val * 16 + r.val) * 64 + a.val) * 8 + hd.val) * 128 + d.val) / 1048576 = bt.val; omega
  · show ((((bt.val * 16 + r.val) * 64 + a.val) * 8 + hd.val) * 128 + d.val) / 1024 % 1024 = 64 * r.val + a.val; omega
  · show ((((bt.val * 16 + r.val) * 64 + a.val) * 8 + hd.val) * 128 + d.val) / 128 % 8 = hd.val; omega
  · show ((((bt.val * 16 + r.val) * 64 + a.val) * 8 + hd.val) * 128 + d.val) % 128 = d.val; omega

/-- Batch and token, head and lane named together. -/
theorem token_idx (bt : Fin 4) (y : Fin 1024) (hd : Fin 8) (d : Fin 128) :
    idx_main_v5 (ix4 bt y hd d) = ix2 ⟨1024 * bt.val + y.val, by omega⟩ ⟨128 * hd.val + d.val, by omega⟩ := by
  refine funext (Fin.forall_fin_two.mpr ⟨Fin.ext ?_, Fin.ext ?_⟩)
  · show (((bt.val * 1024 + y.val) * 8 + hd.val) * 128 + d.val) / 1024 = 1024 * bt.val + y.val; omega
  · show (((bt.val * 1024 + y.val) * 8 + hd.val) * 128 + d.val) % 1024 = 128 * hd.val + d.val; omega

theorem queries_apply (r : Fin 16) (bt : Fin 4) (a : Fin 64) (hd : Fin 8) (d : Fin 128) (z : S4096x4096.Idx)
    (h0 : (z 0).val = 1024 * bt.val + (64 * r.val + a.val)) (h1 : (z 1).val = 1024 * 0 + (128 * hd.val + d.val)) :
    val_main_v11 (F := Ideal) x0 (ix5 bt r a hd d) = x0 z := by
  rw [val_main_v11_apply, rows_idx, val_main_v5_apply, token_idx, val_main_v1_apply, val_main_v0_apply]
  refine congrArg x0 (funext (Fin.forall_fin_two.mpr ⟨Fin.ext ?_, Fin.ext ?_⟩))
  · exact h0.symm
  · refine Eq.trans ?_ h1.symm; show 128 * hd.val + d.val = _; omega

theorem keys_apply (r : Fin 16) (bt : Fin 4) (a : Fin 64) (hd : Fin 8) (d : Fin 128) (z : S4096x4096.Idx)
    (h0 : (z 0).val = 1024 * bt.val + (64 * r.val + a.val)) (h1 : (z 1).val = 1024 * 1 + (128 * hd.val + d.val)) :
    val_main_v12 (F := Ideal) x0 (ix5 bt r a hd d) = x0 z := by
  rw [val_main_v12_apply, show idx_main_v12 (ix5 bt r a hd d) = _ from rows_idx bt r a hd d, val_main_v6_apply,
    show idx_main_v6 (ix4 bt _ hd d) = _ from token_idx bt _ hd d, val_main_v2_apply, val_main_v0_apply]
  refine congrArg x0 (funext (Fin.forall_fin_two.mpr ⟨Fin.ext ?_, Fin.ext ?_⟩))
  · exact h0.symm
  · exact h1.symm

theorem values_apply (r : Fin 16) (bt : Fin 4) (a : Fin 64) (hd : Fin 8) (d : Fin 128) (z : S4096x4096.Idx)
    (h0 : (z 0).val = 1024 * bt.val + (64 * r.val + a.val)) (h1 : (z 1).val = 1024 * 2 + (128 * hd.val + d.val)) :
    val_main_v13 (F := Ideal) x0 (ix5 bt r a hd d) = x0 z := by
  rw [val_main_v13_apply, show idx_main_v13 (ix5 bt r a hd d) = _ from rows_idx bt r a hd d, val_main_v7_apply,
    show idx_main_v7 (ix4 bt _ hd d) = _ from token_idx bt _ hd d, val_main_v3_apply, val_main_v0_apply]
  refine congrArg x0 (funext (Fin.forall_fin_two.mpr ⟨Fin.ext ?_, Fin.ext ?_⟩))
  · exact h0.symm
  · exact h1.symm

theorem cache_idx (bt : Fin 4) (b : Fin 512) (hd : Fin 8) (d : Fin 128) : idx_main_v8 (ix4 bt b hd d) = ix5 bt 0 b hd d := by
  refine funext fun i => Fin.ext ?_
  fin_cases i
  · show (((bt.val * 512 + b.val) * 8 + hd.val) * 128 + d.val) / 524288 = bt.val; omega
  · rfl
  · show (((bt.val * 512 + b.val) * 8 + hd.val) * 128 + d.val) / 1024 % 512 = b.val; omega
  · show (((bt.val * 512 + b.val) * 8 + hd.val) * 128 + d.val) / 128 % 8 = hd.val; omega
  · show (((bt.val * 512 + b.val) * 8 + hd.val) * 128 + d.val) % 128 = d.val; omega

theorem start_apply (r : Fin 16) : val_main_v60 (F := Ideal) (ix2 r 1) = BitVec.ofNat 32 (first r) := by
  have h := start_at r
  unfold val_main_v60
  have e : val_main_v56 (F := Ideal) (ix2 r 0) = val_main_v54 (F := Ideal) (ix1 r) := by
    rw [val_main_v56_apply]; exact congrArg _ (funext fun i => by fin_cases i; rfl)
  generalize val_main_v56 (F := Ideal) = y at e ⊢
  rw [h] at e
  generalize val_main_v55 (F := Ideal) = y0
  generalize val_main_v57 (F := Ideal) = y2
  generalize val_main_v58 (F := Ideal) = y3
  generalize val_main_v59 (F := Ideal) = y4
  clean_types
  pointwise []
  exact e

theorem start_apply' (r : Fin 16) : val_main_v72 (F := Ideal) (ix2 r 1) = BitVec.ofNat 32 (first r) := by
  have h := start_at' r
  unfold val_main_v72
  have e : val_main_v68 (F := Ideal) (ix2 r 0) = val_main_v66 (F := Ideal) (ix1 r) := by
    rw [val_main_v68_apply]; exact congrArg _ (funext fun i => by fin_cases i; rfl)
  generalize val_main_v68 (F := Ideal) = y at e ⊢
  rw [h] at e
  generalize val_main_v67 (F := Ideal) = y0
  generalize val_main_v69 (F := Ideal) = y2
  generalize val_main_v70 (F := Ideal) = y3
  generalize val_main_v71 (F := Ideal) = y4
  clean_types
  pointwise []
  exact e

theorem windowKeys_apply (r : Fin 16) (bt : Fin 4) (j : Fin 8) (k : Fin 64) (hd : Fin 8) (d : Fin 128) (z : S4096x4096.Idx)
    (h0 : (z 0).val = 1024 * bt.val + (64 * first r + (64 * j.val + k.val))) (h1 : (z 1).val = 1024 * 1 + (128 * hd.val + d.val)) :
    val_main_v61 (F := Ideal) x0 (ix6 r bt j k hd d) = x0 z := by
  have hf := first_le r
  have e : (val_main_v60 (F := Ideal) (ix2 r 1)).toInt.toNat = first r := (congrArg (fun w : BitVec 32 => w.toInt.toNat) (start_apply r)).trans (toNat_small (first r) (by omega))
  refine (gather_rows (val_main_v12 (F := Ideal) x0) (val_main_v60 (F := Ideal)) r bt j k hd d (first r) e hf).trans ?_
  refine keys_apply x0 _ bt k hd d z (h0.trans ?_) h1
  show _ = 1024 * bt.val + (64 * (first r + j.val) + k.val)
  omega

theorem windowValues_apply (r : Fin 16) (bt : Fin 4) (j : Fin 8) (k : Fin 64) (hd : Fin 8) (d : Fin 128) (z : S4096x4096.Idx)
    (h0 : (z 0).val = 1024 * bt.val + (64 * first r + (64 * j.val + k.val))) (h1 : (z 1).val = 1024 * 2 + (128 * hd.val + d.val)) :
    val_main_v73 (F := Ideal) x0 (ix6 r bt j k hd d) = x0 z := by
  have hf := first_le r
  have e : (val_main_v72 (F := Ideal) (ix2 r 1)).toInt.toNat = first r := (congrArg (fun w : BitVec 32 => w.toInt.toNat) (start_apply' r)).trans (toNat_small (first r) (by omega))
  refine (gather_rows (val_main_v13 (F := Ideal) x0) (val_main_v72 (F := Ideal)) r bt j k hd d (first r) e hf).trans ?_
  refine values_apply x0 _ bt k hd d z (h0.trans ?_) h1
  show _ = 1024 * bt.val + (64 * (first r + j.val) + k.val)
  omega

theorem mask_take (r : Fin 16) (j : Fin 8) : val_main_call3_v12 (F := Ideal) (ix2 r j) = 1#1 := by
  unfold val_main_call3_v12
  have h := inside_at r j
  generalize val_main_call3_v11 (F := Ideal) = M at h ⊢
  unfold val_main_call3_c_3
  clean_types
  pointwise []
  rw [Finset.univ_unique, Finset.fold_singleton]
  show IntOp.andi (M (ix3 r j 0)) 1#1 = 1#1
  rw [h]
  rfl

theorem bias_apply (r : Fin 16) (hd : Fin 8) (j : Fin 8) (a k : Fin 64) :
    val_main_v85 (F := Ideal) x3 (ix5 r hd j a k) =
      x3 (ix4 0 hd ⟨biasTile r + j.val, by have := biasTile_le r; omega⟩ ⟨min 30 (k.val + 15 - a.val), by omega⟩) := by
  have hb := biasTile_le r
  rw [val_main_v85_apply, val_main_call3_v14_apply, show idx_main_call3_v14 (ix5 r hd j a k) = ix2 r j from funext (Fin.forall_fin_two.mpr ⟨rfl, rfl⟩),
    mask_take, ValueIdx.select_one]
  have e1 : (val_main_call3_v5 (F := Ideal) (ix3 r j 0)).toInt.toNat = biasTile r + j.val :=
    (congrArg (fun w : BitVec 32 => w.toInt.toNat) (offset_at r j)).trans (toNat_small (biasTile r + j.val) (by omega))
  have e2 : (val_main_v44 (F := Ideal) (ix3 a k 0)).toInt.toNat = min 30 (k.val + 15 - a.val) :=
    (congrArg (fun w : BitVec 32 => w.toInt.toNat) (column_at a k)).trans (toNat_small (min 30 (k.val + 15 - a.val)) (by omega))
  refine (gather_offsets (val_main_v45 (F := Ideal) x3) (val_main_call3_v5 (F := Ideal)) r hd j a k _ e1 (by omega)).trans ?_
  refine (gather_columns (val_main_v10 (F := Ideal) x3) (val_main_v44 (F := Ideal)) hd _ a k _ e2 (by omega)).trans ?_
  rw [val_main_v10_apply]
  refine congrArg x3 (funext fun i => Fin.ext ?_)
  fin_cases i
  · rfl
  · show ((hd.val * 15 + (biasTile r + j.val)) * 31 + min 30 (k.val + 15 - a.val)) / 465 % 8 = hd.val; omega
  · show ((hd.val * 15 + (biasTile r + j.val)) * 31 + min 30 (k.val + 15 - a.val)) / 31 % 15 = biasTile r + j.val; omega
  · show ((hd.val * 15 + (biasTile r + j.val)) * 31 + min 30 (k.val + 15 - a.val)) % 31 = min 30 (k.val + 15 - a.val); omega

theorem windowScore_apply (r : Fin 16) (bt : Fin 4) (hd : Fin 8) (a : Fin 64) (j : Fin 8) (k : Fin 64) :
    val_main_v94 (F := Ideal) x0 x3 (ix6 r bt hd a j k) = if colLo a.val ≤ k.val ∧ k.val < colLo a.val + 16 then
      (∑ d : Fin 128, val_main_v11 (F := Ideal) x0 (ix5 bt r a hd d) * val_main_v61 (F := Ideal) x0 (ix6 r bt j k hd d)) * Ideal.ofBits .f32 0x3DB504F3#32
        + val_main_v85 (F := Ideal) x3 (ix5 r hd j a k) else ⊥ := by
  have hm : val_main_call4_v3 (F := Ideal) (ix6 r bt hd a j k) = val_main_v30 (F := Ideal) (ix2 a k) := by
    rw [val_main_call4_v3_apply, val_main_call4_v1_apply, val_main_v93_apply]
    exact congrArg _ (funext (Fin.forall_fin_two.mpr ⟨rfl, rfl⟩))
  have hi : val_main_call4_v4 (F := Ideal) (ix6 r bt hd a j k) = (⊥ : EReal) := by
    rw [val_main_call4_v4_apply, val_main_call4_v2_apply]; rfl
  rw [val_main_v94_apply, hm, hi, window_at, val_main_v92_apply, val_main_v89_apply, val_main_v91_apply, val_main_v90_apply, val_main_v86_apply, val_main_v87_apply,
    val_main_v88_apply, val_main_cst_apply]
  have e1 : ∀ d : Fin 128, lidx_main_v87 (ix6 r bt hd a j k) d = ix5 bt r a hd d := fun d => funext fun i => by fin_cases i <;> rfl
  have e2 : ∀ d : Fin 128, ridx_main_v87 (ix6 r bt hd a j k) d = ix6 r bt j k hd d := fun d => funext fun i => by fin_cases i <;> rfl
  have e3 : idx_main_v86 (idx_main_v90 (idx_main_v91 (ix6 r bt hd a j k))) = ix5 r hd j a k := funext fun i => by fin_cases i <;> rfl
  simp only [e1, e2, e3]
  split_ifs <;> rfl

theorem cacheScore_apply (r : Fin 16) (bt : Fin 4) (hd : Fin 8) (a : Fin 64) (b : Fin 512) :
    val_main_v99 (F := Ideal) x0 x1 (ix5 r bt hd a b) =
      (∑ d : Fin 128, val_main_v11 (F := Ideal) x0 (ix5 bt r a hd d) * x1 (ix5 bt 0 b hd d)) * Ideal.ofBits .f32 0x3DB504F3#32 := by
  rw [val_main_v99_apply, val_main_v98_apply, val_main_v97_apply, val_main_cst_25_apply, val_main_v96_apply]
  have e1 : ∀ d : Fin 128, lidx_main_v96 (idx_main_v99 (ix5 r bt hd a b)) d = ix5 bt r a hd d := fun d => funext fun i => by fin_cases i <;> rfl
  have e2 : ∀ d : Fin 128, ridx_main_v96 (idx_main_v99 (ix5 r bt hd a b)) d = ix4 bt b hd d := fun d => funext fun i => by fin_cases i <;> rfl
  simp only [e1, e2, val_main_v8_apply, cache_idx]
  rfl

end

end Cert.ReferenceIdeal.Block
-- ==== Proof.RefOut.lean ====
module

public import proofs.«01_k».proof.Proof.RefValue

/-!
# The reference's result at an index
-/

@[expose] public section

namespace Cert.ReferenceIdeal.Block

open Cert.ReferenceIdeal Cert.ReferenceIdeal.Gen Cert.ReferenceIdeal.Read Idealize.ShloMosaic Idealize.ShloMosaic.TcCoe
open Cert.KernelIdeal.Block (first first_le biasTile biasTile_le colLo softmax2)

noncomputable section

set_option maxRecDepth 16384

variable (x0 : Vec Ideal S4096x4096 .bf16) (x1 x2 : Vec Ideal S4x1x512x8x128 .f32) (x3 : Vec Ideal S1x8x15x31 .f32)

theorem fold_halves (f : Fin 1024 → EReal) : (Finset.univ : Finset (Fin 1024)).fold max ⊥ f =
    max ((Finset.univ : Finset (Fin 512)).fold max ⊥ fun b => f ⟨b.val, by omega⟩) ((Finset.univ : Finset (Fin 512)).fold max ⊥ fun b => f ⟨512 + b.val, by omega⟩) := by
  show Finset.univ.sup f = Finset.univ.sup (fun b : Fin 512 => f ⟨b.val, by omega⟩) ⊔ Finset.univ.sup (fun b : Fin 512 => f ⟨512 + b.val, by omega⟩)
  refine le_antisymm (Finset.sup_le fun c _ => ?_) (sup_le (Finset.sup_le fun b _ => Finset.le_sup (Finset.mem_univ _)) (Finset.sup_le fun b _ => Finset.le_sup (Finset.mem_univ _)))
  by_cases h : c.val < 512
  · exact le_sup_of_le_left (Finset.le_sup (f := fun b : Fin 512 => f ⟨b.val, by omega⟩) (Finset.mem_univ ⟨c.val, h⟩))
  · refine le_sup_of_le_right (le_trans (le_of_eq (congrArg f (Fin.ext ?_))) (Finset.le_sup (f := fun b : Fin 512 => f ⟨512 + b.val, by omega⟩) (Finset.mem_univ ⟨c.val - 512, by omega⟩)))
    show c.val = 512 + (c.val - 512); omega

theorem sum_halves (f : Fin 1024 → EReal) : ∑ c, f c = (∑ b : Fin 512, f ⟨b.val, by omega⟩) + ∑ b : Fin 512, f ⟨512 + b.val, by omega⟩ :=
  Fin.sum_univ_add (a := 512) (b := 512) f

theorem sum_blocks (f : Fin 512 → EReal) : ∑ j : Fin 8, ∑ k : Fin 64, f ⟨64 * j.val + k.val, by omega⟩ = ∑ b, f b := by
  rw [← Fintype.sum_prod_type', ← Equiv.sum_comp (finProdFinEquiv (m := 8) (n := 64))]
  refine Finset.sum_congr rfl fun p _ => congrArg f (Fin.ext ?_)
  show 64 * p.1.val + p.2.val = p.2.val + 64 * p.1.val; omega

/-- The window's score of one key, named by its position in the window. -/
def winS (r : Fin 16) (bt : Fin 4) (hd : Fin 8) (a : Fin 64) (b : Fin 512) : EReal :=
  val_main_v94 (F := Ideal) x0 x3 (ix6 r bt hd a ⟨b.val / 64, by omega⟩ ⟨b.val % 64, by omega⟩)

/-- The cache's score of one key. -/
def ctxS (r : Fin 16) (bt : Fin 4) (hd : Fin 8) (a : Fin 64) (b : Fin 512) : EReal := val_main_v99 (F := Ideal) x0 x1 (ix5 r bt hd a b)

theorem scores_left (r : Fin 16) (bt : Fin 4) (hd : Fin 8) (a : Fin 64) (b : Fin 512) :
    val_main_v100 (F := Ideal) x0 x1 x3 (ix5 r bt hd a ⟨b.val, by omega⟩) = winS x0 x3 r bt hd a b := by
  unfold val_main_v100 val_main_v95 winS
  generalize val_main_v94 (F := Ideal) x0 x3 = y
  generalize val_main_v99 (F := Ideal) x0 x1 = z
  clean_types
  pointwise []

theorem scores_right (r : Fin 16) (bt : Fin 4) (hd : Fin 8) (a : Fin 64) (b : Fin 512) :
    val_main_v100 (F := Ideal) x0 x1 x3 (ix5 r bt hd a ⟨512 + b.val, by omega⟩) = ctxS x0 x1 r bt hd a b := by
  unfold val_main_v100 ctxS
  generalize val_main_v95 (F := Ideal) x0 x3 = y
  generalize val_main_v99 (F := Ideal) x0 x1 = z
  clean_types
  pointwise []

/-- The largest score. -/
def maxS (r : Fin 16) (bt : Fin 4) (hd : Fin 8) (a : Fin 64) : EReal :=
  max ⊥ (max ((Finset.univ : Finset (Fin 512)).fold max ⊥ (winS x0 x3 r bt hd a)) ((Finset.univ : Finset (Fin 512)).fold max ⊥ (ctxS x0 x1 r bt hd a)))

theorem max_apply (r : Fin 16) (bt : Fin 4) (hd : Fin 8) (a : Fin 64) :
    val_main_v103 (F := Ideal) x0 x1 x3 (ix4 r bt hd a) = maxS x0 x1 x3 r bt hd a := by
  have e : val_main_v101 (F := Ideal) x0 x1 x3 (ix4 r bt hd a) = (Finset.univ : Finset (Fin 1024)).fold max ⊥ fun c => val_main_v100 (F := Ideal) x0 x1 x3 (ix5 r bt hd a c) := by
    unfold val_main_v101 val_main_cst_26
    generalize val_main_v100 (F := Ideal) x0 x1 x3 = y
    clean_types
    pointwise []
    rfl
  rw [val_main_v103_apply, val_main_v102_apply, e, fold_halves]
  simp only [scores_left, scores_right]
  rfl

theorem weight_apply (r : Fin 16) (bt : Fin 4) (hd : Fin 8) (a : Fin 64) (c : Fin 1024) :
    val_main_v107 (F := Ideal) x0 x1 x3 (ix5 r bt hd a c) = Ideal.exp (val_main_v100 (F := Ideal) x0 x1 x3 (ix5 r bt hd a c) - maxS x0 x1 x3 r bt hd a) := by
  rw [val_main_v107_apply, val_main_v106_apply, val_main_v105_apply, val_main_v104_apply,
    show idx_main_v104 (idx_main_v105 (ix5 r bt hd a c)) = ix4 r bt hd a from funext fun i => by fin_cases i <;> rfl, max_apply]
  rfl

/-- The sum of the weights. -/
def sumS (r : Fin 16) (bt : Fin 4) (hd : Fin 8) (a : Fin 64) : EReal :=
  (∑ b, Ideal.exp (winS x0 x3 r bt hd a b - maxS x0 x1 x3 r bt hd a)) + ∑ b, Ideal.exp (ctxS x0 x1 r bt hd a b - maxS x0 x1 x3 r bt hd a)

theorem sum_apply (r : Fin 16) (bt : Fin 4) (hd : Fin 8) (a : Fin 64) :
    val_main_v108 (F := Ideal) x0 x1 x3 (ix4 r bt hd a) = sumS x0 x1 x3 r bt hd a := by
  have e : ∀ c : Fin 1024, idx_main_v108 (ix4 r bt hd a) c = ix5 r bt hd a c := fun c => funext fun i => by fin_cases i <;> rfl
  rw [val_main_v108_apply]
  simp only [e, weight_apply, sum_halves, scores_left, scores_right]
  rw [show val_main_cst_28 (F := Ideal) (Shape.Idx.first h_S_) = (0 : EReal) from Ideal.ofBits_zero_f32, zero_add]
  rfl

theorem prob_apply (r : Fin 16) (bt : Fin 4) (hd : Fin 8) (a : Fin 64) (c : Fin 1024) :
    val_main_v111 (F := Ideal) x0 x1 x3 (ix5 r bt hd a c) =
      Ideal.div (Ideal.exp (val_main_v100 (F := Ideal) x0 x1 x3 (ix5 r bt hd a c) - maxS x0 x1 x3 r bt hd a)) (sumS x0 x1 x3 r bt hd a) := by
  rw [val_main_v111_apply, weight_apply, val_main_v110_apply, val_main_v109_apply,
    show idx_main_v109 (idx_main_v110 (ix5 r bt hd a c)) = ix4 r bt hd a from funext fun i => by fin_cases i <;> rfl, sum_apply]
  rfl

theorem windowOut_apply (r : Fin 16) (bt : Fin 4) (hd : Fin 8) (d : Fin 128) (a : Fin 64) :
    val_main_v115 (F := Ideal) x0 x1 x3 (ix5 r bt hd d a) = ∑ b : Fin 512, val_main_v73 (F := Ideal) x0 (ix6 r bt ⟨b.val / 64, by omega⟩ ⟨b.val % 64, by omega⟩ hd d) *
      Ideal.div (Ideal.exp (winS x0 x3 r bt hd a b - maxS x0 x1 x3 r bt hd a)) (sumS x0 x1 x3 r bt hd a) := by
  have hz : ∀ b : Fin 512, val_main_v112 (F := Ideal) x0 x1 x3 (ix5 r bt hd a b) =
      Ideal.div (Ideal.exp (winS x0 x3 r bt hd a b - maxS x0 x1 x3 r bt hd a)) (sumS x0 x1 x3 r bt hd a) := fun b => by
    rw [val_main_v112_apply, show idx_main_v112 (ix5 r bt hd a b) = ix5 r bt hd a ⟨b.val, by omega⟩ from funext fun i => by fin_cases i <;> rfl,
      prob_apply, scores_left]
  unfold val_main_v115 val_main_v113
  generalize val_main_v73 (F := Ideal) x0 = y
  generalize val_main_v112 (F := Ideal) x0 x1 x3 = z at hz ⊢
  simp only [← hz]
  clean_types
  pointwise []
  refine Eq.trans ?_ (sum_blocks fun b => y (ix6 r bt ⟨b.val / 64, by omega⟩ ⟨b.val % 64, by omega⟩ hd d) * z (ix5 r bt hd a b))
  refine Finset.sum_congr rfl fun j _ => Finset.sum_congr rfl fun k _ => ?_
  refine congrArg₂ (· * ·) (congrArg₂ (fun u v => y (ix6 r bt u v hd d)) (Fin.ext ?_) (Fin.ext ?_)) (congrArg (fun u => z (ix5 r bt hd a u)) (Fin.ext ?_))
  · show j.val = (64 * j.val + k.val) / 64; omega
  · show k.val = (64 * j.val + k.val) % 64; omega
  · show j.val * 64 + k.val = 64 * j.val + k.val; omega

theorem cacheOut_apply (r : Fin 16) (bt : Fin 4) (hd : Fin 8) (d : Fin 128) (a : Fin 64) :
    val_main_v117 (F := Ideal) x0 x1 x2 x3 (ix5 bt hd d r a) = ∑ b : Fin 512, x2 (ix5 bt 0 b hd d) *
      Ideal.div (Ideal.exp (ctxS x0 x1 r bt hd a b - maxS x0 x1 x3 r bt hd a)) (sumS x0 x1 x3 r bt hd a) := by
  have hz : ∀ b : Fin 512, val_main_v114 (F := Ideal) x0 x1 x3 (ix5 r bt hd a b) =
      Ideal.div (Ideal.exp (ctxS x0 x1 r bt hd a b - maxS x0 x1 x3 r bt hd a)) (sumS x0 x1 x3 r bt hd a) := fun b => by
    rw [val_main_v114_apply, show idx_main_v114 (ix5 r bt hd a b) = ix5 r bt hd a ⟨512 + b.val, by omega⟩ from funext fun i => Fin.ext (by
      fin_cases i
      · rfl
      · rfl
      · rfl
      · rfl
      · first | rfl | (show b.val + 512 = 512 + b.val; omega)), prob_apply, scores_right]
  rw [val_main_v117_apply]
  refine Finset.sum_congr rfl fun b _ => ?_
  rw [val_main_v9_apply, ← hz]
  refine congrArg₂ (· * ·) (congrArg x2 ?_) (congrArg (val_main_v114 (F := Ideal) x0 x1 x3) ?_)
  · refine Eq.trans (congrArg idx_main_v9 (a₂ := ix4 bt b hd d) (funext fun i => by fin_cases i <;> rfl)) (cache_idx bt b hd d)
  · exact funext fun i => by fin_cases i <;> rfl

/-- The result at a token and a head's lane. -/
theorem out_apply (r : Fin 16) (bt : Fin 4) (hd : Fin 8) (a : Fin 64) (d : Fin 128) (z : S4096x1024.Idx)
    (h0 : (z 0).val = 1024 * bt.val + (64 * r.val + a.val)) (h1 : (z 1).val = 128 * hd.val + d.val) :
    val_main_v123 (F := Ideal) x0 x1 x2 x3 z = softmax2 (winS x0 x3 r bt hd a) (ctxS x0 x1 r bt hd a)
      (fun b => val_main_v73 (F := Ideal) x0 (ix6 r bt ⟨b.val / 64, by omega⟩ ⟨b.val % 64, by omega⟩ hd d)) (fun b => x2 (ix5 bt 0 b hd d)) := by
  have e1 : idx_main_v122 z = ix3 bt ⟨64 * r.val + a.val, by omega⟩ ⟨128 * hd.val + d.val, by omega⟩ := by
    refine funext fun i => Fin.ext ?_
    fin_cases i
    · show ((z 0).val * 1024 + (z 1).val) / 1048576 = bt.val; omega
    · show ((z 0).val * 1024 + (z 1).val) / 1024 % 1024 = 64 * r.val + a.val; omega
    · show ((z 0).val * 1024 + (z 1).val) % 1024 = 128 * hd.val + d.val; omega
  have e2 : idx_main_v121 (ix3 bt ⟨64 * r.val + a.val, by omega⟩ ⟨128 * hd.val + d.val, by omega⟩) = ix5 bt r a hd d := by
    refine funext fun i => Fin.ext ?_
    fin_cases i
    · show ((bt.val * 1024 + (64 * r.val + a.val)) * 1024 + (128 * hd.val + d.val)) / 1048576 = bt.val; omega
    · show ((bt.val * 1024 + (64 * r.val + a.val)) * 1024 + (128 * hd.val + d.val)) / 65536 % 16 = r.val; omega
    · show ((bt.val * 1024 + (64 * r.val + a.val)) * 1024 + (128 * hd.val + d.val)) / 1024 % 64 = a.val; omega
    · show ((bt.val * 1024 + (64 * r.val + a.val)) * 1024 + (128 * hd.val + d.val)) / 128 % 8 = hd.val; omega
    · show ((bt.val * 1024 + (64 * r.val + a.val)) * 1024 + (128 * hd.val + d.val)) % 128 = d.val; omega
  have e3 : idx_main_v116 (idx_main_v120 (ix5 bt r a hd d)) = ix5 r bt hd d a := funext fun i => by fin_cases i <;> rfl
  have e4 : idx_main_v118 (idx_main_v120 (ix5 bt r a hd d)) = ix5 bt hd d r a := funext fun i => by fin_cases i <;> rfl
  rw [val_main_v123_apply, val_main_v122_apply, e1, val_main_v121_apply, e2, val_main_v120_apply, val_main_v119_apply, val_main_v116_apply, val_main_v118_apply,
    e3, e4, windowOut_apply, cacheOut_apply]
  rfl

end

end Cert.ReferenceIdeal.Block
-- ==== Proof.KernelRun.lean ====
module

public import proofs.«01_k».proof.Proof.TableValue

/-!
# The run of the idealised kernel with its result

The buffers at the boundaries of the segments, the two regions' arrays by `final0` and `final1`, and the launch of the generated frame
read at the result's buffer too.
-/

@[expose] public section

set_option maxRecDepth 16384

noncomputable section

namespace Cert.KernelIdeal.Block

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The rows of biases the first region reads: the launched biases, zeros past the lane `30`. -/
def padded (R : Vec Ideal S1x8x15x31 .f32) : Vec Ideal S8x15x128 .f32 :=
  pad S8x15x128 ![0, 0, 0] ![0, 0, 97] ![0, 0, 0] (shapeCast S8x15x31 R shapeCasts_S1x8x15x31_S8x15x31) (sitofp (F := Ideal) .f32 (constantI S_ 32 0#32)) pads_S8x15x31_S8x15x128_000_000_0970

theorem padded_apply (R : Vec Ideal S1x8x15x31 .f32) (hd : Fin 8) (dr : Fin 15) (l : Fin 128) (h : l.val < 31) :
    padded R (ix3 hd dr l) = R (ix4 0 hd dr ⟨l.val, h⟩) := by
  unfold padded
  pointwise []
  rw [dif_pos h]

/-- A cache as the second region reads it. -/
def flat (C : Vec Ideal S4x1x512x8x128 .f32) : Vec Ideal S4x4096x128 .f32 :=
  shapeCast S4x4096x128 C shapeCasts_S4x1x512x8x128_S4x4096x128

theorem flat_apply (C : Vec Ideal S4x1x512x8x128 .f32) (bt : Fin 4) (b : Fin 512) (hd : Fin 8) (d : Fin 128) (y : Fin 4096)
    (hy : y.val = 8 * b.val + hd.val) : flat C (ix3 bt y d) = C (ix5 bt 0 b hd d) := by
  unfold flat
  pointwise []
  refine congrArg₂ (fun u v => C (ix5 bt 0 u v d)) (Fin.ext ?_) (Fin.ext ?_)
  · show y.val / 8 = b.val; omega
  · show y.val % 8 = hd.val; omega

theorem padded_at (c : Dev nD) : V2 m ρ c main_v1 = padded (m ((c : Thread nD τ).loc main_arg3)) := by
  unfold_abbrev_sides
  after_results
  rfl

theorem keys_at (c : Dev nD) : V4 m ρ c main_v3 = flat (m ((c : Thread nD τ).loc main_arg1)) := by
  refine Eq.trans (b := flat (W3 m ρ c main_arg1)) ?_ (congrArg flat (W3_args m ρ c main_arg1 (by decide)))
  unfold_abbrev_sides
  after_results
  rfl

theorem values_at (c : Dev nD) : V4 m ρ c main_v4 = flat (m ((c : Thread nD τ).loc main_arg2)) := by
  refine Eq.trans (b := flat (W3 m ρ c main_arg2)) ?_ (congrArg flat (W3_args m ρ c main_arg2 (by decide)))
  unfold_abbrev_sides
  after_results
  rfl

theorem table_at (c : Dev nD) : V4 m ρ c main_v2 = table (padded (m ((c : Thread nD τ).loc main_arg3))) :=
  (W4_of m ρ c main_v2 (by decide)).trans ((W3_arr m ρ c 1).trans ((final0 (V2 m ρ) c).trans (congrArg table (padded_at m ρ c))))

theorem result_at (c : Dev nD) : W5 m ρ c main_v5 = result (m ((c : Thread nD τ).loc main_arg0)) (table (padded (m ((c : Thread nD τ).loc main_arg3))))
    (flat (m ((c : Thread nD τ).loc main_arg1))) (flat (m ((c : Thread nD τ).loc main_arg2))) := by
  refine (W5_arr m ρ c 6).trans ((final1 (V4 m ρ) c).trans ?_)
  rw [table_at, keys_at, values_at, show V4 m ρ c main_arg0 = m ((c : Thread nD τ).loc main_arg0) from W4_args m ρ c main_arg0 (by decide)]

-- the launch's implicit arguments are found by unifying its conclusion with this one, which unfolds definitions in types
set_option backward.isDefEq.respectTransparency.types false in
theorem run : θ_run defs (onTc (τ := τ) (main (F := Ideal))) ⟨m, fun _ => 0, ρ⟩ (fun r => (∀ c : Dev nD,
      r.2.mem ((c.tc : Thread nD τ).loc main_v5) = result (m ((c : Thread nD τ).loc main_arg0)) (table (padded (m ((c : Thread nD τ).loc main_arg3))))
        (flat (m ((c : Thread nD τ).loc main_arg1))) (flat (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v5 (by decide))).trans (result_at m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.KernelIdeal.Block
-- ==== Proof.Bridge.lean ====
module

public import proofs.«01_k».proof.Proof.RefOut
public import proofs.«01_k».proof.Proof.KernelRun
public import proofs.«01_k».proof.Pre_finite_logits
public import Idealize.ShloMosaic.Lib.ReduceAll

/-!
# The kernel's result is the reference's

Every score of the kernel is the reference's score times `(log 2)⁻¹`: the scale of the products is the named product of the two, the
biases were multiplied by it when the table was laid out, and a masked score is -∞ on both sides. With real queries, keys, cached
keys and biases the scores are real or -∞, and the base-two softmax of the scaled scores is the softmax of the scores.
-/

@[expose] public section

namespace Cert.Bridge

open Idealize.ShloMosaic Idealize.ShloMosaic.TcCoe
open Cert.KernelIdeal (S4096x4096 S4096x1024 S4x1x512x8x128 S1x8x15x31 S8x15x128)
open Cert.KernelIdeal.Block Cert.ReferenceIdeal.Block

noncomputable section

set_option maxRecDepth 16384

/-- The factor between the two programs' scores. -/
def c : ℝ := (Real.log 2)⁻¹

/-- The scale of the logits, the single-precision number next to `128^(-1/2)`. -/
def scale : ℝ := 11863283 * 134217728⁻¹

theorem kappa_eq : kappa = ((scale : ℝ) : EReal) * ((c : ℝ) : EReal) := by
  rw [← EReal.coe_mul, mul_comm]
  exact IdealRules.named_const.ideal_named_scalar _ _ _ _ rfl

theorem log2e_eq : log2e = ((c : ℝ) : EReal) := IdealRules.named_const.ideal_named_scalar _ _ _ _ rfl

theorem literal_eq : Ideal.ofBits .f32 0x3DB504F3#32 = ((scale : ℝ) : EReal) := by
  unfold scale
  simp [Ideal.ofBits, Ideal.ieee]
  norm_num

theorem c_pos : 0 < c := inv_pos.mpr (Real.log_pos (by norm_num))

theorem add_scaled (x y : EReal) : (x + y) * ((c : ℝ) : EReal) = x * ((c : ℝ) : EReal) + y * ((c : ℝ) : EReal) :=
  EReal.right_distrib_of_nonneg_of_ne_top (EReal.coe_nonneg.mpr c_pos.le) (EReal.coe_ne_top c) x y

theorem bot_scaled : (⊥ : EReal) * ((c : ℝ) : EReal) = ⊥ := EReal.bot_mul_of_pos (EReal.coe_pos.mpr c_pos)

/-- A sum of products of reals is real. -/
theorem dot_real (f g : Fin 128 → EReal) (hf : ∀ d, ∃ r : ℝ, f d = r) (hg : ∀ d, ∃ r : ℝ, g d = r) : ∃ r : ℝ, ∑ d, f d * g d = r := by
  choose f' hf using hf
  choose g' hg using hg
  refine ⟨∑ d, f' d * g' d, ?_⟩
  rw [Finset.sum_congr rfl fun d _ => show f d * g d = ((f' d * g' d : ℝ) : EReal) by rw [hf, hg, EReal.coe_mul]]
  exact (map_sum (⟨⟨Real.toEReal, EReal.coe_zero⟩, EReal.coe_add⟩ : ℝ →+ EReal) _ Finset.univ).symm

variable (P : Vec Ideal S4096x4096 .bf16) (K V : Vec Ideal S4x1x512x8x128 .f32) (R : Vec Ideal S1x8x15x31 .f32)

/-- The product of a query and a key of its window. -/
def winDot (bt : Fin 4) (hd : Fin 8) (r : Fin 16) (a : Fin 64) (b : Fin 512) : EReal :=
  ∑ d : Fin 128, P (ix2 ⟨1024 * bt.val + (64 * r.val + a.val), frameRow_lt bt r a⟩ ⟨1024 * 0 + (128 * hd.val + d.val), col_lt 0 (by decide) hd d⟩)
    * P (ix2 ⟨1024 * bt.val + (64 * first r + b.val), frameWin_lt bt r b⟩ ⟨1024 * 1 + (128 * hd.val + d.val), col_lt 1 (by decide) hd d⟩)

/-- The product of a query and a cached key. -/
def ctxDot (bt : Fin 4) (hd : Fin 8) (r : Fin 16) (a : Fin 64) (b : Fin 512) : EReal :=
  ∑ d : Fin 128, P (ix2 ⟨1024 * bt.val + (64 * r.val + a.val), frameRow_lt bt r a⟩ ⟨1024 * 0 + (128 * hd.val + d.val), col_lt 0 (by decide) hd d⟩)
    * K (ix5 bt 0 b hd d)

/-- The reference's score of a window key. -/
theorem winS_eq (bt : Fin 4) (hd : Fin 8) (r : Fin 16) (a : Fin 64) (b : Fin 512) : winS P R r bt hd a b =
    if colLo a.val ≤ b.val % 64 ∧ b.val % 64 < colLo a.val + 16 then
      winDot P bt hd r a b * ((scale : ℝ) : EReal)
        + R (ix4 0 hd ⟨biasTile r + b.val / 64, by have := biasTile_le r; omega⟩ ⟨min 30 (b.val % 64 + 15 - a.val), by omega⟩)
    else ⊥ := by
  unfold winS
  rw [windowScore_apply, bias_apply, literal_eq]
  refine if_congr Iff.rfl ?_ rfl
  congr 2
  refine Finset.sum_congr rfl fun d _ => ?_
  congr 1
  · exact queries_apply P r bt a hd d _ rfl rfl
  · refine windowKeys_apply P r bt _ _ hd d _ ?_ rfl
    show 1024 * bt.val + (64 * first r + b.val) = 1024 * bt.val + (64 * first r + (64 * (b.val / 64) + b.val % 64))
    omega

/-- The reference's score of a cached key. -/
theorem ctxS_eq (bt : Fin 4) (hd : Fin 8) (r : Fin 16) (a : Fin 64) (b : Fin 512) :
    ctxS P K r bt hd a b = ctxDot P K bt hd r a b * ((scale : ℝ) : EReal) := by
  unfold ctxS
  rw [cacheScore_apply, literal_eq]
  congr 1
  refine Finset.sum_congr rfl fun d _ => ?_
  congr 1
  exact queries_apply P r bt a hd d _ rfl rfl

/-- One entry of the table the scores read. -/
theorem table_apply (hd : Fin 8) (r : Fin 16) (a : Fin 64) (b : Fin 512) :
    table (padded R) (ix4 hd ⟨biasTile r % 2, Nat.mod_lt _ two_pos⟩ a ⟨64 * (biasTile r + biasTile r % 2) + b.val, tab_lt r b⟩) =
    (if colLo a.val ≤ b.val % 64 ∧ b.val % 64 < colLo a.val + 16 then
      R (ix4 0 hd ⟨biasTile r + b.val / 64, by have := biasTile_le r; omega⟩ ⟨min 30 (b.val % 64 + 15 - a.val), by omega⟩)
    else ⊥) * ((c : ℝ) : EReal) := by
  have hT := biasTile_le r
  have hb := b.isLt
  have ha := a.isLt
  have key : ∀ (n : ℕ) (hn : n = biasTile r + b.val / 64) (q : Fin 64) (hq : q.val = b.val % 64),
      pieceAt (fun dr l => padded R (ix3 hd dr l)) n a q = (if colLo a.val ≤ b.val % 64 ∧ b.val % 64 < colLo a.val + 16 then
        R (ix4 0 hd ⟨biasTile r + b.val / 64, by have := biasTile_le r; omega⟩ ⟨min 30 (b.val % 64 + 15 - a.val), by omega⟩)
      else ⊥) * ((c : ℝ) : EReal) := by
    intro n hn q hq
    subst hn
    have hn15 : biasTile r + b.val / 64 < 15 := by omega
    unfold pieceAt
    rw [dif_pos hn15]
    unfold tileAt
    rw [log2e_eq]
    have hiff : (colLo a.val ≤ q.val ∧ q.val < colLo a.val + 16) ↔ (colLo a.val ≤ b.val % 64 ∧ b.val % 64 < colLo a.val + 16) := by rw [hq]
    rw [if_congr hiff rfl rfl]
    split
    · rename_i hw
      obtain ⟨h1, h2⟩ := hw
      congr 1
      have hlo : colLo a.val ≤ b.val % 64 + 15 - a.val + a.val := by omega
      have hc : a.val ≤ b.val % 64 + 15 ∧ b.val % 64 + 15 - a.val < 31 := by unfold colLo at h1 h2; omega
      refine (padded_apply R hd _ ⟨(q.val + 143 - a.val) % 128, _⟩ (by show (q.val + 143 - a.val) % 128 < 31; omega)).trans ?_
      have e : (q.val + 143 - a.val) % 128 = min 30 (b.val % 64 + 15 - a.val) := by omega
      exact congrArg (fun l : Fin 31 => R (ix4 0 hd ⟨biasTile r + b.val / 64, hn15⟩ l)) (Fin.ext e)
    · exact bot_scaled.symm
  show tableAt (fun dr l => padded R (ix3 hd dr l)) ⟨biasTile r % 2, _⟩ a ⟨64 * (biasTile r + biasTile r % 2) + b.val, _⟩ = _
  unfold tableAt
  split
  · rename_i h
    have h' : biasTile r % 2 = 0 := congrArg Fin.val h
    exact key _ (by show (64 * (biasTile r + biasTile r % 2) + b.val) / 64 = _; omega) _ (by show (64 * (biasTile r + biasTile r % 2) + b.val) % 64 = _; omega)
  · rename_i h
    have h' : biasTile r % 2 = 1 := by
      have : biasTile r % 2 ≠ 0 := fun e => h (Fin.ext e)
      omega
    split
    · rename_i h0
      exfalso
      change (64 * (biasTile r + biasTile r % 2) + b.val) / 64 = 0 at h0
      omega
    · exact key _ (by show (64 * (biasTile r + biasTile r % 2) + b.val) / 64 - 1 = _; omega) _ (by show (64 * (biasTile r + biasTile r % 2) + b.val) % 64 = _; omega)

/-- The kernel's score of a window key is the reference's, scaled. -/
theorem winScore_eq (bt : Fin 4) (hd : Fin 8) (r : Fin 16) (a : Fin 64) (b : Fin 512) :
    winScore P (table (padded R)) bt hd r a b = winS P R r bt hd a b * ((c : ℝ) : EReal) := by
  unfold winScore
  rw [table_apply, winS_eq, kappa_eq, ← mul_assoc, ← add_scaled]
  congr 1
  split
  · rfl
  · exact EReal.add_bot _

/-- The kernel's score of a cached key is the reference's, scaled. -/
theorem ctxScore_eq (bt : Fin 4) (hd : Fin 8) (r : Fin 16) (a : Fin 64) (b : Fin 512) :
    ctxScore P (flat K) bt hd r a b = ctxS P K r bt hd a b * ((c : ℝ) : EReal) := by
  unfold ctxScore
  rw [ctxS_eq, kappa_eq, ← mul_assoc]
  congr 2
  exact Finset.sum_congr rfl fun d _ => by rw [flat_apply K bt b hd d _ rfl]

/-- The arrays the scores read hold reals. -/
structure RealLogits : Prop where
  proj : ∀ (y : Fin 4096) (x : Fin 4096), x.val < 2048 → ∃ r : ℝ, P (ix2 y x) = r
  cache : ∀ z, ∃ r : ℝ, K z = r
  bias : ∀ z, ∃ r : ℝ, R z = r

variable {P K R}

theorem winS_real (h : RealLogits P K R) (bt : Fin 4) (hd : Fin 8) (r : Fin 16) (a : Fin 64) (b : Fin 512) :
    winS P R r bt hd a b = ⊥ ∨ ∃ x : ℝ, winS P R r bt hd a b = x := by
  rw [winS_eq]
  split
  · right
    obtain ⟨x, hx⟩ : ∃ x : ℝ, winDot P bt hd r a b = x :=
      dot_real _ _ (fun d => h.proj _ _ (by show 1024 * 0 + (128 * hd.val + d.val) < 2048; omega))
        (fun d => h.proj _ _ (by show 1024 * 1 + (128 * hd.val + d.val) < 2048; omega))
    obtain ⟨y, hy⟩ := h.bias (ix4 0 hd ⟨biasTile r + b.val / 64, by have := biasTile_le r; omega⟩ ⟨min 30 (b.val % 64 + 15 - a.val), by omega⟩)
    exact ⟨x * scale + y, by rw [hx, hy, EReal.coe_add, EReal.coe_mul]⟩
  · exact Or.inl rfl

theorem ctxS_real (h : RealLogits P K R) (bt : Fin 4) (hd : Fin 8) (r : Fin 16) (a : Fin 64) (b : Fin 512) :
    ∃ x : ℝ, ctxS P K r bt hd a b = x := by
  rw [ctxS_eq]
  obtain ⟨x, hx⟩ : ∃ x : ℝ, ctxDot P K bt hd r a b = x :=
    dot_real _ _ (fun d => h.proj _ _ (by show 1024 * 0 + (128 * hd.val + d.val) < 2048; omega)) (fun d => h.cache _)
  exact ⟨x * scale, by rw [hx, EReal.coe_mul]⟩

/-- The two results are equal. -/
theorem result_eq_reference (h : RealLogits P K R) :
    result P (table (padded R)) (flat K) (flat V) = Cert.ReferenceIdeal.Read.val_main_v123 (F := Ideal) P K V R := by
  refine funext fun y => ?_
  have hy0 : (y 0).val < 4096 := (y 0).isLt
  have hy1 : (y 1).val < 1024 := (y 1).isLt
  obtain ⟨bt, hbt⟩ : ∃ bt : Fin 4, bt.val = (y 0).val / 1024 := ⟨⟨_, by omega⟩, rfl⟩
  obtain ⟨r, hr⟩ : ∃ r : Fin 16, r.val = (y 0).val % 1024 / 64 := ⟨⟨_, by omega⟩, rfl⟩
  obtain ⟨a, ha⟩ : ∃ a : Fin 64, a.val = (y 0).val % 64 := ⟨⟨_, by omega⟩, rfl⟩
  obtain ⟨hd, hhd⟩ : ∃ hd : Fin 8, hd.val = (y 1).val / 128 := ⟨⟨_, by omega⟩, rfl⟩
  obtain ⟨d, hdd⟩ : ∃ d : Fin 128, d.val = (y 1).val % 128 := ⟨⟨_, by omega⟩, rfl⟩
  have h0 : (y 0).val = 1024 * bt.val + (64 * r.val + a.val) := by omega
  have h1 : (y 1).val = 128 * hd.val + d.val := by omega
  rw [Cert.KernelIdeal.Block.result_eq P (table (padded R)) (flat K) (flat V) bt hd r a d y h0 h1, out_apply P K V R r bt hd a d y h0 h1]
  unfold resultAt
  rw [funext fun b => winScore_eq P R bt hd r a b, funext fun b => ctxScore_eq P K bt hd r a b,
    attend2_eq _ _ _ _ (fun b => winS_real h bt hd r a b) (fun b => ctxS_real h bt hd r a b) c rfl]
  congr 1
  · refine funext fun b => ?_
    refine (windowValues_apply P r bt _ _ hd d _ ?_ rfl).symm
    show 1024 * bt.val + (64 * first r + b.val) = 1024 * bt.val + (64 * first r + (64 * (b.val / 64) + b.val % 64))
    omega
  · exact funext fun b => flat_apply V bt b hd d _ rfl

/-! ## What the precondition says -/

/-- A number below +∞ in absolute value is real. -/
theorem real_of_abs_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem andi_one {x y : BitVec 1} (h : IntOp.andi x y = 1#1) : x = 1#1 ∧ y = 1#1 := by
  revert x y; decide

theorem realLogits_of_pre [Cert.Pre_finite_logits.Facts] (h : Cert.Pre_finite_logits.fn (F := Ideal) P K V R = fun _ => 1#1) : RealLogits P K R := by
  have e := congrFun h (fun i => i.elim0)
  unfold Cert.Pre_finite_logits.fn at e
  obtain ⟨e12, e3⟩ := andi_one e
  obtain ⟨e1, e2⟩ := andi_one e12
  refine ⟨fun y x hx => ?_, fun z => real_of_abs_lt (Host.reduce_andi_all _ _ _ _ _ e2 z), fun z => real_of_abs_lt (Host.reduce_andi_all _ _ _ _ _ e3 z)⟩
  obtain ⟨v, hv⟩ := real_of_abs_lt (Host.reduce_andi_all _ _ _ _ _ e1 (ix2 y ⟨x.val, hx⟩))
  refine ⟨v, Eq.trans (congrArg P ?_) hv⟩
  refine funext fun i => Fin.ext ?_
  fin_cases i
  · show y.val = 0 + y.val; omega
  · show x.val = 0 + x.val; omega

end

end Cert.Bridge
-- ==== Proof.FfnRun.lean ====
/- The feed-forward call's kernel body run once through at each kind of grid point: the first block of the hidden axis, a middle
   block, the last block. Each run finds what the body leaves in the output block and in the accumulator. -/
module

public import proofs.«01_k».proof.Proof.Gen.FfnIdeal.Frame
public import proofs.«01_k».proof.Proof.Gen.FfnIdeal.Skeleton
public import proofs.«01_k».proof.Proof.Gen.FfnIdeal.Loops
public import proofs.«01_k».proof.Proof.Gen.FfnIdeal.Points
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

/-! # The feed-forward body, point by point -/

@[expose] public section

set_option maxRecDepth 16384

noncomputable section

namespace Cert.Ffw

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body is at the first block of the hidden axis: it starts the accumulator. -/
abbrev AtFirst (i : grid0.Coords) : Prop := (Scalar.cmpi .ne (Scalar.extui (Scalar.cmpi .eq (BitVec.ofNat 32 (i 1).val) 0#32)) 0#32) = 1#1
/-- The body is past the first block: it adds to the accumulator. -/
abbrev AtLater (i : grid0.Coords) : Prop := (Scalar.cmpi .ne (Scalar.extui (Scalar.cmpi .sgt (BitVec.ofNat 32 (i 1).val) 0#32)) 0#32) = 1#1
/-- The body is at the last block: it scales the accumulated rows and adds them to the output block. -/
abbrev AtLast (i : grid0.Coords) : Prop := k0_cond3 i = 1#1

variable (c : Dev nD) (i : grid0.Coords)
  (arg2 : Memref sig .tc .vmem S128x2048 .f32) (harg2 : arg2.IsWhole)
  (arg3 : Memref sig .tc .vmem S1024x2048 .bf16) (harg3 : arg3.IsWhole)
  (arg4 : Memref sig .tc .vmem S1x6x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .f32) (harg10 : arg10.IsWhole)
  (x0 : Vec F S128x2048 .f32)  (x1 : Vec F S1024x2048 .bf16)  (x2 : Vec F S1x6x2048 .f32)  (x3 : Vec F S1x2048 .f32)
  (x4 : Vec F S2048x512 .bf16)  (x5 : Vec F S2048x512 .bf16)  (x6 : Vec F S512x2048 .bf16)

/-- The body's seven inputs, each held whole at its contents. -/
abbrev inputs : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

set_option maxHeartbeats 1000000 in
/-- The first block: `x`'s rows are copied into the output block and the accumulator is started, whatever it held. -/
def runFirst (h0 : AtFirst i) (h1 : ¬AtLater i) (h2 : ¬AtLast i) (y : Vec F S1024x2048 .f32) :
    Σ' (L : List (View.Piece (Elt F) S1024x2048 .f32)), { S : List (View.Piece (Elt F) S1024x2048 .f32) //
      ∀ (E : Set ℕ) (K : PUnit → sProp 𝕄),
        iprop(inputs c arg2 arg3 arg4 arg5 arg6 arg7 arg8 x0 x1 x2 x3 x4 x5 x6 ∗ owns (c : Thread nD τ) arg9 fullShare y ∗ (∃ d, owns (c : Thread nD τ) arg10 fullShare d)
            ∗ (iprop(inputs c arg2 arg3 arg4 arg5 arg6 arg7 arg8 x0 x1 x2 x3 x4 x5 x6 ∗ (arg9.view.loc (c : Thread nD τ) ↦[arg9.view.set]{fullShare} arg9.view.writes (Elt F) (harg9.unread y) L)
                ∗ (∃ f, arg10.view.loc (c : Thread nD τ) ↦[arg10.view.set]{fullShare} arg10.view.writes (Elt F) f S)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%d, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | sl_exact h0 | sl_exact h1 | sl_exact h2)
    sl_step
    iapply Hk
    isplitl [H0 H1 H2 H3 H4 H5 H6]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [H4]; · iexists _; isplitr; · ipureintro; exact harg6.read_unread _
                      iexact H4
      isplitl [H5]; · iexists _; isplitr; · ipureintro; exact harg7.read_unread _
                      iexact H5
      iexists _; isplitr; · ipureintro; exact harg8.read_unread _
      iexact H6
    isplitl [H7]; · iexact H7
    iexists _; iexact HS

set_option maxHeartbeats 1000000 in
/-- A middle block: `x`'s rows are copied into the output block and the block's product is added to the accumulator. -/
def runMiddle (h0 : ¬AtFirst i) (h1 : AtLater i) (h2 : ¬AtLast i) (y : Vec F S1024x2048 .f32) (s : Vec F S1024x2048 .f32) :
    Σ' (L : List (View.Piece (Elt F) S1024x2048 .f32)), { S : List (View.Piece (Elt F) S1024x2048 .f32) //
      ∀ (E : Set ℕ) (K : PUnit → sProp 𝕄),
        iprop(inputs c arg2 arg3 arg4 arg5 arg6 arg7 arg8 x0 x1 x2 x3 x4 x5 x6 ∗ owns (c : Thread nD τ) arg9 fullShare y ∗ owns (c : Thread nD τ) arg10 fullShare s
            ∗ (iprop(inputs c arg2 arg3 arg4 arg5 arg6 arg7 arg8 x0 x1 x2 x3 x4 x5 x6 ∗ (arg9.view.loc (c : Thread nD τ) ↦[arg9.view.set]{fullShare} arg9.view.writes (Elt F) (harg9.unread y) L)
                ∗ (∃ f, arg10.view.loc (c : Thread nD τ) ↦[arg10.view.set]{fullShare} arg10.view.writes (Elt F) f S)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7; obtain rfl := harg10.eq_unread hfs
    sl_exec (disch := first | sl_exact h0 | sl_exact h1 | sl_exact h2)
    sl_step
    iapply Hk
    isplitl [H0 H1 H2 H3 H4 H5 H6]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [H4]; · iexists _; isplitr; · ipureintro; exact harg6.read_unread _
                      iexact H4
      isplitl [H5]; · iexists _; isplitr; · ipureintro; exact harg7.read_unread _
                      iexact H5
      iexists _; isplitr; · ipureintro; exact harg8.read_unread _
      iexact H6
    isplitl [H7]; · iexact H7
    iexists _; iexact HS

set_option maxHeartbeats 1000000 in
/-- The last block: after the last copy and the last product, every eight rows of the output block gain the scaled accumulated rows. -/
def runLast (h0 : ¬AtFirst i) (h1 : AtLater i) (h2 : AtLast i) (y : Vec F S1024x2048 .f32) (s : Vec F S1024x2048 .f32) :
    Σ' (L : List (View.Piece (Elt F) S1024x2048 .f32)), { S : List (View.Piece (Elt F) S1024x2048 .f32) //
      ∀ (E : Set ℕ) (K : PUnit → sProp 𝕄),
        iprop(inputs c arg2 arg3 arg4 arg5 arg6 arg7 arg8 x0 x1 x2 x3 x4 x5 x6 ∗ owns (c : Thread nD τ) arg9 fullShare y ∗ owns (c : Thread nD τ) arg10 fullShare s
            ∗ (iprop(inputs c arg2 arg3 arg4 arg5 arg6 arg7 arg8 x0 x1 x2 x3 x4 x5 x6 ∗ (arg9.view.loc (c : Thread nD τ) ↦[arg9.view.set]{fullShare} arg9.view.writes (Elt F) (harg9.unread y) L)
                ∗ (∃ f, arg10.view.loc (c : Thread nD τ) ↦[arg10.view.set]{fullShare} arg10.view.writes (Elt F) f S)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7; obtain rfl := harg10.eq_unread hfs
    sl_exec (disch := first | sl_exact h0 | sl_exact h1 | sl_exact h2)
    sl_step
    iapply Hk
    isplitl [H0 H1 H2 H3 H4 H5 H6]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [H4]; · iexists _; isplitr; · ipureintro; exact harg6.read_unread _
                      iexact H4
      isplitl [H5]; · iexists _; isplitr; · ipureintro; exact harg7.read_unread _
                      iexact H5
      iexists _; isplitr; · ipureintro; exact harg8.read_unread _
      iexact H6
    isplitl [H7]; · iexact H7
    iexists _; iexact HS

end Cert.Ffw

end
-- ==== Proof.FfnBlock.lean ====
/- What one run of the feed-forward body leaves, as values: the output block after the copy of `x`'s rows, the accumulator after the
   block's product, and the output block after the closing loop over groups of eight rows. -/
module

public import proofs.«01_k».proof.Proof.FfnRun
public import Idealize.ShloMosaic.Lib.VecWindow
public import Idealize.ShloMosaic.Lib.Pointwise.Index

/-! # What the feed-forward body leaves -/

@[expose] public section

set_option maxRecDepth 16384

noncomputable section

namespace Cert.Ffw

open Cert.FfnIdeal Cert.FfnIdeal.Gen
open Idealize.ShloMosaic Idealize.ShloMosaic.TcCoe Idealize.ShloMosaic.Tactic
open Idealize.SL Idealize.SL.Sem

variable {F : FTy → Type} [FloatOps F]

theorem eightRows_inb (r : Fin 1024) : ∀ a, (![8 * (r.val / 8), 0] : Fin 2 → ℕ) a + S8x2048.size a ≤ S1024x2048.size a :=
  Fin.forall_fin_two.mpr ⟨by show 8 * (r.val / 8) + 8 ≤ 1024; omega, by show 0 + 2048 ≤ 2048; omega⟩

/-- The group of eight rows of `a` that holds row `r`. -/
def eightRows (a : Vec F S1024x2048 .f32) (r : Fin 1024) : Vec F S8x2048 .f32 :=
  VecWindow.window a ![8 * (r.val / 8), 0] S8x2048.size (eightRows_inb r)

theorem eightRows_of (a : Vec F S1024x2048 .f32) (r : Fin 1024) (k : ℕ) (h : r.val / 8 = k)
    (hin : ∀ x, (![8 * k, 0] : Fin 2 → ℕ) x + S8x2048.size x ≤ S1024x2048.size x) : VecWindow.window a ![8 * k, 0] S8x2048.size hin = eightRows a r := by
  subst h; rfl

/-- The output block at the end of its run: each row of `y` with the scaled accumulated row added, formed eight rows at a time. -/
def finish (v18 : Vec F S1x1x2048 .f32) (v20 : Vec F S1x2048 .f32) (a y : Vec F S1024x2048 .f32) : Vec F S1024x2048 .f32 :=
  fun z => k0_pay4 v18 v20 (eightRows a (z 0)) (eightRows y (z 0)) (ix2 ⟨(z 0).val % 8, Nat.mod_lt _ (by omega)⟩ (z 1))

/-- The sixth of the six modulation rows a batch has. -/
def gateRow (x2 : Vec F S1x6x2048 .f32) : Vec F S1x1x2048 .f32 := VecWindow.window x2 ![0, 5, 0] S1x1x2048.size inb_S1x6x2048_S1x1x2048_0_5_0

variable (c : Dev nD) (i : grid0.Coords)
  (arg2 : Memref sig .tc .vmem S128x2048 .f32) (harg2 : arg2.IsWhole)
  (arg3 : Memref sig .tc .vmem S1024x2048 .bf16) (harg3 : arg3.IsWhole)
  (arg4 : Memref sig .tc .vmem S1x6x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .f32) (harg10 : arg10.IsWhole)
  (x0 : Vec F S128x2048 .f32)  (x1 : Vec F S1024x2048 .bf16)  (x2 : Vec F S1x6x2048 .f32)  (x3 : Vec F S1x2048 .f32)
  (x4 : Vec F S2048x512 .bf16)  (x5 : Vec F S2048x512 .bf16)  (x6 : Vec F S512x2048 .bf16)

theorem trip_pieces (h2 : AtLast i) (v18 : Vec F S1x1x2048 .f32) (v20 : Vec F S1x2048 .f32) (X : arg10.view.ty.Contents (Elt F)) (f : arg9.view.ty.Contents (Elt F))
    (k : Fin k0_t1_loop.trips) :
    tripL_k0_t1 (F := F) Variants.none c none i arg2 harg2 arg3 harg3 arg4 harg4 arg5 harg5 arg6 harg6 arg7 harg7 arg8 harg8 arg9 harg9 arg10 harg10 h2 v18 v20 X k f
      = [⟨Rect.unit (s := S1024x2048) (k0_off2 k) S8x2048.size (k0_off2_inb i k h2), k0_pay4 v18 v20
          (View.readAt (Elt F) arg10.view (Rect.unit (s := S1024x2048) (k0_off2 k) S8x2048.size (k0_off2_inb i k h2)).toLoadRect X)
          (View.readAt (Elt F) arg9.view (Rect.unit (s := S1024x2048) (k0_off2 k) S8x2048.size (k0_off2_inb i k h2)).toLoadRect f)⟩] := by
  unfold tripL_k0_t1 trip_k0_t1
  rfl

/-- After the first `k` trips the first `8 k` rows are finished and the others are as the loop found them. -/
theorem loop_read (h2 : AtLast i) (v18 : Vec F S1x1x2048 .f32) (v20 : Vec F S1x2048 .f32) (X : arg10.view.ty.Contents (Elt F)) (G : arg9.view.ty.Contents (Elt F)) :
    ∀ k : ℕ, k ≤ k0_t1_loop.trips → arg9.view.read (Elt F) (arg9.view.writes (Elt F) G (pb_k0_t1 (F := F) Variants.none c none i arg2 harg2 arg3 harg3 arg4 harg4 arg5 harg5 arg6 harg6 arg7 harg7 arg8 harg8 arg9 harg9 arg10 harg10 h2 v18 v20 X G k))
      = fun z => if (z 0).val < 8 * k then finish v18 v20 (arg10.view.read (Elt F) X) (arg9.view.read (Elt F) G) z else arg9.view.read (Elt F) G z
  | 0, _ => by
    funext z
    rw [if_neg (by omega)]
    rfl
  | k + 1, hk => by
    have ih := loop_read h2 v18 v20 X G k (by omega)
    have e := pb_k0_t1_succ (F := F) Variants.none c none i arg2 harg2 arg3 harg3 arg4 harg4 arg5 harg5 arg6 harg6 arg7 harg7 arg8 harg8 arg9 harg9 arg10 harg10 h2 v18 v20 X G ⟨k, hk⟩
    rw [e, trip_pieces, List.singleton_append, View.read_writes_cons_put _ _ _ _ _ (k0_off2_eq ⟨k, hk⟩)]
    funext z
    have hin : ∀ a, (![8 * k, 0] : Fin 2 → ℕ) a + S8x2048.size a ≤ S1024x2048.size a := by
      have := k0_off2_inb i ⟨k, hk⟩ h2; rwa [k0_off2_eq] at this
    rw [View.readAt_unit _ _ _ (k0_off2_eq ⟨k, hk⟩) hin, View.readAt_unit _ _ _ (k0_off2_eq ⟨k, hk⟩) hin, ih]
    have hz := (z 1).isLt
    by_cases h : 8 * k ≤ (z 0).val ∧ (z 0).val < 8 * k + 8
    · rw [if_pos (by omega)]
      have hq : (z 0).val / 8 = k := by omega
      refine (dif_pos (Fin.forall_fin_two.mpr ⟨h, ⟨Nat.zero_le _, by show (z 1).val < 0 + 2048; simpa using hz⟩⟩)).trans ?_
      show k0_pay4 v18 v20 _ _ _ = k0_pay4 v18 v20 _ _ _
      have e1 : VecWindow.window (arg10.view.read (Elt F) X) ![8 * k, 0] S8x2048.size hin = eightRows (arg10.view.read (Elt F) X) (z 0) := eightRows_of _ _ k hq hin
      have e2 : VecWindow.window (fun z => if (z 0).val < 8 * k then finish v18 v20 (arg10.view.read (Elt F) X) (arg9.view.read (Elt F) G) z else arg9.view.read (Elt F) G z)
          ![8 * k, 0] S8x2048.size hin = eightRows (arg9.view.read (Elt F) G) (z 0) := by
        rw [← eightRows_of (arg9.view.read (Elt F) G) (z 0) k hq hin]
        funext x
        exact if_neg (by show ¬ (8 * k + 1 * (x 0).val < 8 * k); omega)
      erw [e1, e2]
      refine congrArg _ (funext fun d => ?_)
      refine Fin.ext ?_
      revert d
      refine Fin.forall_fin_two.mpr ⟨?_, ?_⟩
      · show (z 0).val - 8 * k = (z 0).val % 8; omega
      · show (z 1).val - 0 = (z 1).val; omega
    · refine (dif_neg fun hall => h (hall 0)).trans ?_
      by_cases h' : (z 0).val < 8 * k
      · exact (if_pos h').trans (if_pos (by omega)).symm
      · exact (if_neg h').trans (if_neg (by omega)).symm

/-- The output block after the copy: `x`'s rows over what it held. -/
theorem first_block (h0 : AtFirst i) (h1 : ¬AtLater i) (h2 : ¬AtLast i) (y : Vec F S1024x2048 .f32) :
    arg9.view.read (Elt F) (arg9.view.writes (Elt F) (harg9.unread y) (runFirst c i arg2 harg2 arg3 harg3 arg4 harg4 arg5 harg5 arg6 harg6 arg7 harg7 arg8 harg8 arg9 harg9 arg10 harg10 x0 x1 x2 x3 x4 x5 x6 h0 h1 h2 y).1)
      = VecWindow.put y (k0_off1 i) S128x2048.size (k0_pay1 x0) := by
  unfold runFirst; dsimp only
  rw [View.read_writes_cons_put _ _ _ _ _ rfl, View.writes_nil, harg9.read_unread]
  rw [show View.readAt (Elt F) arg2.view _ (harg2.unread x0) = x0 from (View.readAt_full _ _ _).trans (harg2.read_unread x0)]

theorem first_acc (h0 : AtFirst i) (h1 : ¬AtLater i) (h2 : ¬AtLast i) (y : Vec F S1024x2048 .f32) (f : arg10.view.ty.Contents (Elt F)) :
    arg10.view.read (Elt F) (arg10.view.writes (Elt F) f (runFirst c i arg2 harg2 arg3 harg3 arg4 harg4 arg5 harg5 arg6 harg6 arg7 harg7 arg8 harg8 arg9 harg9 arg10 harg10 x0 x1 x2 x3 x4 x5 x6 h0 h1 h2 y).2.1)
      = k0_pay2 x1 x4 x5 x6 := by
  unfold runFirst; dsimp only
  refine (View.read_writes_full _ _ _ _ _).trans ?_
  rw [show View.readAt (Elt F) arg3.view _ (harg3.unread x1) = x1 from (View.readAt_full _ _ _).trans (harg3.read_unread x1),
    show View.readAt (Elt F) arg6.view _ (harg6.unread x4) = x4 from (View.readAt_full _ _ _).trans (harg6.read_unread x4),
    show View.readAt (Elt F) arg7.view _ (harg7.unread x5) = x5 from (View.readAt_full _ _ _).trans (harg7.read_unread x5),
    show View.readAt (Elt F) arg8.view _ (harg8.unread x6) = x6 from (View.readAt_full _ _ _).trans (harg8.read_unread x6)]

theorem middle_block (h0 : ¬AtFirst i) (h1 : AtLater i) (h2 : ¬AtLast i) (y s : Vec F S1024x2048 .f32) :
    arg9.view.read (Elt F) (arg9.view.writes (Elt F) (harg9.unread y) (runMiddle c i arg2 harg2 arg3 harg3 arg4 harg4 arg5 harg5 arg6 harg6 arg7 harg7 arg8 harg8 arg9 harg9 arg10 harg10 x0 x1 x2 x3 x4 x5 x6 h0 h1 h2 y s).1)
      = VecWindow.put y (k0_off1 i) S128x2048.size (k0_pay1 x0) := by
  unfold runMiddle; dsimp only
  rw [View.read_writes_cons_put _ _ _ _ _ rfl, View.writes_nil, harg9.read_unread]
  rw [show View.readAt (Elt F) arg2.view _ (harg2.unread x0) = x0 from (View.readAt_full _ _ _).trans (harg2.read_unread x0)]

theorem middle_acc (h0 : ¬AtFirst i) (h1 : AtLater i) (h2 : ¬AtLast i) (y s : Vec F S1024x2048 .f32) (f : arg10.view.ty.Contents (Elt F)) :
    arg10.view.read (Elt F) (arg10.view.writes (Elt F) f (runMiddle c i arg2 harg2 arg3 harg3 arg4 harg4 arg5 harg5 arg6 harg6 arg7 harg7 arg8 harg8 arg9 harg9 arg10 harg10 x0 x1 x2 x3 x4 x5 x6 h0 h1 h2 y s).2.1)
      = k0_pay3 x1 x4 x5 x6 s := by
  unfold runMiddle; dsimp only
  refine (View.read_writes_full _ _ _ _ _).trans ?_
  rw [show View.readAt (Elt F) arg3.view _ (harg3.unread x1) = x1 from (View.readAt_full _ _ _).trans (harg3.read_unread x1),
    show View.readAt (Elt F) arg6.view _ (harg6.unread x4) = x4 from (View.readAt_full _ _ _).trans (harg6.read_unread x4),
    show View.readAt (Elt F) arg7.view _ (harg7.unread x5) = x5 from (View.readAt_full _ _ _).trans (harg7.read_unread x5),
    show View.readAt (Elt F) arg8.view _ (harg8.unread x6) = x6 from (View.readAt_full _ _ _).trans (harg8.read_unread x6),
    show View.readAt (Elt F) arg10.view _ (harg10.unread s) = s from (View.readAt_full _ _ _).trans (harg10.read_unread s)]

theorem last_acc (h0 : ¬AtFirst i) (h1 : AtLater i) (h2 : AtLast i) (y s : Vec F S1024x2048 .f32) (f : arg10.view.ty.Contents (Elt F)) :
    arg10.view.read (Elt F) (arg10.view.writes (Elt F) f (runLast c i arg2 harg2 arg3 harg3 arg4 harg4 arg5 harg5 arg6 harg6 arg7 harg7 arg8 harg8 arg9 harg9 arg10 harg10 x0 x1 x2 x3 x4 x5 x6 h0 h1 h2 y s).2.1)
      = k0_pay3 x1 x4 x5 x6 s := by
  unfold runLast; dsimp only; unfold runLast.sl.HS_1
  refine (View.read_writes_full _ _ _ _ _).trans ?_
  rw [show View.readAt (Elt F) arg3.view _ (harg3.unread x1) = x1 from (View.readAt_full _ _ _).trans (harg3.read_unread x1),
    show View.readAt (Elt F) arg6.view _ (harg6.unread x4) = x4 from (View.readAt_full _ _ _).trans (harg6.read_unread x4),
    show View.readAt (Elt F) arg7.view _ (harg7.unread x5) = x5 from (View.readAt_full _ _ _).trans (harg7.read_unread x5),
    show View.readAt (Elt F) arg8.view _ (harg8.unread x6) = x6 from (View.readAt_full _ _ _).trans (harg8.read_unread x6),
    show View.readAt (Elt F) arg10.view _ (harg10.unread s) = s from (View.readAt_full _ _ _).trans (harg10.read_unread s)]

/-- The output block after the closing loop: every row of the block the copy left is finished with the full accumulator. -/
theorem last_block (h0 : ¬AtFirst i) (h1 : AtLater i) (h2 : AtLast i) (y s : Vec F S1024x2048 .f32) :
    arg9.view.read (Elt F) (arg9.view.writes (Elt F) (harg9.unread y) (runLast c i arg2 harg2 arg3 harg3 arg4 harg4 arg5 harg5 arg6 harg6 arg7 harg7 arg8 harg8 arg9 harg9 arg10 harg10 x0 x1 x2 x3 x4 x5 x6 h0 h1 h2 y s).1)
      = finish (gateRow x2) x3 (k0_pay3 x1 x4 x5 x6 s) (VecWindow.put y (k0_off1 i) S128x2048.size (k0_pay1 x0)) := by
  have ha := fun f => last_acc c i arg2 harg2 arg3 harg3 arg4 harg4 arg5 harg5 arg6 harg6 arg7 harg7 arg8 harg8 arg9 harg9 arg10 harg10 x0 x1 x2 x3 x4 x5 x6 h0 h1 h2 y s f
  unfold runLast at ha ⊢; dsimp only at ha ⊢
  rw [View.writes_append]
  refine (loop_read c i arg2 harg2 arg3 harg3 arg4 harg4 arg5 harg5 arg6 harg6 arg7 harg7 arg8 harg8 arg9 harg9 arg10 harg10 h2 _ _ _ _ k0_t1_loop.trips le_rfl).trans ?_
  rw [ha, View.read_writes_cons_put _ _ _ _ _ rfl, View.writes_nil, harg9.read_unread]
  rw [show View.readAt (Elt F) arg2.view _ (harg2.unread x0) = x0 from (View.readAt_full _ _ _).trans (harg2.read_unread x0),
    show View.readAt (Elt F) arg5.view _ (harg5.unread x3) = x3 from (View.readAt_full _ _ _).trans (harg5.read_unread x3),
    View.readAt_unit _ _ _ rfl inb_S1x6x2048_S1x1x2048_0_5_0, harg4.read_unread]
  funext z
  exact if_pos (by have := (z 0).isLt; exact this)

end Cert.Ffw

end
-- ==== Proof.FfnFrame.lean ====
/- The feed-forward call run over its whole grid. Four batches of eleven points each: the accumulator is stated after every point, and
   of the output block it is stated which rows hold `x` so far, and, after a batch's last point, the whole block. -/
module

public import proofs.«01_k».proof.Proof.FfnBlock
public import Idealize.ShloMosaic.Lib.Claim
public import Idealize.ShloMosaic.Lib.Pipeline.Value

/-! # The feed-forward call, run -/

@[expose] public section

set_option maxRecDepth 16384

noncomputable section

namespace Cert.Ffw

open Cert.FfnIdeal Cert.FfnIdeal.Gen
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem first_iff : ∀ t : Fin cfg0.N, AtFirst (grid0.coords t) ↔ t.val % 11 = 0 :=
  (by decide +kernel : ∀ t : Fin grid0.N, AtFirst (grid0.coords t) ↔ t.val % 11 = 0)

theorem later_iff : ∀ t : Fin cfg0.N, AtLater (grid0.coords t) ↔ ¬t.val % 11 = 0 :=
  (by decide +kernel : ∀ t : Fin grid0.N, AtLater (grid0.coords t) ↔ ¬t.val % 11 = 0)

theorem last_iff : ∀ t : Fin cfg0.N, AtLast (grid0.coords t) ↔ t.val % 11 = 10 :=
  (by decide +kernel : ∀ t : Fin grid0.N, AtLast (grid0.coords t) ↔ t.val % 11 = 10)

/-- Which of its eight groups of 128 rows a point copies: the first three points copy the first group with the fourth. -/
abbrev group (n : ℕ) : ℕ := min 7 (n % 11 - 3)

theorem off1_eq : ∀ t : Fin cfg0.N, k0_off1 (grid0.coords t) = ![128 * group t.val, 0] :=
  (by decide +kernel : ∀ t : Fin grid0.N, k0_off1 (grid0.coords t) = ![128 * group t.val, 0])

theorem idx_0 : ∀ t : Fin grid0.N, win0_0.index t = ![8 * (t.val / 11) + group t.val, 0] := by decide +kernel

variable (m : (ℓ : Loc nD τ sig) → Buf (Elt F) ℓ) (ρ : Dev nD → PrngReg)

/-- The 1024 rows of `x` that belong to batch `b`. -/
def xRows (c : Dev nD) (b : ℕ) : Vec F S1024x2048 .f32 :=
  fun z => (V m c main_v0 : Vec F S4096x2048 .f32) (ix2 ⟨(1024 * b + (z 0).val) % 4096, Nat.mod_lt _ (by omega)⟩ (z 1))

theorem iblk0_apply (c : Dev nD) (t : Fin cfg0.N) (a : Fin 128) (b : Fin 2048) (z : S1024x2048.Idx) (h0 : (z 0).val = 128 * group t.val + a.val) (h1 : (z 1).val = b.val) :
    (iblk m c 0 t : Vec F S128x2048 .f32) (ix2 a b) = xRows m c (t.val / 11) z := by
  unfold xRows
  have ht : t.val < 44 := Nat.lt_of_lt_of_eq t.isLt N_0
  have ha := a.isLt
  have hz : (z 0).val < 1024 := (z 0).isLt
  blk_simp [iblk]
  refine congrArg (V m c main_v0) (funext (Fin.forall_fin_two.mpr ⟨Fin.ext ?_, Fin.ext ?_⟩))
  · blk_simp [idx_0 t]
    show _ = (1024 * (t.val / 11) + (z 0).val) % 4096
    have hg : group t.val ≤ 7 := Nat.min_le_left _ _
    omega
  · blk_simp [idx_0 t]; omega

/-- The accumulator after point `n`: a batch's first point starts it, every later point adds its block's product. -/
def acc (c : Dev nD) : (n : ℕ) → n < cfg0.N → Vec F S1024x2048 .f32
  | 0, h => k0_pay2 (iblk m c 1 ⟨0, h⟩) (iblk m c 4 ⟨0, h⟩) (iblk m c 5 ⟨0, h⟩) (iblk m c 6 ⟨0, h⟩)
  | n + 1, h =>
    if (n + 1) % 11 = 0 then k0_pay2 (iblk m c 1 ⟨n + 1, h⟩) (iblk m c 4 ⟨n + 1, h⟩) (iblk m c 5 ⟨n + 1, h⟩) (iblk m c 6 ⟨n + 1, h⟩)
    else k0_pay3 (iblk m c 1 ⟨n + 1, h⟩) (iblk m c 4 ⟨n + 1, h⟩) (iblk m c 5 ⟨n + 1, h⟩) (iblk m c 6 ⟨n + 1, h⟩) (acc c n (by omega))

theorem acc_first (c : Dev nD) (t : Fin cfg0.N) (h : t.val % 11 = 0) :
    acc m c t.val t.isLt = k0_pay2 (iblk m c 1 t) (iblk m c 4 t) (iblk m c 5 t) (iblk m c 6 t) := by
  obtain ⟨n, hn⟩ := t
  cases n with
  | zero => rfl
  | succ n => exact if_pos h

theorem acc_later (c : Dev nD) (t : Fin cfg0.N) (h : ¬t.val % 11 = 0) (h' : t.val - 1 < cfg0.N) :
    acc m c t.val t.isLt = k0_pay3 (iblk m c 1 t) (iblk m c 4 t) (iblk m c 5 t) (iblk m c 6 t) (acc m c (t.val - 1) h') := by
  obtain ⟨n, hn⟩ := t
  cases n with
  | zero => exact absurd rfl h
  | succ n => exact if_neg h

/-- A batch's whole output block. -/
def outBlock (c : Dev nD) (t : Fin cfg0.N) : Vec F S1024x2048 .f32 :=
  finish (gateRow (iblk m c 2 t)) (iblk m c 3 t) (acc m c t.val t.isLt) (xRows m c (t.val / 11))

/-- What is known of the output block after point `t`: before the batch's last point, the groups of rows copied so far; then all of it. -/
def Held (c : Dev nD) (t : Fin cfg0.N) (X : Vec F S1024x2048 .f32) : Prop :=
  if t.val % 11 = 10 then X = outBlock m c t
  else ∀ z : S1024x2048.Idx, (z 0).val < 128 * (group t.val + 1) → X z = xRows m c (t.val / 11) z

/-- The copy extends the rows that hold `x`. -/
theorem copied (c : Dev nD) (t : Fin cfg0.N) (y : Vec F S1024x2048 .f32)
    (hy : ∀ z : S1024x2048.Idx, (z 0).val < 128 * group t.val → y z = xRows m c (t.val / 11) z) :
    ∀ z : S1024x2048.Idx, (z 0).val < 128 * (group t.val + 1) →
      VecWindow.put y (k0_off1 (grid0.coords t)) S128x2048.size (k0_pay1 (iblk m c 0 t)) z = xRows m c (t.val / 11) z := fun z hz => by
  rw [off1_eq]
  have h1 : (z 1).val < 2048 := (z 1).isLt
  by_cases h : 128 * group t.val ≤ (z 0).val
  · refine (dif_pos (Fin.forall_fin_two.mpr ⟨⟨h, by show (z 0).val < 128 * group t.val + 128; omega⟩, ⟨Nat.zero_le _, by show (z 1).val < 0 + 2048; omega⟩⟩)).trans ?_
    unfold k0_pay1
    rw [shapeCast_self]
    refine Eq.trans (congrArg _ (funext fun d => ?_)) (iblk0_apply m c t ⟨(z 0).val - 128 * group t.val, by omega⟩ ⟨(z 1).val, h1⟩ z (by show _ = _ + ((z 0).val - _); omega) rfl)
    refine Fin.ext ?_
    revert d
    exact Fin.forall_fin_two.mpr ⟨rfl, rfl⟩
  · refine (dif_neg fun hall => h (hall 0).1).trans (hy z (by omega))

/-- The staging buffers at a point, and the accumulator's buffer. -/
abbrev ms0 (t : Fin cfg0.N) : Memref sig .tc .vmem S128x2048 .f32 := win0_0.stage (cfg0.slots t 0)
abbrev ms1 (t : Fin cfg0.N) : Memref sig .tc .vmem S1024x2048 .bf16 := win0_1.stage (cfg0.slots t 1)
abbrev ms2 (t : Fin cfg0.N) : Memref sig .tc .vmem S1x6x2048 .f32 := win0_2.stage (cfg0.slots t 2)
abbrev ms3 (t : Fin cfg0.N) : Memref sig .tc .vmem S1x2048 .f32 := win0_3.stage (cfg0.slots t 3)
abbrev ms4 (t : Fin cfg0.N) : Memref sig .tc .vmem S2048x512 .bf16 := win0_4.stage (cfg0.slots t 4)
abbrev ms5 (t : Fin cfg0.N) : Memref sig .tc .vmem S2048x512 .bf16 := win0_5.stage (cfg0.slots t 5)
abbrev ms6 (t : Fin cfg0.N) : Memref sig .tc .vmem S512x2048 .bf16 := win0_6.stage (cfg0.slots t 6)
abbrev ms7 (t : Fin cfg0.N) : Memref sig .tc .vmem S1024x2048 .f32 := win0_7.stage (cfg0.slots t 7)
abbrev accM : Memref sig .tc .vmem S1024x2048 .f32 := Memref.whole cc0_scratch0

theorem rest_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-- The region's invariant before position `n`: the accumulator holds what the point before left. -/
def Inv (c : Dev nD) : (n : ℕ) → n ≤ cfg0.N → sProp 𝕄
  | 0, _ => Pipeline.ΦA spec0 c
  | n + 1, hn => iprop(iprop(owns (c : Thread nD τ) accM fullShare (acc m c n hn)) ∗ (∃ r, prngReg c r))

theorem Inv_pos (c : Dev nD) (n : ℕ) (h : n ≤ cfg0.N) (hz : n ≠ 0) :
    Inv m c n h = iprop(iprop(owns (c : Thread nD τ) accM fullShare (acc m c (n - 1) (by omega))) ∗ (∃ r, prngReg c r)) := by
  cases n with
  | zero => exact absurd rfl hz
  | succ n => rfl

/-- Before any point the accumulator's buffer is held at some contents. -/
theorem Inv_any (c : Dev nD) (n : ℕ) (h : n ≤ cfg0.N) : Inv m c n h ⊢ Pipeline.ΦA spec0 c := by
  cases n with
  | zero => exact .rfl
  | succ n =>
    rw [rest_eq]; unfold Inv
    iintro ⟨HS, Hg⟩
    isplitl [HS]
    · iexists _; iexact HS
    iexact Hg

theorem open_any (c : Dev nD) (n : ℕ) (h : n ≤ cfg0.N) (R : sProp 𝕄) :
    iprop(Inv m c n h ∗ R) ⊢ iprop(iprop((∃ d, owns (c : Thread nD τ) accM fullShare d) ∗ (∃ r, prngReg c r)) ∗ R) := by
  rw [← rest_eq]; exact sep_mono_left (Inv_any m c n h)

/-- The call's proof data: each input block stays as it is, the accumulator follows `acc`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc m c t.val t.isLt
  Φ t := Inv m c t.val (Nat.le_of_lt_succ t.isLt)
  q _ := fullShare
  owed _ := 0

/-- The window whose contents are held to a relation: the output. -/
abbrev marked : Fin cfg0.W → Bool := fun w => match w with
  | ⟨7, _⟩ => true
  | ⟨0, _⟩ => false
  | ⟨1, _⟩ => false
  | ⟨2, _⟩ => false
  | ⟨3, _⟩ => false
  | ⟨4, _⟩ => false
  | ⟨5, _⟩ => false
  | ⟨6, _⟩ => false

/-- The relation, window by window. -/
def Rel (c : Dev nD) (w : Fin cfg0.W) (t : Fin cfg0.N) : (((cfg0.win w).block).Idx → Elt F (cfg0.win w).elt) → Prop := match w with
  | ⟨7, _⟩ => Held m c t
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True

theorem A_eq (c : Dev nD) (w : Fin cfg0.W) : (dats m c).A w = V m c (Pipeline.arrRef spec0 w) := by
  dsimp only [dats]

theorem before_0 (c : Dev nD) (t : Fin cfg0.N) (d) : (dats m c).before 0 t d = iblk m c 0 t := before0_0_of m (dats m c) (A_eq m c 0) (fun t => by dsimp only [dats]) t d
theorem before_1 (c : Dev nD) (t : Fin cfg0.N) (d) : (dats m c).before 1 t d = iblk m c 1 t := before0_1_of m (dats m c) (A_eq m c 1) (fun t => by dsimp only [dats]) t d
theorem before_2 (c : Dev nD) (t : Fin cfg0.N) (d) : (dats m c).before 2 t d = iblk m c 2 t := before0_2_of m (dats m c) (A_eq m c 2) (fun t => by dsimp only [dats]) t d
theorem before_3 (c : Dev nD) (t : Fin cfg0.N) (d) : (dats m c).before 3 t d = iblk m c 3 t := before0_3_of m (dats m c) (A_eq m c 3) (fun t => by dsimp only [dats]) t d
theorem before_4 (c : Dev nD) (t : Fin cfg0.N) (d) : (dats m c).before 4 t d = iblk m c 4 t := before0_4_of m (dats m c) (A_eq m c 4) (fun t => by dsimp only [dats]) t d
theorem before_5 (c : Dev nD) (t : Fin cfg0.N) (d) : (dats m c).before 5 t d = iblk m c 5 t := before0_5_of m (dats m c) (A_eq m c 5) (fun t => by dsimp only [dats]) t d
theorem before_6 (c : Dev nD) (t : Fin cfg0.N) (d) : (dats m c).before 6 t d = iblk m c 6 t := before0_6_of m (dats m c) (A_eq m c 6) (fun t => by dsimp only [dats]) t d

/-- The proof data read relationally. -/
abbrev rdats (c : Dev nD) : RDat τ (Elt F) Unit ℕ (UR sig nD τ) ℕ cfg0 c := (dats m c).toRRel marked (Rel m c)

theorem finds_held (c : Dev nD) (t : Fin cfg0.N) (Y : Vec F S1024x2048 .f32) (hY : (rdats m c).Finds 7 t Y) :
    ∀ z : S1024x2048.Idx, (z 0).val < 128 * group t.val → Y z = xRows m c (t.val / 11) z := by
  intro z hz
  have hN : t.val < 44 := Nat.lt_of_lt_of_eq t.isLt N_0
  unfold group at hz
  have h0 : ¬t.val % 11 = 0 := by omega
  have hp : t.val ≠ 0 := by omega
  have hlt : t.val - 1 < cfg0.N := Nat.lt_of_le_of_lt (Nat.sub_le _ _) t.isLt
  rcases ((rdats m c).finds_of_pos (w := 7) rfl hp Y).mp hY with h | h
  · have := (flush0_7 ⟨t.val - 1, hlt⟩).mp h
    exact absurd this (by show ¬(t.val - 1) % 11 = 10; omega)
  · have h' : Held m c ⟨t.val - 1, hlt⟩ Y := (dats m c).toRRel_leaves (w := 7) rfl h
    unfold Held at h'
    rw [if_neg (by show ¬(t.val - 1) % 11 = 10; omega)] at h'
    have := h' z (by show (z 0).val < 128 * (min 7 ((t.val - 1) % 11 - 3) + 1); omega)
    rw [this]
    show xRows m c ((t.val - 1) / 11) z = _
    rw [show (t.val - 1) / 11 = t.val / 11 by omega]

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d))
    ∗ (∃ d, owns (c : Thread nD τ) (ms5 t) fullShare ((dats m c).before 5 t d))
    ∗ (∃ d, owns (c : Thread nD τ) (ms6 t) fullShare ((dats m c).before 6 t d))
    ∗ (∃ Y, ⌜(rdats m c).Finds 7 t Y⌝ ∗ owns (c : Thread nD τ) (ms7 t) fullShare Y))

/-- and what it returns. -/
def bodyPost (c : Dev nD) (t : Fin cfg0.N) : sProp 𝕄 :=
  iprop((dats m c).Φ t.succ ∗ (dats m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ (∃ X, ⌜Held m c t X⌝ ∗ owns (c : Thread nD τ) (ms7 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m c).owesAt () t.succ = (dats m c).owesAt () t.castSucc from rfl]
  rw [show (dats m c).Φ t.succ = iprop(iprop(owns (c : Thread nD τ) accM fullShare (acc m c t.val t.isLt)) ∗ (∃ r, prngReg c r)) from rfl,
    show (dats m c).Φ t.castSucc = Inv m c t.val (Nat.le_of_lt t.isLt) from by dsimp only [dats]; exact Pipeline.Dat.Φ_castSucc (Inv m c) t]
  have hN : t.val < 44 := Nat.lt_of_lt_of_eq t.isLt N_0
  have hlt : t.val - 1 < cfg0.N := Nat.lt_of_le_of_lt (Nat.sub_le _ _) t.isLt
  by_cases h0 : t.val % 11 = 0
  · rw [acc_first m c t h0]
    refine (open_any m c _ _ _).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply ((runFirst c (grid0.coords t) _ _ _ _ _ _ _ _ _ _ _ _ _ _ _ _ _ _ (iblk m c 0 t) (iblk m c 1 t) (iblk m c 2 t) (iblk m c 3 t) (iblk m c 4 t) (iblk m c 5 t) (iblk m c 6 t)
      ((first_iff t).mpr h0) (fun h => (later_iff t).mp h h0) (fun h => by have := (last_iff t).mp h; omega) Y).2.2 Set.univ _)
    isplitl [H0 H1 H2 H3 H4 H5 H6]
    · unfold inputs
      isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS]; · iexact HS
    unfold inputs
    iintro ⟨⟨H0, H1, H2, H3, H4, H5, H6⟩, H7, ⟨%es, HS⟩⟩
    isplitl [HS Hg]
    · isplitl [HS]
      · unfold owns; iexists _; isplitr
        swap; · iexact HS
        ipureintro; exact first_acc _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists (VecWindow.put Y (k0_off1 (grid0.coords t)) S128x2048.size (k0_pay1 (iblk m c 0 t)))
    isplitr
    · ipureintro
      unfold Held
      rw [if_neg (by omega)]
      exact copied m c t Y (finds_held m c t Y hY)
    · unfold owns; iexists _; isplitr
      swap; · iexact H7
      ipureintro; exact first_block _ _ _ _ _ _ _ _ _ _ _ _ _ _ _ _ _ _ _ _ _ _ _ _ _ _ _ _ _ _ _
  · rw [Inv_pos m c _ _ (by omega), acc_later m c t h0 hlt]
    by_cases h2 : t.val % 11 = 10
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
      iapply ((runLast c (grid0.coords t) _ _ _ _ _ _ _ _ _ _ _ _ _ _ _ _ _ _ (iblk m c 0 t) (iblk m c 1 t) (iblk m c 2 t) (iblk m c 3 t) (iblk m c 4 t) (iblk m c 5 t) (iblk m c 6 t)
        (fun h => h0 ((first_iff t).mp h)) ((later_iff t).mpr h0) ((last_iff t).mpr h2) Y (acc m c (t.val - 1) hlt)).2.2 Set.univ _)
      isplitl [H0 H1 H2 H3 H4 H5 H6]
      · unfold inputs
        isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [HS]; · iexact HS
      unfold inputs
      iintro ⟨⟨H0, H1, H2, H3, H4, H5, H6⟩, H7, ⟨%es, HS⟩⟩
      isplitl [HS Hg]
      · isplitl [HS]
        · unfold owns; iexists _; isplitr
          swap; · iexact HS
          ipureintro; exact last_acc _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists (outBlock m c t)
      isplitr
      · ipureintro
        unfold Held
        rw [if_pos h2]
      · unfold owns; iexists _; isplitr
        swap; · iexact H7
        ipureintro
        refine (last_block _ _ _ _ _ _ _ _ _ _ _ _ _ _ _ _ _ _ _ _ _ _ _ _ _ _ _ _ _ _ _ _).trans ?_
        unfold outBlock
        rw [acc_later m c t h0 hlt]
        refine congrArg _ (funext fun z => copied m c t Y (finds_held m c t Y hY) z ?_)
        have hz : (z 0).val < 1024 := (z 0).isLt
        unfold group; omega
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
      iapply ((runMiddle c (grid0.coords t) _ _ _ _ _ _ _ _ _ _ _ _ _ _ _ _ _ _ (iblk m c 0 t) (iblk m c 1 t) (iblk m c 2 t) (iblk m c 3 t) (iblk m c 4 t) (iblk m c 5 t) (iblk m c 6 t)
        (fun h => h0 ((first_iff t).mp h)) ((later_iff t).mpr h0) (fun h => h2 ((last_iff t).mp h)) Y (acc m c (t.val - 1) hlt)).2.2 Set.univ _)
      isplitl [H0 H1 H2 H3 H4 H5 H6]
      · unfold inputs
        isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [HS]; · iexact HS
      unfold inputs
      iintro ⟨⟨H0, H1, H2, H3, H4, H5, H6⟩, H7, ⟨%es, HS⟩⟩
      isplitl [HS Hg]
      · isplitl [HS]
        · unfold owns; iexists _; isplitr
          swap; · iexact HS
          ipureintro; exact middle_acc _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists (VecWindow.put Y (k0_off1 (grid0.coords t)) S128x2048.size (k0_pay1 (iblk m c 0 t)))
      isplitr
      · ipureintro
        unfold Held
        rw [if_neg h2]
        exact copied m c t Y (finds_held m c t Y hY)
      · unfold owns; iexists _; isplitr
        swap; · iexact H7
        ipureintro; exact middle_block _ _ _ _ _ _ _ _ _ _ _ _ _ _ _ _ _ _ _ _ _ _ _ _ _ _ _ _ _ _ _ _

theorem body_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m c) (defs₀ (F := F)) Variants.none () Set.univ marked (Rel m c) := fun t => by
  rw [bigSep_W0, bigSep_W0, body_row]
  exact triple_restated (sound_body m c t) rfl .rfl fun _ => .rfl

theorem hin (c : Dev nD) : Pipeline.ΦA spec0 c ⊢ (dats m c).Φ 0 := .rfl

theorem hout (c : Dev nD) : (dats m c).Φ (Fin.last cfg0.N) ⊢ Pipeline.ΦA spec0 c := by
  dsimp only [dats]
  exact Inv_any m c _ _

set_option backward.isDefEq.respectTransparency.types false in
set_option maxHeartbeats 800000 in
/-- The run: every array of the region at what the relation allows, every other buffer as the host code left it, every counter at zero. -/
theorem run_quiescent : θ_run defs (onTc (τ := τ) (main (F := F))) (s₀ m ρ) (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := A_eq m) (hin := hin m) (hout := hout m)

/-- The argument arrays end as they were. -/
theorem args_of (r : PUnit × MemSt nD τ sig (Elt F)) (h : Pipeline.RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m r h.1, h.2⟩) (run_quiescent m ρ)

end Cert.Ffw

end
-- ==== Proof.FfnWords.lean ====
module

public import proofs.«01_k».proof.Proof.FfnFrame
public import proofs.«01_k».proof.Proof.Gen.Ffn

/-!
# The frame of the feed-forward call as first printed

The two printed programs have the same text, so the run that is proved for every kind of float value is this program's run too.
-/

@[expose] public section

namespace Cert.Ffw

open Idealize.ShloMosaic Idealize.ShloMosaic.TcCoe Cert.Ffn Cert.Ffn.Gen Idealize.SL.Sem

set_option maxRecDepth 16384

variable {F : FTy → Type} [FloatOps F]

/-- The two texts' kernel is one kernel. -/
theorem kernel_eq : @Cert.Ffn.cc0_ffn F _ _ = @Cert.FfnIdeal.cc0_ffn F _ _ := rfl

/-- The two texts' body tables are one table. -/
theorem bodies_eq : Cert.Ffn.defs₀ (F := F) = Cert.FfnIdeal.defs₀ (F := F) := by
  unfold Cert.Ffn.defs₀ Cert.FfnIdeal.defs₀
  refine congrArg Defs.onTc ?_
  funext l x
  obtain rfl : l = 0 := Subsingleton.elim _ _
  rfl

/-- So are the tables with the pipeline in them. -/
theorem tables_eq : Cert.Ffn.defs (F := F) = Cert.FfnIdeal.defs (F := F) := congrArg (Pipeline.defs Cert.FfnIdeal.pcfgs) bodies_eq

theorem words_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [tables_eq]
  exact Cert.Ffw.frame (F := F) m ρ

end Cert.Ffw
-- ==== Proof.GatesTerm.lean ====
module

public import proofs.«01_k».proof.Proof.Gen.GatesIdeal.Frame
public import Idealize.ShloMosaic.Lib.Pointwise

/-!
# The arithmetic of one point of the gates' projection at an index, over the extended reals
-/

@[expose] public section

namespace Cert.GatesValue

open Idealize.ShloMosaic Idealize.ShloMosaic.TcCoe Cert.GatesIdeal Cert.GatesIdeal.Gen

noncomputable section

set_option maxRecDepth 16384

/-- The tanh form of the Gaussian error unit. -/
def gelu (v : EReal) : EReal :=
  v * (Ideal.ofBits (φ := .f32) 0x3F000000#32 * (Ideal.ofBits (φ := .f32) 0x3F800000#32
    + Ideal.tanh (Ideal.ofBits (φ := .f32) 0x3F4C422A#32 * (v + Ideal.ofBits (φ := .f32) 0x3D372713#32 * (v * (v * v))))))

/-- The cube the reference forms the other way round. -/
theorem gelu_eq (v : EReal) : gelu v = v * (Ideal.ofBits (φ := .f32) 0x3F000000#32 * (Ideal.ofBits (φ := .f32) 0x3F800000#32
    + Ideal.tanh (Ideal.ofBits (φ := .f32) 0x3F4C422A#32 * (v + Ideal.ofBits (φ := .f32) 0x3D372713#32 * (v * v * v))))) := by
  unfold gelu
  rw [mul_comm v (v * v)]

/-- The number the sums of the layer norm are divided by. -/
def width : EReal := Ideal.ofBits (φ := .f32) 0x44800000#32

/-- The number added to the variance. -/
def tiny : EReal := Ideal.ofBits (φ := .f32) 0x358637BD#32

/-- A row less its mean. -/
def centred (f : Fin 1024 → EReal) (n : Fin 1024) : EReal := f n - Ideal.div (∑ e : Fin 1024, f e) width

/-- A row normalised to mean zero and variance one. -/
def normed (f : Fin 1024 → EReal) (n : Fin 1024) : EReal :=
  centred f n * Ideal.rsqrt (Ideal.div (∑ e : Fin 1024, centred f e * centred f e) width + tiny)

/-- A row against a column of the weight. -/
def dot (a : Fin 2048 → EReal) (w : Fin 2048 → Fin 5120 → EReal) (n : Fin 5120) : EReal := ∑ k : Fin 2048, a k * w k n

/-- One row of the call's result: the 4096 gates, then the 1024 entries of the normalised branch. -/
def rowOut (a : Fin 2048 → EReal) (w : Fin 2048 → Fin 5120 → EReal) (g : Fin 1024 → EReal) (n : Fin 5120) : EReal :=
  if h : n.val < 4096 then Ideal.logistic (dot a w ⟨1024 + n.val, by omega⟩)
  else normed (fun e => gelu (dot a w ⟨e.val, by omega⟩)) ⟨n.val - 4096, by omega⟩ * g ⟨n.val - 4096, by omega⟩

/-- A weight block's product with a row block at an index. -/
theorem product_apply (o : Nat) (ho : o + 1024 ≤ 5120) (hs : S2048x5120.Slices ![0, o] S2048x1024) (w : FVec Ideal S2048x5120 .bf16) (a : FVec Ideal S256x2048 .bf16)
    (p : Fin 256) (n : Fin 1024) :
    matmul dot_S256x2048_S2048x1024_S256x1024_1_0_0_1_n_n none a (extractStridedSlice S2048x1024 ![0, o] w hs) (constant S256x1024 .f32 0x00000000#32) (ix2 p n)
      = dot (fun k => a (ix2 p k)) (fun k j => w (ix2 k j)) ⟨o + n.val, by omega⟩ := by
  unfold dot
  pointwise []

theorem normed_apply (v : FVec Ideal S256x1024 .f32) (g : Vec Ideal S1x1024 .f32) (p : Fin 256) (n : Fin 1024) :
    k0_pay17 (F := Ideal) v (mulf v (mulf v v)) g (ix2 p n) = normed (fun e => gelu (v (ix2 p e))) n * g (ix2 0 n) := by
  unfold k0_pay17 normed centred gelu width tiny
  pointwise []

end

end Cert.GatesValue
-- ==== Proof.GatesBlock.lean ====
module

public import proofs.«01_k».proof.Proof.GatesTerm
public import Idealize.ShloMosaic.Lib.Pipeline.ValueKit.Tiles

/-!
# What one point of the gates' projection leaves in its output block
-/

@[expose] public section

namespace Cert.GatesValue

open Idealize.ShloMosaic Idealize.ShloMosaic.TcCoe Cert.GatesIdeal Cert.GatesIdeal.Gen

noncomputable section

set_option maxRecDepth 16384

/-- The row the point works on: of the first operand's block in the first half of the grid, of the second's after it. -/
def blockRow (i : Nat) (x0 x1 : Vec Ideal S512x2048 .bf16) (p : Fin 512) (k : Fin 2048) : EReal := if i < 8 then x0 (ix2 p k) else x1 (ix2 p k)

theorem slt_eight : ∀ n : Fin 16, Scalar.cmpi .slt (BitVec.ofNat 32 n.val) 8#32 = if n.val < 8 then 1#1 else 0#1 := by decide

theorem pick_apply (n : Nat) (hn : n < 16) (u v : Vec Ideal S256x2048 .bf16) (z : S256x2048.Idx) :
    k0_pay14 (F := Ideal) (BitVec.ofNat 32 n) u v z = if n < 8 then u z else v z := by
  have e := slt_eight ⟨n, hn⟩
  unfold k0_pay14
  simp only at e
  rw [e]
  by_cases h : n < 8
  · rw [if_pos h, if_pos h]; rw [shapeCast_self]; rfl
  · rw [if_neg h, if_neg h]; rw [shapeCast_self, shapeCast_self]; rfl

theorem gate_piece (o : Nat) (ho : o + 1024 ≤ 5120) (hs : S2048x5120.Slices ![0, o] S2048x1024) (w : FVec Ideal S2048x5120 .bf16) (a : FVec Ideal S256x2048 .bf16)
    (p : Fin 256) (n : Fin 1024) (r : Fin 2048 → EReal) (hr : ∀ k, a (ix2 p k) = r k) (W : Fin 2048 → Fin 5120 → EReal) (hW : ∀ k j, w (ix2 k j) = W k j)
    (g : Fin 1024 → EReal) (N : Fin 5120) (h1 : N.val + 1024 = o + n.val) :
    truncf .bf16 (logistic (matmul dot_S256x2048_S2048x1024_S256x1024_1_0_0_1_n_n none a (extractStridedSlice S2048x1024 ![0, o] w hs)
      (constant S256x1024 .f32 0x00000000#32))) bitsLt_bf16_f32 (ix2 p n) = rowOut r W g N := by
  have hN : N.val < 4096 := by omega
  unfold rowOut
  rw [dif_pos hN]
  refine (congrArg Ideal.logistic (product_apply o ho hs w a p n)).trans (congrArg Ideal.logistic ?_)
  obtain rfl : (fun k => a (ix2 p k)) = r := funext hr
  obtain rfl : (fun k j => w (ix2 k j)) = W := funext fun k => funext (hW k)
  exact congrArg (dot _ _) (Fin.ext (by show o + n.val = 1024 + N.val; omega))

theorem normed_piece (w : FVec Ideal S2048x5120 .bf16) (a : FVec Ideal S256x2048 .bf16) (x : Vec Ideal S1x1024 .f32)
    (p : Fin 256) (n : Fin 1024) (r : Fin 2048 → EReal) (hr : ∀ k, a (ix2 p k) = r k) (W : Fin 2048 → Fin 5120 → EReal) (hW : ∀ k j, w (ix2 k j) = W k j)
    (g : Fin 1024 → EReal) (hg : ∀ e, x (ix2 0 e) = g e) (N : Fin 5120) (h1 : N.val = 4096 + n.val) (v : FVec Ideal S256x1024 .f32)
    (hv : v = matmul dot_S256x2048_S2048x1024_S256x1024_1_0_0_1_n_n none a (extractStridedSlice S2048x1024 ![0, 0] w slices_S2048x5120_o0_0_S2048x1024)
      (constant S256x1024 .f32 0x00000000#32)) :
    k0_pay17 (F := Ideal) v (mulf v (mulf v v)) x (ix2 p n) = rowOut r W g N := by
  have hN : ¬ N.val < 4096 := by omega
  refine (normed_apply v x p n).trans ?_
  unfold rowOut
  rw [dif_neg hN]
  obtain rfl : (fun k => a (ix2 p k)) = r := funext hr
  obtain rfl : (fun k j => w (ix2 k j)) = W := funext fun k => funext (hW k)
  have hn : (⟨N.val - 4096, by omega⟩ : Fin 1024) = n := Fin.ext (by show N.val - 4096 = n.val; omega)
  rw [hn]
  refine congrArg₂ (· * ·) (congrArg (normed · _) (funext fun e => congrArg gelu ?_)) (hg _)
  rw [hv]
  exact (product_apply 0 (by decide) _ w a p e).trans (congrArg (dot _ _) (Fin.ext (by show 0 + e.val = e.val; omega)))

variable (i : grid0.Coords) (x0 x1 : Vec Ideal S512x2048 .bf16) (x2 : Vec Ideal S1x1024 .f32) (x3 : Vec Ideal S2048x5120 .bf16)

theorem weight_apply (k : Fin 2048) (j : Fin 5120) : k0_pay20 (F := Ideal) i x0 x1 x2 x3 (ix2 k j) = x3 (ix2 k j) := by
  unfold k0_pay20 k0_pay4
  pointwise []

theorem upper_apply (p : Fin 256) (P : Fin 512) (h : P.val = p.val) (k : Fin 2048) :
    k0_pay21 (F := Ideal) i x0 x1 x2 x3 (ix2 p k) = blockRow (i 0).val x0 x1 P k := by
  obtain rfl : P = ⟨p.val, by clear h; omega⟩ := Fin.ext h
  refine (pick_apply (i 0).val (i 0).isLt _ _ _).trans ?_
  unfold blockRow
  congr 1 <;> pointwise []

theorem lower_apply (p : Fin 256) (P : Fin 512) (h : P.val = 256 + p.val) (k : Fin 2048) :
    k0_pay22 (F := Ideal) i x0 x1 x2 x3 (ix2 p k) = blockRow (i 0).val x0 x1 P k := by
  obtain rfl : P = ⟨256 + p.val, by clear h; omega⟩ := Fin.ext h
  refine (pick_apply (i 0).val (i 0).isLt _ _ _).trans ?_
  unfold blockRow
  congr 1 <;> pointwise []

theorem scale_apply (e : Fin 1024) : View.ld x2 r0_2 (ix2 0 e) = x2 (ix2 0 e) := by
  pointwise []

/-- The output block at an index. -/
theorem block_apply (p : Fin 512) (n : Fin 5120) :
    out0_4 (F := Ideal) i x0 x1 x2 x3 (ix2 p n)
      = rowOut (blockRow (i 0).val x0 x1 p) (fun k j => x3 (ix2 k j)) (fun e => x2 (ix2 0 e)) n := by
  have hw := weight_apply i x0 x1 x2 x3
  canon_tiles x h using cover0_4 (F := Ideal) _ _ _ _ _ _ _ _ _ _ _
  all_goals obtain ⟨a, b, rfl⟩ : ∃ (a : Fin 256) (b : Fin 1024), x = ix2 a b := ⟨x 0, x 1, eq_ix2 x⟩
  · exact gate_piece 4096 (by decide) _ _ _ a b _ (lower_apply i x0 x1 x2 x3 a p h0) _ hw _ n (by have : n.val = 3072 + b.val := h1; omega)
  · exact gate_piece 3072 (by decide) _ _ _ a b _ (lower_apply i x0 x1 x2 x3 a p h0) _ hw _ n (by have : n.val = 2048 + b.val := h1; omega)
  · exact gate_piece 2048 (by decide) _ _ _ a b _ (lower_apply i x0 x1 x2 x3 a p h0) _ hw _ n (by have : n.val = 1024 + b.val := h1; omega)
  · exact gate_piece 1024 (by decide) _ _ _ a b _ (lower_apply i x0 x1 x2 x3 a p h0) _ hw _ n (by have : n.val = b.val := h1; omega)
  · exact normed_piece _ _ _ a b _ (lower_apply i x0 x1 x2 x3 a p h0) _ hw _ (scale_apply x2) n h1 _ rfl
  · exact gate_piece 4096 (by decide) _ _ _ a b _ (upper_apply i x0 x1 x2 x3 a p h0) _ hw _ n (by have : n.val = 3072 + b.val := h1; omega)
  · exact gate_piece 3072 (by decide) _ _ _ a b _ (upper_apply i x0 x1 x2 x3 a p h0) _ hw _ n (by have : n.val = 2048 + b.val := h1; omega)
  · exact gate_piece 2048 (by decide) _ _ _ a b _ (upper_apply i x0 x1 x2 x3 a p h0) _ hw _ n (by have : n.val = 1024 + b.val := h1; omega)
  · exact gate_piece 1024 (by decide) _ _ _ a b _ (upper_apply i x0 x1 x2 x3 a p h0) _ hw _ n (by have : n.val = b.val := h1; omega)
  · exact normed_piece _ _ _ a b _ (upper_apply i x0 x1 x2 x3 a p h0) _ hw _ (scale_apply x2) n h1 _ rfl

end

end Cert.GatesValue
-- ==== Proof.GatesReference.lean ====
module

public import proofs.«01_k».proof.Proof.GatesTerm
public import proofs.«01_k».proof.Proof.Gen.GatesReferenceIdeal.Read
public import Idealize.ShloMosaic.Lib.Tactic.CleanTypes
public import Idealize.ShloMosaic.Lib.Pipeline.Value

/-!
# The gates' reference at an index, over the extended reals
-/

@[expose] public section

namespace Cert.GatesReferenceIdeal.Block

open Cert.GatesReferenceIdeal Cert.GatesReferenceIdeal.Gen Cert.GatesReferenceIdeal.Read Idealize.ShloMosaic Idealize.ShloMosaic.TcCoe
open Cert.GatesValue (gelu gelu_eq width tiny centred normed dot rowOut)

noncomputable section

set_option maxRecDepth 16384

variable (x0 : Vec Ideal S16x256x2048 .bf16) (x1 : Vec Ideal S4x1024x2048 .bf16) (x2 : Vec Ideal S1x1024 .f32) (x3 : Vec Ideal S1x2048x9216 .f32)

/-- The columns of the projection's weight that the call reads. -/
def cols (k : Fin 2048) (j : Fin 5120) : EReal := x3 (ix3 0 k ⟨4096 + j.val, by omega⟩)

/-- Three blocks of columns side by side, read at a column. -/
theorem joined_apply (B A : Nat) (f g : (⟨3, ![B, A, 2048]⟩ : Shape).Idx → EReal) (h : (⟨3, ![B, A, 1024]⟩ : Shape).Idx → EReal)
    (hc : Shape.Concatenates [⟨3, ![B, A, 2048]⟩, ⟨3, ![B, A, 2048]⟩, ⟨3, ![B, A, 1024]⟩] ⟨3, ![B, A, 5120]⟩ 2) (b : Fin B) (a : Fin A) (n : Fin 5120) (v : EReal)
    (hf : ∀ q : n.val < 2048, f (ix3 b a ⟨n.val, q⟩) = v) (hg : ∀ q : n.val - 2048 < 2048, 2048 ≤ n.val → g (ix3 b a ⟨n.val - 2048, q⟩) = v)
    (hh : ∀ q : n.val - 4096 < 1024, 4096 ≤ n.val → h (ix3 b a ⟨n.val - 4096, q⟩) = v) :
    concatenate (⟨3, ![B, A, 5120]⟩ : Shape) 2 [⟨⟨3, ![B, A, 2048]⟩, f⟩, ⟨⟨3, ![B, A, 2048]⟩, g⟩, ⟨⟨3, ![B, A, 1024]⟩, h⟩] hc (ix3 b a n) = v := by
  by_cases h1 : n.val < 2048
  · exact (concatenate_apply_piece (t := ⟨3, ![B, A, 5120]⟩) 2 [⟨⟨3, ![B, A, 2048]⟩, f⟩, ⟨⟨3, ![B, A, 2048]⟩, g⟩, ⟨⟨3, ![B, A, 1024]⟩, h⟩] hc (ix3 b a n)
      0 (show 0 < 3 by decide) ⟨3, ![B, A, 2048]⟩ f rfl rfl 0 rfl (ix3 b a ⟨n.val, h1⟩)
      (Fin.forall_fin_succ.mpr ⟨fun _ => rfl, Fin.forall_fin_two.mpr ⟨fun _ => rfl, fun h => absurd rfl h⟩⟩) (Nat.zero_add _)).trans (hf h1)
  · by_cases h2 : n.val < 4096
    · exact (concatenate_apply_piece (t := ⟨3, ![B, A, 5120]⟩) 2 [⟨⟨3, ![B, A, 2048]⟩, f⟩, ⟨⟨3, ![B, A, 2048]⟩, g⟩, ⟨⟨3, ![B, A, 1024]⟩, h⟩] hc (ix3 b a n)
        1 (show 1 < 3 by decide) ⟨3, ![B, A, 2048]⟩ g rfl rfl 2048 rfl (ix3 b a ⟨n.val - 2048, by omega⟩)
        (Fin.forall_fin_succ.mpr ⟨fun _ => rfl, Fin.forall_fin_two.mpr ⟨fun _ => rfl, fun h => absurd rfl h⟩⟩)
        (by show 2048 + (n.val - 2048) = n.val; omega)).trans (hg _ (by omega))
    · exact (concatenate_apply_piece (t := ⟨3, ![B, A, 5120]⟩) 2 [⟨⟨3, ![B, A, 2048]⟩, f⟩, ⟨⟨3, ![B, A, 2048]⟩, g⟩, ⟨⟨3, ![B, A, 1024]⟩, h⟩] hc (ix3 b a n)
        2 (show 2 < 3 by decide) ⟨3, ![B, A, 1024]⟩ h rfl rfl 4096 rfl (ix3 b a ⟨n.val - 4096, by omega⟩)
        (Fin.forall_fin_succ.mpr ⟨fun _ => rfl, Fin.forall_fin_two.mpr ⟨fun _ => rfl, fun h => absurd rfl h⟩⟩)
        (by show 4096 + (n.val - 4096) = n.val; omega)).trans (hh _ (by omega))

/-- Three blocks of columns that hold the gates and the normalised branch hold the row. -/
theorem joined_row (B A : Nat) (f g : (⟨3, ![B, A, 2048]⟩ : Shape).Idx → EReal) (h : (⟨3, ![B, A, 1024]⟩ : Shape).Idx → EReal)
    (hc : Shape.Concatenates [⟨3, ![B, A, 2048]⟩, ⟨3, ![B, A, 2048]⟩, ⟨3, ![B, A, 1024]⟩] ⟨3, ![B, A, 5120]⟩ 2) (b : Fin B) (a : Fin A) (n : Fin 5120)
    (r : Fin 2048 → EReal) (w : Fin 2048 → Fin 5120 → EReal) (s : Fin 1024 → EReal)
    (hf : ∀ n : Fin 2048, f (ix3 b a n) = Ideal.logistic (dot r w ⟨1024 + n.val, by omega⟩))
    (hg : ∀ n : Fin 2048, g (ix3 b a n) = Ideal.logistic (dot r w ⟨3072 + n.val, by omega⟩))
    (hh : ∀ n : Fin 1024, h (ix3 b a n) = normed (fun e => gelu (dot r w ⟨e.val, by omega⟩)) n * s n) :
    concatenate (⟨3, ![B, A, 5120]⟩ : Shape) 2 [⟨⟨3, ![B, A, 2048]⟩, f⟩, ⟨⟨3, ![B, A, 2048]⟩, g⟩, ⟨⟨3, ![B, A, 1024]⟩, h⟩] hc (ix3 b a n) = rowOut r w s n := by
  refine joined_apply B A f g h hc b a n _ (fun q => ?_) (fun q q' => ?_) (fun q q' => ?_)
  · unfold rowOut
    rw [dif_pos (by omega)]
    exact hf _
  · unfold rowOut
    rw [dif_pos (by omega)]
    exact (hg _).trans (congrArg (fun z => Ideal.logistic (dot _ _ z)) (Fin.ext (by show 3072 + (n.val - 2048) = 1024 + n.val; omega)))
  · unfold rowOut
    rw [dif_neg (by omega)]
    exact hh _

/-! ## The prompt's rows -/

theorem promptA_apply (b : Fin 16) (a : Fin 256) (n : Fin 2048) :
    val_main_v16 (F := Ideal) x0 x3 (ix3 b a n) = Ideal.logistic (dot (fun k => x0 (ix3 b a k)) (cols x3) ⟨1024 + n.val, by omega⟩) := by
  have e : val_main_v9 (F := Ideal) x0 x3 (ix3 b a n) = dot (fun k => x0 (ix3 b a k)) (cols x3) ⟨1024 + n.val, by omega⟩ := by
    unfold val_main_v9 val_main_v3 val_main_v2 val_main_v0 dot cols
    clean_types
    pointwise []
    exact Finset.sum_congr rfl fun k _ => congrArg₂ (· * ·) rfl (congrArg (fun z => x3 (ix3 0 k z)) (Fin.ext (by show 5120 + n.val = 4096 + (1024 + n.val); omega)))
  rw [← e]
  unfold val_main_v16 val_main_v15 val_main_v14 val_main_v13 val_main_v12 val_main_v11 val_main_cst val_main_cst_0
  generalize val_main_v9 (F := Ideal) x0 x3 = y
  clean_types
  pointwise []
  rfl

theorem promptB_apply (b : Fin 16) (a : Fin 256) (n : Fin 2048) :
    val_main_v22 (F := Ideal) x0 x3 (ix3 b a n) = Ideal.logistic (dot (fun k => x0 (ix3 b a k)) (cols x3) ⟨3072 + n.val, by omega⟩) := by
  have e : val_main_v10 (F := Ideal) x0 x3 (ix3 b a n) = dot (fun k => x0 (ix3 b a k)) (cols x3) ⟨3072 + n.val, by omega⟩ := by
    unfold val_main_v10 val_main_v3 val_main_v2 val_main_v0 dot cols
    clean_types
    pointwise []
    exact Finset.sum_congr rfl fun k _ => congrArg₂ (· * ·) rfl (congrArg (fun z => x3 (ix3 0 k z)) (Fin.ext (by show 7168 + n.val = 4096 + (3072 + n.val); omega)))
  rw [← e]
  unfold val_main_v22 val_main_v21 val_main_v20 val_main_v19 val_main_v18 val_main_v17 val_main_cst_1 val_main_cst_2
  generalize val_main_v10 (F := Ideal) x0 x3 = y
  clean_types
  pointwise []
  rfl

theorem promptGelu_apply (b : Fin 16) (a : Fin 256) (n : Fin 1024) :
    val_main_v35 (F := Ideal) x0 x3 (ix3 b a n) = gelu (dot (fun k => x0 (ix3 b a k)) (cols x3) ⟨n.val, by omega⟩) := by
  have e : val_main_v8 (F := Ideal) x0 x3 (ix3 b a n) = dot (fun k => x0 (ix3 b a k)) (cols x3) ⟨n.val, by omega⟩ := by
    unfold val_main_v8 val_main_v3 val_main_v2 val_main_v0 dot cols
    clean_types
    pointwise []
  rw [← e, gelu_eq]
  unfold val_main_v35 val_main_v34 val_main_v33 val_main_v32 val_main_v31 val_main_v30 val_main_v29 val_main_v28 val_main_v27 val_main_v26 val_main_v25
    val_main_v24 val_main_v23 val_main_cst_3 val_main_cst_4 val_main_cst_5 val_main_cst_6
  generalize val_main_v8 (F := Ideal) x0 x3 = y
  clean_types
  pointwise []

theorem promptNormed_apply (b : Fin 16) (a : Fin 256) (n : Fin 1024) :
    val_main_v54 (F := Ideal) x0 x2 x3 (ix3 b a n)
      = normed (fun e => gelu (dot (fun k => x0 (ix3 b a k)) (cols x3) ⟨e.val, by omega⟩)) n * x2 (ix2 0 n) := by
  simp only [← promptGelu_apply]
  unfold val_main_v54 val_main_v53 val_main_v52 val_main_v51 val_main_v50 val_main_v49 val_main_v48 val_main_v47 val_main_v46 val_main_v45 val_main_v44
    val_main_v43 val_main_v42 val_main_v41 val_main_v40 val_main_v39 val_main_v38 val_main_v37 val_main_v36 val_main_v1
    val_main_cst_7 val_main_cst_8 val_main_cst_9 val_main_cst_10 val_main_cst_11 normed centred width tiny
  generalize val_main_v35 (F := Ideal) x0 x3 = y
  clean_types
  pointwise []

theorem prompt_apply (b : Fin 16) (a : Fin 256) (n : Fin 5120) :
    val_main_v55 (F := Ideal) x0 x2 x3 (ix3 b a n) = rowOut (fun k => x0 (ix3 b a k)) (cols x3) (fun e => x2 (ix2 0 e)) n := by
  unfold val_main_v55
  exact joined_row 16 256 _ _ _ _ b a n _ _ (fun e => x2 (ix2 0 e)) (promptA_apply x0 x3 b a) (promptB_apply x0 x3 b a) (promptNormed_apply x0 x2 x3 b a)

/-! ## The sample's rows -/

theorem sampleA_apply (b : Fin 4) (a : Fin 1024) (n : Fin 2048) :
    val_main_v73 (F := Ideal) x1 x3 (ix3 b a n) = Ideal.logistic (dot (fun k => x1 (ix3 b a k)) (cols x3) ⟨1024 + n.val, by omega⟩) := by
  have e : val_main_v66 (F := Ideal) x1 x3 (ix3 b a n) = dot (fun k => x1 (ix3 b a k)) (cols x3) ⟨1024 + n.val, by omega⟩ := by
    unfold val_main_v66 val_main_v60 val_main_v59 val_main_v57 dot cols
    clean_types
    pointwise []
    exact Finset.sum_congr rfl fun k _ => congrArg₂ (· * ·) rfl (congrArg (fun z => x3 (ix3 0 k z)) (Fin.ext (by show 5120 + n.val = 4096 + (1024 + n.val); omega)))
  rw [← e]
  unfold val_main_v73 val_main_v72 val_main_v71 val_main_v70 val_main_v69 val_main_v68 val_main_cst_12 val_main_cst_13
  generalize val_main_v66 (F := Ideal) x1 x3 = y
  clean_types
  pointwise []
  rfl

theorem sampleB_apply (b : Fin 4) (a : Fin 1024) (n : Fin 2048) :
    val_main_v79 (F := Ideal) x1 x3 (ix3 b a n) = Ideal.logistic (dot (fun k => x1 (ix3 b a k)) (cols x3) ⟨3072 + n.val, by omega⟩) := by
  have e : val_main_v67 (F := Ideal) x1 x3 (ix3 b a n) = dot (fun k => x1 (ix3 b a k)) (cols x3) ⟨3072 + n.val, by omega⟩ := by
    unfold val_main_v67 val_main_v60 val_main_v59 val_main_v57 dot cols
    clean_types
    pointwise []
    exact Finset.sum_congr rfl fun k _ => congrArg₂ (· * ·) rfl (congrArg (fun z => x3 (ix3 0 k z)) (Fin.ext (by show 7168 + n.val = 4096 + (3072 + n.val); omega)))
  rw [← e]
  unfold val_main_v79 val_main_v78 val_main_v77 val_main_v76 val_main_v75 val_main_v74 val_main_cst_14 val_main_cst_15
  generalize val_main_v67 (F := Ideal) x1 x3 = y
  clean_types
  pointwise []
  rfl

theorem sampleGelu_apply (b : Fin 4) (a : Fin 1024) (n : Fin 1024) :
    val_main_v92 (F := Ideal) x1 x3 (ix3 b a n) = gelu (dot (fun k => x1 (ix3 b a k)) (cols x3) ⟨n.val, by omega⟩) := by
  have e : val_main_v65 (F := Ideal) x1 x3 (ix3 b a n) = dot (fun k => x1 (ix3 b a k)) (cols x3) ⟨n.val, by omega⟩ := by
    unfold val_main_v65 val_main_v60 val_main_v59 val_main_v57 dot cols
    clean_types
    pointwise []
  rw [← e, gelu_eq]
  unfold val_main_v92 val_main_v91 val_main_v90 val_main_v89 val_main_v88 val_main_v87 val_main_v86 val_main_v85 val_main_v84 val_main_v83 val_main_v82
    val_main_v81 val_main_v80 val_main_cst_16 val_main_cst_17 val_main_cst_18 val_main_cst_19
  generalize val_main_v65 (F := Ideal) x1 x3 = y
  clean_types
  pointwise []

theorem sampleNormed_apply (b : Fin 4) (a : Fin 1024) (n : Fin 1024) :
    val_main_v111 (F := Ideal) x1 x2 x3 (ix3 b a n)
      = normed (fun e => gelu (dot (fun k => x1 (ix3 b a k)) (cols x3) ⟨e.val, by omega⟩)) n * x2 (ix2 0 n) := by
  simp only [← sampleGelu_apply]
  unfold val_main_v111 val_main_v110 val_main_v109 val_main_v108 val_main_v107 val_main_v106 val_main_v105 val_main_v104 val_main_v103 val_main_v102 val_main_v101
    val_main_v100 val_main_v99 val_main_v98 val_main_v97 val_main_v96 val_main_v95 val_main_v94 val_main_v93 val_main_v58
    val_main_cst_20 val_main_cst_21 val_main_cst_22 val_main_cst_23 val_main_cst_24 normed centred width tiny
  generalize val_main_v92 (F := Ideal) x1 x3 = y
  clean_types
  pointwise []

theorem sample_apply (b : Fin 4) (a : Fin 1024) (n : Fin 5120) :
    val_main_v112 (F := Ideal) x1 x2 x3 (ix3 b a n) = rowOut (fun k => x1 (ix3 b a k)) (cols x3) (fun e => x2 (ix2 0 e)) n := by
  unfold val_main_v112
  exact joined_row 4 1024 _ _ _ _ b a n _ _ (fun e => x2 (ix2 0 e)) (sampleA_apply x1 x3 b a) (sampleB_apply x1 x3 b a) (sampleNormed_apply x1 x2 x3 b a)

/-! ## Both -/

/-- The result at a row: the prompt's 4096 rows, then the sample's. -/
theorem out_apply (r : Fin 8192) (n : Fin 5120) :
    val_main_v115 (F := Ideal) x0 x1 x2 x3 (ix2 r n)
      = rowOut (fun k => if r.val < 4096 then x0 (ix3 ⟨r.val % 4096 / 256, by omega⟩ ⟨r.val % 256, by omega⟩ k)
          else x1 (ix3 ⟨r.val % 4096 / 1024, by omega⟩ ⟨r.val % 1024, by omega⟩ k)) (cols x3) (fun e => x2 (ix2 0 e)) n := by
  unfold val_main_v115
  refine Eq.trans (b := val_main_v114 (F := Ideal) x0 x1 x2 x3 (ix2 r n)) rfl ?_
  unfold val_main_v114
  by_cases h : r.val < 4096
  · simp only [if_pos h]
    refine Eq.trans (concatenate_pair_apply_left (t := S8192x5120) (s₁ := S4096x5120) (s₂ := S4096x5120) 0 (val_main_v56 (F := Ideal) x0 x2 x3)
      (val_main_v113 (F := Ideal) x1 x2 x3) _ (ix2 r n) rfl (ix2 ⟨r.val, h⟩ n) (Fin.forall_fin_two.mpr ⟨rfl, rfl⟩)) ?_
    refine Eq.trans ?_ (prompt_apply x0 x2 x3 _ _ n)
    unfold val_main_v56
    generalize val_main_v55 (F := Ideal) x0 x2 x3 = y
    clean_types
    pointwise []
    exact congrArg (fun z => y (ix3 z _ n)) (Fin.ext (by show r.val / 256 = r.val % 4096 / 256; omega))
  · simp only [if_neg h]
    refine Eq.trans (concatenate_pair_apply_right (t := S8192x5120) (s₁ := S4096x5120) (s₂ := S4096x5120) 0 (val_main_v56 (F := Ideal) x0 x2 x3)
      (val_main_v113 (F := Ideal) x1 x2 x3) _ (ix2 r n) rfl rfl (ix2 ⟨r.val - 4096, by omega⟩ n)
      (Fin.forall_fin_two.mpr ⟨fun h => absurd rfl h, fun _ => rfl⟩) (by show r.val - 4096 + 4096 = r.val; omega)) ?_
    refine Eq.trans ?_ (sample_apply x1 x2 x3 _ _ n)
    unfold val_main_v113
    generalize val_main_v112 (F := Ideal) x1 x2 x3 = y
    clean_types
    pointwise []
    exact congrArg₂ (fun z w => y (ix3 z w n)) (Fin.ext (by show (r.val - 4096) / 1024 = r.val % 4096 / 1024; omega))
      (Fin.ext (by show (r.val - 4096) % 1024 = r.val % 1024; omega))

end

end Cert.GatesReferenceIdeal.Block
-- ==== Proof.GatesValue.lean ====
module

public import proofs.«01_k».proof.Proof.GatesBlock
public import proofs.«01_k».proof.Proof.GatesReference
public import Idealize.ShloMosaic.Lib.Pipeline.ArrRel

/-!
# The gates' final array, and that it is the reference's
-/

@[expose] public section

namespace Cert.GatesValue

open Idealize.ShloMosaic Idealize.ShloMosaic.TcCoe Cert.GatesIdeal Cert.GatesIdeal.Gen Idealize.SL.Sem

noncomputable section

set_option maxRecDepth 16384

variable (m : (ℓ : Loc nD τ sig) → Buf (Elt Ideal) ℓ) (ρ : Dev nD → PrngReg) (c : Dev nD)

/-- A row of the two operands one after the other. -/
def rowsOf (hp hs : Vec Ideal S4096x2048 .bf16) (r : Fin 8192) (k : Fin 2048) : EReal :=
  if r.val < 4096 then hp (ix2 ⟨r.val % 4096, by omega⟩ k) else hs (ix2 ⟨r.val % 4096, by omega⟩ k)

/-- The output array as one function of the staged arrays. -/
def result (hp hs : Vec Ideal S4096x2048 .bf16) (g : Vec Ideal S1x1024 .f32) (w : Vec Ideal S2048x5120 .bf16) : Vec Ideal S8192x5120 .bf16 :=
  fun z => rowOut (rowsOf hp hs (z 0)) (fun k j => w (ix2 k j)) (fun e => g (ix2 0 e)) (z 1)

theorem coord (t : Fin grid0.N) : (grid0.coords t 0).val = t.val := by revert t; decide +kernel

theorem idx_0 : ∀ t : Fin grid0.N, win0_0.index t = ![min t.val 7, 0] := by decide +kernel
theorem idx_1 : ∀ t : Fin grid0.N, win0_1.index t = ![t.val - 8, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![t.val, 0] := by decide +kernel

theorem row_eq (t : Fin cfg0.N) (p : Fin 512) (r : Fin 8192) (hr : r.val = 512 * t.val + p.val) :
    blockRow t.val (iblk m c 0 t) (iblk m c 1 t) p = rowsOf (V m c main_v0) (V m c main_v1) r := by
  have hN : t.val < 16 := Nat.lt_of_lt_of_eq t.isLt N_0
  funext k
  unfold blockRow rowsOf
  by_cases h : t.val < 8
  · rw [if_pos h, if_pos (by omega)]
    blk_simp [iblk]
    refine congrArg (V m c main_v0) (funext (Fin.forall_fin_two.mpr ⟨Fin.ext ?_, Fin.ext ?_⟩))
    · blk_simp [idx_0 t]
      show min t.val 7 * 512 + p.val = r.val % 4096
      omega
    · blk_simp [idx_0 t]
  · rw [if_neg h, if_neg (by omega)]
    blk_simp [iblk]
    refine congrArg (V m c main_v1) (funext (Fin.forall_fin_two.mpr ⟨Fin.ext ?_, Fin.ext ?_⟩))
    · blk_simp [idx_1 t]
      show (t.val - 8) * 512 + p.val = r.val % 4096
      omega
    · blk_simp [idx_1 t]

theorem scale_eq (t : Fin cfg0.N) (e : Fin 1024) : (iblk m c 2 t : Vec Ideal S1x1024 .f32) (ix2 0 e) = (V m c main_v3 : Vec Ideal S1x1024 .f32) (ix2 0 e) := by
  blk_simp [iblk]
  refine congrArg (V m c main_v3) (funext (Fin.forall_fin_two.mpr ⟨Fin.ext ?_, Fin.ext ?_⟩))
  · blk_simp [idx_2 t]
  · blk_simp [idx_2 t]

theorem weight_eq (t : Fin cfg0.N) (k : Fin 2048) (j : Fin 5120) : (iblk m c 3 t : Vec Ideal S2048x5120 .bf16) (ix2 k j) = (V m c main_v6 : Vec Ideal S2048x5120 .bf16) (ix2 k j) := by
  blk_simp [iblk]
  refine congrArg (V m c main_v6) (funext (Fin.forall_fin_two.mpr ⟨Fin.ext ?_, Fin.ext ?_⟩))
  · blk_simp [idx_3 t]
  · blk_simp [idx_3 t]

/-- What the run leaves in the output array. -/
theorem final : (dats m 0 c).arrAt 4 cfg0.N = result (V m c main_v0) (V m c main_v1) (V m c main_v3) (V m c main_v6) := by
  refine (dats m 0 c).arrAt_eq_of_covers 4 _ (by decide +kernel) fun t hf y => ?_
  have hN : t.val < 16 := Nat.lt_of_lt_of_eq t.isLt N_0
  blk_simp
  rw [after0_4]
  obtain ⟨p, n, rfl⟩ : ∃ (a : Fin 512) (b : Fin 5120), y = ix2 a b := ⟨y 0, y 1, eq_ix2 y⟩
  refine (block_apply (grid0.coords t) _ _ _ _ p n).trans ?_
  rw [coord t, row_eq m c t p ⟨512 * t.val + p.val, by omega⟩ rfl]
  simp only [scale_eq, weight_eq]
  unfold result
  refine congrArg₂ (fun r n => rowOut (rowsOf _ _ r) _ _ n) (Fin.ext ?_) (Fin.ext ?_)
  · blk_simp [idx_4 t]
    show 512 * t.val + p.val = _
    omega
  · blk_simp [idx_4 t]

/-- The prompt's rows as they are staged. -/
def promptRows (x : Vec Ideal S16x256x2048 .bf16) : Vec Ideal S4096x2048 .bf16 := shapeCast S4096x2048 x shapeCasts_S16x256x2048_S4096x2048

/-- The sample's rows as they are staged. -/
def sampleRows (x : Vec Ideal S4x1024x2048 .bf16) : Vec Ideal S4096x2048 .bf16 := shapeCast S4096x2048 x shapeCasts_S4x1024x2048_S4096x2048

/-- The weight as it is staged. -/
def weights (w : Vec Ideal S1x2048x9216 .f32) : Vec Ideal S2048x5120 .bf16 :=
  truncf (F := Ideal) (φ := .f32) .bf16 (extractStridedSlice S2048x5120 ![0, 4096] (shapeCast S2048x9216 w shapeCasts_S1x2048x9216_S2048x9216)
    slices_S2048x9216_S2048x5120_0_4096) bitsLt_bf16_f32

/-- The call's output from the arguments is the reference's result. -/
theorem gates_eq (x0 : Vec Ideal S16x256x2048 .bf16) (x1 : Vec Ideal S4x1024x2048 .bf16) (x2 : Vec Ideal S1x1024 .f32) (x3 : Vec Ideal S1x2048x9216 .f32)
    (r : Fin 8192) (n : Fin 5120) :
    result (promptRows x0) (sampleRows x1) (shapeCast S1x1024 (shapeCast S1024 x2 shapeCasts_S1x1024_S1024) shapeCasts_S1024_S1x1024) (weights x3) (ix2 r n)
      = Cert.GatesReferenceIdeal.Read.val_main_v115 (F := Ideal) x0 x1 x2 x3 (ix2 r n) := by
  refine Eq.trans ?_ (Cert.GatesReferenceIdeal.Block.out_apply x0 x1 x2 x3 r n).symm
  have e0 : rowsOf (promptRows x0) (sampleRows x1) r
      = fun k => if r.val < 4096 then x0 (ix3 ⟨r.val % 4096 / 256, by omega⟩ ⟨r.val % 256, by omega⟩ k)
          else x1 (ix3 ⟨r.val % 4096 / 1024, by omega⟩ ⟨r.val % 1024, by omega⟩ k) := by
    funext k
    unfold rowsOf
    by_cases h : r.val < 4096
    · rw [if_pos h, if_pos h]
      unfold promptRows
      pointwise []
      exact congrArg (fun z => x0 (ix3 _ z k)) (Fin.ext (by show r.val % 4096 % 256 = r.val % 256; omega))
    · rw [if_neg h, if_neg h]
      unfold sampleRows
      pointwise []
      exact congrArg (fun z => x1 (ix3 _ z k)) (Fin.ext (by show r.val % 4096 % 1024 = r.val % 1024; omega))
  have e1 : (fun (k : Fin 2048) (j : Fin 5120) => weights x3 (ix2 k j)) = Cert.GatesReferenceIdeal.Block.cols x3 := by
    funext k j
    unfold weights Cert.GatesReferenceIdeal.Block.cols
    pointwise []
  have e2 : (fun e : Fin 1024 => shapeCast S1x1024 (shapeCast S1024 x2 shapeCasts_S1x1024_S1024) shapeCasts_S1024_S1x1024 (ix2 0 e)) = fun e => x2 (ix2 0 e) := by
    funext e
    pointwise []
  unfold result
  refine Eq.trans ?_ (congrArg (fun a => rowOut a _ _ n) e0)
  refine Eq.trans ?_ (congrArg (fun w => rowOut _ w _ n) e1)
  exact congrArg (fun g => rowOut _ _ g n) e2

/-- The output array, as the reference's result on the same arguments. -/
theorem final_eq : (dats m 0 c).arrAt 4 cfg0.N = Cert.GatesReferenceIdeal.Read.val_main_v115 (F := Ideal) (m ((c.tc : Thread nD τ).loc main_arg0))
    (m ((c.tc : Thread nD τ).loc main_arg1)) (m ((c.tc : Thread nD τ).loc main_arg2)) (m ((c.tc : Thread nD τ).loc main_arg3)) := by
  have e0 : V m c main_v0 = promptRows (m ((c.tc : Thread nD τ).loc main_arg0)) := by
    unfold_abbrev_sides; after_results; rfl
  have e1 : V m c main_v1 = sampleRows (m ((c.tc : Thread nD τ).loc main_arg1)) := by
    unfold_abbrev_sides; after_results; rfl
  have e3 : V m c main_v3 = shapeCast S1x1024 (shapeCast S1024 (m ((c.tc : Thread nD τ).loc main_arg2)) shapeCasts_S1x1024_S1024) shapeCasts_S1024_S1x1024 := by
    unfold_abbrev_sides; after_results; rfl
  have e6 : V m c main_v6 = weights (m ((c.tc : Thread nD τ).loc main_arg3)) := by
    unfold_abbrev_sides; after_results; rfl
  refine (final m c).trans ?_
  rw [e0, e1, e3, e6]
  refine funext fun (z : S8192x5120.Idx) => ?_
  obtain ⟨r, d, rfl⟩ : ∃ (a : Fin 8192) (b : Fin 5120), z = ix2 a b := ⟨z 0, z 1, eq_ix2 z⟩
  exact gates_eq _ _ _ _ r d

/-- The gates' call runs: its result is the reference's function of the arguments, and the arguments are unchanged. -/
theorem run : θ_run defs (onTc (τ := τ) (main (F := Ideal))) ⟨m, fun _ => 0, ρ⟩ (fun r => ∀ c : Dev nD,
      r.2.mem ((c.tc : Thread nD τ).loc main_v7) = Cert.GatesReferenceIdeal.Read.val_main_v115 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final_eq m c), h.2 c⟩) (θ_run_and (run_main m ρ) (unchanged m ρ))

end

end Cert.GatesValue
-- ==== Proof.FfnTerm.lean ====
module

public import proofs.«01_k».proof.Proof.FfnFrame
public import Idealize.ShloMosaic.Lib.Pointwise

/-!
# The arithmetic of one point of the feed-forward call at an index, over the extended reals
-/

@[expose] public section

namespace Cert.Ffw

open Idealize.ShloMosaic Idealize.ShloMosaic.TcCoe Cert.FfnIdeal Cert.FfnIdeal.Gen

noncomputable section

set_option maxRecDepth 16384

/-- One hidden unit of a block of 512: the gated product of two projections of a row. -/
def hidden (h : Vec Ideal S1024x2048 .bf16) (wg wu : Vec Ideal S2048x512 .bf16) (a : Fin 1024) (p : Fin 512) : EReal :=
  (∑ k : Fin 2048, h (ix2 a k) * wg (ix2 k p)) * Ideal.logistic (∑ k : Fin 2048, h (ix2 a k) * wg (ix2 k p))
    * ∑ k : Fin 2048, h (ix2 a k) * wu (ix2 k p)

/-- The number the sum of squares is divided by. -/
def width : EReal := Ideal.ofBits (φ := .f32) 0x45000000#32

/-- The number added to the mean of squares. -/
def tiny : EReal := Ideal.ofBits (φ := .f32) 0x358637BD#32

theorem first_apply (h : Vec Ideal S1024x2048 .bf16) (wg wu : Vec Ideal S2048x512 .bf16) (wd : Vec Ideal S512x2048 .bf16) (a : Fin 1024) (d : Fin 2048) :
    k0_pay2 (F := Ideal) h wg wu wd (ix2 a d) = ∑ p : Fin 512, hidden h wg wu a p * wd (ix2 p d) := by
  unfold k0_pay2 hidden
  pointwise []

theorem later_apply (h : Vec Ideal S1024x2048 .bf16) (wg wu : Vec Ideal S2048x512 .bf16) (wd : Vec Ideal S512x2048 .bf16) (s : Vec Ideal S1024x2048 .f32)
    (a : Fin 1024) (d : Fin 2048) :
    k0_pay3 (F := Ideal) h wg wu wd s (ix2 a d) = s (ix2 a d) + ∑ p : Fin 512, hidden h wg wu a p * wd (ix2 p d) := by
  unfold k0_pay3 hidden
  pointwise []

theorem normed_apply (g : Vec Ideal S1x1x2048 .f32) (s : Vec Ideal S1x2048 .f32) (y x : Vec Ideal S8x2048 .f32) (i : Fin 8) (d : Fin 2048) :
    k0_pay4 (F := Ideal) g s y x (ix2 i d) = x (ix2 i d)
      + y (ix2 i d) * Ideal.rsqrt (Ideal.div (∑ e : Fin 2048, y (ix2 i e) * y (ix2 i e)) width + tiny) * (g (ix3 0 0 d) * s (ix2 0 d)) := by
  unfold k0_pay4 width tiny
  pointwise []

end

end Cert.Ffw
-- ==== Proof.QkvuBlock.lean ====
module

public import proofs.«01_k».proof.Proof.GatesTerm
public import proofs.«01_k».proof.Proof.FfnTerm
public import proofs.«01_k».proof.Proof.Gen.QkvuIdeal.Frame
public import Idealize.ShloMosaic.Lib.Pipeline.ValueKit.Tiles

/-!
# What one point of the queries', keys' and values' projection leaves in its two output blocks
-/

@[expose] public section

namespace Cert.QkvuValue

open Idealize.ShloMosaic Idealize.ShloMosaic.TcCoe Cert.QkvuIdeal Cert.QkvuIdeal.Gen
open Cert.Ffw (width tiny)
open Cert.GatesValue (gelu)

noncomputable section

set_option maxRecDepth 16384

/-- A row divided by the root of its mean square, scaled and modulated. -/
def normRow (x g scale shift : Fin 2048 → EReal) (k : Fin 2048) : EReal :=
  x k * Ideal.rsqrt (Ideal.div (∑ e : Fin 2048, x e * x e) width + tiny) * g k * (Ideal.ofBits (φ := .f32) 0x3F800000#32 + scale k) + shift k

/-- One row of the projection: queries, keys and values, then the 1024 entries under the error unit. -/
def rowOut (h : Fin 2048 → EReal) (w : Fin 2048 → Fin 4096 → EReal) (n : Fin 4096) : EReal :=
  if n.val < 3072 then ∑ k : Fin 2048, h k * w k n else gelu (∑ k : Fin 2048, h k * w k n)

theorem normed_apply (x : Vec Ideal S512x2048 .f32) (g : Vec Ideal S1x2048 .f32) (scale shift : Vec Ideal S1x1x2048 .f32) (p : Fin 512) (k : Fin 2048) :
    k0_pay5 (F := Ideal) x g scale shift (ix2 p k)
      = normRow (fun k => x (ix2 p k)) (fun k => g (ix2 0 k)) (fun k => scale (ix3 0 0 k)) (fun k => shift (ix3 0 0 k)) k := by
  unfold k0_pay5 normRow width tiny
  pointwise []

/-- A weight block as the product takes it. -/
def operand (w : Vec Ideal S2048x1024 .bf16) : FVec Ideal S2048x1024 .bf16 := shapeCast S2048x1024 w shapeCasts_S2048x1024_S2048x1024

/-- A weight block's product with the row block at an index. -/
theorem product_apply (w : Vec Ideal S2048x1024 .bf16) (a : FVec Ideal S512x2048 .bf16) (p : Fin 512) (n : Fin 1024) :
    matmul dot_S512x2048_S2048x1024_S512x1024_1_0_0_1_n_n none a (operand w) (constant S512x1024 .f32 0x00000000#32) (ix2 p n)
      = ∑ k : Fin 2048, a (ix2 p k) * w (ix2 k n) := by
  unfold operand
  pointwise []

theorem plain_apply (w : Vec Ideal S2048x1024 .bf16) (a : FVec Ideal S512x2048 .bf16) (p : Fin 512) (n : Fin 1024) :
    k0_pay2 (F := Ideal) a w (ix2 p n) = ∑ k : Fin 2048, a (ix2 p k) * w (ix2 k n) := product_apply w a p n

theorem unit_apply (v : FVec Ideal S512x1024 .f32) (p : Fin 512) (n : Fin 1024) :
    k0_pay1 (F := Ideal) v (addf v (mulf (broadcast S512x1024 (Scalar.ofBits .f32 0x3D372713#32)) (mulf v (mulf v v)))) (k0_pay8 (F := Ideal)) (ix2 p n)
      = gelu (v (ix2 p n)) := by
  unfold k0_pay1 k0_pay8 gelu
  pointwise []

variable (x0 : Vec Ideal S512x2048 .f32) (x1 : Vec Ideal S1x6x2048 .f32) (x2 : Vec Ideal S1x2048 .f32) (x3 : Vec Ideal S2048x4096 .bf16)

/-- The modulated row of a block. -/
def blockRow (p : Fin 512) (k : Fin 2048) : EReal :=
  normRow (fun k => x0 (ix2 p k)) (fun k => x2 (ix2 0 k)) (fun k => x1 (ix3 0 1 k)) (fun k => x1 (ix3 0 0 k)) k

theorem hidden_apply (p : Fin 512) (k : Fin 2048) : k0_pay9 (F := Ideal) x0 x1 x2 x3 (ix2 p k) = blockRow x0 x1 x2 p k := by
  refine (normed_apply _ _ _ _ p k).trans ?_
  unfold blockRow
  have e0 : (fun k : Fin 2048 => View.ld x0 r0_0 (ix2 p k)) = fun k => x0 (ix2 p k) := by funext k; pointwise []
  have e1 : (fun k : Fin 2048 => View.ld x2 r0_1 (ix2 0 k)) = fun k => x2 (ix2 0 k) := by funext k; pointwise []
  have e2 : (fun k : Fin 2048 => View.ld x1 r0_2 (ix3 0 0 k)) = fun k => x1 (ix3 0 1 k) := by funext k; pointwise []
  have e3 : (fun k : Fin 2048 => View.ld x1 r0_3 (ix3 0 0 k)) = fun k => x1 (ix3 0 0 k) := by funext k; pointwise []
  rw [← e0, ← e1, ← e2, ← e3]

/-- The first output block at an index. -/
theorem rows_apply (p : Fin 512) (k : Fin 2048) : out0_4 (F := Ideal) x0 x1 x2 x3 (ix2 p k) = blockRow x0 x1 x2 p k := by
  canon_tiles x h using cover0_4 (F := Ideal) _ _
  obtain ⟨a, b, rfl⟩ : ∃ (a : Fin 512) (b : Fin 2048), x = ix2 a b := ⟨x 0, x 1, eq_ix2 x⟩
  obtain rfl : p = a := Fin.ext h0
  obtain rfl : k = b := Fin.ext h1
  exact hidden_apply x0 x1 x2 x3 p k

/-- A plain piece of the second output block. -/
theorem plain_piece (p : Fin 512) (n : Fin 1024) (N : Fin 4096) (o : Nat) (hN : N.val = o + n.val) (ho : o + 1024 ≤ 3072)
    (w : Vec Ideal S2048x1024 .bf16) (hw : ∀ k, w (ix2 k n) = x3 (ix2 k ⟨o + n.val, by clear hN; omega⟩)) :
    k0_pay2 (F := Ideal) (k0_pay9 x0 x1 x2 x3) w (ix2 p n) = rowOut (blockRow x0 x1 x2 p) (fun k j => x3 (ix2 k j)) N := by
  obtain rfl : N = ⟨o + n.val, by clear hN; omega⟩ := Fin.ext hN
  refine (plain_apply w _ p n).trans ?_
  unfold rowOut
  rw [if_pos (by show o + n.val < 3072; omega)]
  exact Finset.sum_congr rfl fun k _ => congrArg₂ (· * ·) (hidden_apply x0 x1 x2 x3 p k) (hw k)

theorem unit_piece (p : Fin 512) (n : Fin 1024) (N : Fin 4096) (hN : N.val = 3072 + n.val) (v : FVec Ideal S512x1024 .f32)
    (w : Vec Ideal S2048x1024 .bf16) (hw : ∀ k, w (ix2 k n) = x3 (ix2 k ⟨3072 + n.val, by clear hN; omega⟩))
    (hv : v = matmul dot_S512x2048_S2048x1024_S512x1024_1_0_0_1_n_n none (k0_pay9 x0 x1 x2 x3) (operand w)
      (constant S512x1024 .f32 0x00000000#32)) :
    k0_pay1 (F := Ideal) v (addf v (mulf (broadcast S512x1024 (Scalar.ofBits .f32 0x3D372713#32)) (mulf v (mulf v v)))) (k0_pay8 (F := Ideal)) (ix2 p n)
      = rowOut (blockRow x0 x1 x2 p) (fun k j => x3 (ix2 k j)) N := by
  obtain rfl : N = ⟨3072 + n.val, by clear hN; omega⟩ := Fin.ext hN
  refine (unit_apply v p n).trans ?_
  unfold rowOut
  rw [if_neg (by show ¬ 3072 + n.val < 3072; omega), hv]
  exact congrArg gelu ((product_apply w _ p n).trans
    (Finset.sum_congr rfl fun k _ => congrArg₂ (· * ·) (hidden_apply x0 x1 x2 x3 p k) (hw k)))

/-- The second output block at an index. -/
theorem block_apply (p : Fin 512) (n : Fin 4096) :
    out0_5 (F := Ideal) x0 x1 x2 x3 (ix2 p n) = rowOut (blockRow x0 x1 x2 p) (fun k j => x3 (ix2 k j)) n := by
  canon_tiles x h using cover0_5 (F := Ideal) _ _ _ _ _
  all_goals
    obtain ⟨a, b, rfl⟩ : ∃ (a : Fin 512) (b : Fin 1024), x = ix2 a b := ⟨x 0, x 1, eq_ix2 x⟩
    obtain rfl : p = a := Fin.ext h0
  · exact plain_piece x0 x1 x2 x3 p b n 2048 h1 (by decide) _ fun k => by pointwise []
  · exact plain_piece x0 x1 x2 x3 p b n 1024 h1 (by decide) _ fun k => by pointwise []
  · exact plain_piece x0 x1 x2 x3 p b n 0 (by have : n.val = b.val := h1; omega) (by decide) _ fun k => by
      pointwise []
  · exact unit_piece x0 x1 x2 x3 p b n h1 _ (View.ld x3 r0_4) (fun k => by pointwise []) rfl

end

end Cert.QkvuValue
-- ==== Proof.QkvuReference.lean ====
module

public import proofs.«01_k».proof.Proof.QkvuBlock
public import proofs.«01_k».proof.Proof.Gen.QkvuReferenceIdeal.Read
public import Idealize.ShloMosaic.Lib.Tactic.CleanTypes
public import Idealize.ShloMosaic.Lib.Pipeline.Value

/-!
# The two results of the reference of the queries', keys' and values' projection at an index, over the extended reals
-/

@[expose] public section

namespace Cert.QkvuReferenceIdeal.Block

open Cert.QkvuReferenceIdeal Cert.QkvuReferenceIdeal.Gen Cert.QkvuReferenceIdeal.Read Idealize.ShloMosaic Idealize.ShloMosaic.TcCoe
open Cert.Ffw (width tiny)
open Cert.GatesValue (gelu gelu_eq)
open Cert.QkvuValue (normRow rowOut)

noncomputable section

set_option maxRecDepth 16384

variable (x0 : Vec Ideal S4x1024x2048 .f32) (x1 : Vec Ideal S4x12288 .f32) (x2 : Vec Ideal S1x2048 .f32) (x3 : Vec Ideal S1x2048x9216 .f32)

/-- The columns of the projection's weight that the call reads. -/
def cols (k : Fin 2048) (j : Fin 4096) : EReal := x3 (ix3 0 k ⟨j.val, by omega⟩)

/-- The modulated row of a sample. -/
def hidden (b : Fin 4) (a : Fin 1024) (k : Fin 2048) : EReal :=
  normRow (fun k => x0 (ix3 b a k)) (fun k => x2 (ix2 0 k)) (fun k => x1 (ix2 b ⟨2048 + k.val, by omega⟩)) (fun k => x1 (ix2 b ⟨k.val, by omega⟩)) k

theorem hidden_apply (b : Fin 4) (a : Fin 1024) (k : Fin 2048) : val_main_v26 (F := Ideal) x0 x1 x2 (ix3 b a k) = hidden x0 x1 x2 b a k := by
  unfold val_main_v26 val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v2 val_main_v1 val_main_v0
    val_main_cst val_main_cst_0 val_main_cst_1 val_main_cst_2 hidden normRow width tiny
  clean_types
  pointwise []

theorem product_apply (b : Fin 4) (a : Fin 1024) (n : Fin 9216) :
    val_main_v28 (F := Ideal) x0 x1 x2 x3 (ix3 b a n) = ∑ k : Fin 2048, hidden x0 x1 x2 b a k * x3 (ix3 0 k n) := by
  simp only [← hidden_apply]
  unfold val_main_v28 val_main_v27
  generalize val_main_v26 (F := Ideal) x0 x1 x2 = y
  clean_types
  pointwise []

/-- A block of 1024 columns of the product. -/
theorem slice_apply (o : Nat) (ho : o + 1024 ≤ 9216) (hs : S4x1024x9216.Slices ![0, 0, o] S4x1024x1024) (b : Fin 4) (a : Fin 1024) (n : Fin 1024) :
    extractStridedSlice S4x1024x1024 ![0, 0, o] (val_main_v28 (F := Ideal) x0 x1 x2 x3) hs (ix3 b a n)
      = ∑ k : Fin 2048, hidden x0 x1 x2 b a k * x3 (ix3 0 k ⟨o + n.val, by omega⟩) := by
  rw [← product_apply]
  generalize val_main_v28 (F := Ideal) x0 x1 x2 x3 = y
  clean_types
  pointwise []

theorem unit_apply (b : Fin 4) (a : Fin 1024) (n : Fin 1024) :
    val_main_v48 (F := Ideal) x0 x1 x2 x3 (ix3 b a n) = gelu (∑ k : Fin 2048, hidden x0 x1 x2 b a k * x3 (ix3 0 k ⟨3072 + n.val, by omega⟩)) := by
  have e : val_main_v32 (F := Ideal) x0 x1 x2 x3 (ix3 b a n) = ∑ k : Fin 2048, hidden x0 x1 x2 b a k * x3 (ix3 0 k ⟨3072 + n.val, by omega⟩) :=
    slice_apply x0 x1 x2 x3 3072 (by decide) _ b a n
  rw [← e, gelu_eq]
  unfold val_main_v48 val_main_v47 val_main_v46 val_main_v45 val_main_v44 val_main_v43 val_main_v42 val_main_v41 val_main_v40 val_main_v39 val_main_v38
    val_main_v37 val_main_v36 val_main_cst_3 val_main_cst_4 val_main_cst_5 val_main_cst_6
  generalize val_main_v32 (F := Ideal) x0 x1 x2 x3 = y
  clean_types
  pointwise []

/-- Four blocks of columns side by side, read at a column. -/
theorem joined_apply (f : Fin 4 → S4x1024x1024.Idx → EReal)
    (hc : Shape.Concatenates [S4x1024x1024, S4x1024x1024, S4x1024x1024, S4x1024x1024] S4x1024x4096 2) (b : Fin 4) (a : Fin 1024) (n : Fin 4096) :
    concatenate S4x1024x4096 2 [⟨S4x1024x1024, f 0⟩, ⟨S4x1024x1024, f 1⟩, ⟨S4x1024x1024, f 2⟩, ⟨S4x1024x1024, f 3⟩] hc (ix3 b a n)
      = f ⟨n.val / 1024, by omega⟩ (ix3 b a ⟨n.val % 1024, by omega⟩) :=
  concatenate_ofFn_apply (t := S4x1024x4096) (s₁ := S4x1024x1024) 2 f hc rfl 1024 rfl (ix3 b a n) ⟨n.val / 1024, by omega⟩ rfl (ix3 b a ⟨n.val % 1024, by omega⟩) rfl
    (Fin.forall_fin_succ.mpr ⟨fun _ => rfl, Fin.forall_fin_two.mpr ⟨fun _ => rfl, fun h => absurd rfl h⟩⟩)

theorem row_apply (b : Fin 4) (a : Fin 1024) (n : Fin 4096) :
    val_main_v49 (F := Ideal) x0 x1 x2 x3 (ix3 b a n) = rowOut (hidden x0 x1 x2 b a) (cols x3) n := by
  let f : Fin 4 → S4x1024x1024.Idx → EReal := ![val_main_v29 (F := Ideal) x0 x1 x2 x3, val_main_v30 (F := Ideal) x0 x1 x2 x3,
    val_main_v31 (F := Ideal) x0 x1 x2 x3, val_main_v48 (F := Ideal) x0 x1 x2 x3]
  have key : ∀ (q : Fin 4) (r : Fin 1024), f q (ix3 b a r) = rowOut (hidden x0 x1 x2 b a) (cols x3) ⟨1024 * q.val + r.val, by omega⟩ := by
    intro q r
    unfold rowOut cols
    match q with
    | 0 => rw [if_pos (by show 1024 * 0 + r.val < 3072; omega)]; exact slice_apply x0 x1 x2 x3 0 (by decide) slices_S4x1024x9216_S4x1024x1024_0_0_0 b a r
    | 1 => rw [if_pos (by show 1024 * 1 + r.val < 3072; omega)]; exact slice_apply x0 x1 x2 x3 1024 (by decide) slices_S4x1024x9216_S4x1024x1024_0_0_1024 b a r
    | 2 => rw [if_pos (by show 1024 * 2 + r.val < 3072; omega)]; exact slice_apply x0 x1 x2 x3 2048 (by decide) slices_S4x1024x9216_S4x1024x1024_0_0_2048 b a r
    | 3 => rw [if_neg (by show ¬ 1024 * 3 + r.val < 3072; omega)]; exact unit_apply x0 x1 x2 x3 b a r
  refine Eq.trans ?_ ((key ⟨n.val / 1024, by omega⟩ ⟨n.val % 1024, by omega⟩).trans
    (congrArg (rowOut _ _) (Fin.ext (by show 1024 * (n.val / 1024) + n.val % 1024 = n.val; omega))))
  unfold val_main_v49
  exact joined_apply f _ b a n

/-- The first result at a row. -/
theorem rows_apply (r : Fin 4096) (k : Fin 2048) :
    val_main_v51 (F := Ideal) x0 x1 x2 (ix2 r k) = hidden x0 x1 x2 ⟨r.val / 1024, by omega⟩ ⟨r.val % 1024, by omega⟩ k := by
  rw [← hidden_apply]
  unfold val_main_v51 val_main_v50
  generalize val_main_v26 (F := Ideal) x0 x1 x2 = y
  clean_types
  pointwise []

/-- The second result at a row. -/
theorem out_apply (r : Fin 4096) (n : Fin 4096) :
    val_main_v53 (F := Ideal) x0 x1 x2 x3 (ix2 r n) = rowOut (hidden x0 x1 x2 ⟨r.val / 1024, by omega⟩ ⟨r.val % 1024, by omega⟩) (cols x3) n := by
  rw [← row_apply]
  unfold val_main_v53 val_main_v52
  generalize val_main_v49 (F := Ideal) x0 x1 x2 x3 = y
  clean_types
  pointwise []

end

end Cert.QkvuReferenceIdeal.Block
-- ==== Proof.QkvuValue.lean ====
module

public import proofs.«01_k».proof.Proof.QkvuReference
public import Idealize.ShloMosaic.Lib.Pipeline.ArrRel

/-!
# The two final arrays of the queries', keys' and values' projection, and that they are the reference's
-/

@[expose] public section

namespace Cert.QkvuValue

open Idealize.ShloMosaic Idealize.ShloMosaic.TcCoe Cert.QkvuIdeal Cert.QkvuIdeal.Gen Idealize.SL.Sem

noncomputable section

set_option maxRecDepth 16384

variable (m : (ℓ : Loc nD τ sig) → Buf (Elt Ideal) ℓ) (ρ : Dev nD → PrngReg) (c : Dev nD)

/-- The modulated row of the staged arrays. -/
def rowAt (x : Vec Ideal S4096x2048 .f32) (e : Vec Ideal S4x6x2048 .f32) (g : Vec Ideal S1x2048 .f32) (r : Fin 4096) (k : Fin 2048) : EReal :=
  normRow (fun k => x (ix2 r k)) (fun k => g (ix2 0 k)) (fun k => e (ix3 ⟨r.val / 1024, by omega⟩ 1 k)) (fun k => e (ix3 ⟨r.val / 1024, by omega⟩ 0 k)) k

/-- The first output array as one function of the staged arrays. -/
def rows (x : Vec Ideal S4096x2048 .f32) (e : Vec Ideal S4x6x2048 .f32) (g : Vec Ideal S1x2048 .f32) : Vec Ideal S4096x2048 .bf16 :=
  fun z => rowAt x e g (z 0) (z 1)

/-- The second. -/
def result (x : Vec Ideal S4096x2048 .f32) (e : Vec Ideal S4x6x2048 .f32) (g : Vec Ideal S1x2048 .f32) (w : Vec Ideal S2048x4096 .bf16) :
    Vec Ideal S4096x4096 .bf16 :=
  fun z => rowOut (rowAt x e g (z 0)) (fun k j => w (ix2 k j)) (z 1)

theorem idx_0 : ∀ t : Fin grid0.N, win0_0.index t = ![t.val, 0] := by decide +kernel
theorem idx_1 : ∀ t : Fin grid0.N, win0_1.index t = ![t.val / 2, 0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![t.val, 0] := by decide +kernel

theorem input_eq (t : Fin cfg0.N) (p : Fin 512) (r : Fin 4096) (hr : r.val = 512 * t.val + p.val) (k : Fin 2048) :
    (iblk m c 0 t : Vec Ideal S512x2048 .f32) (ix2 p k) = (V m c main_v0 : Vec Ideal S4096x2048 .f32) (ix2 r k) := by
  blk_simp [iblk]
  refine congrArg (V m c main_v0) (funext (Fin.forall_fin_two.mpr ⟨Fin.ext ?_, Fin.ext ?_⟩))
  · blk_simp [idx_0 t]; omega
  · blk_simp [idx_0 t]

theorem mods_eq (t : Fin cfg0.N) (b : Fin 4) (hb : b.val = t.val / 2) (i : Fin 6) (k : Fin 2048) :
    (iblk m c 1 t : Vec Ideal S1x6x2048 .f32) (ix3 0 i k) = (V m c main_v1 : Vec Ideal S4x6x2048 .f32) (ix3 b i k) := by
  blk_simp [iblk]
  refine congrArg (V m c main_v1) (funext fun a => ?_)
  match a with
  | 0 => apply Fin.ext; blk_simp [idx_1 t]; omega
  | 1 => apply Fin.ext; blk_simp [idx_1 t]
  | 2 => apply Fin.ext; blk_simp [idx_1 t]

theorem scale_eq (t : Fin cfg0.N) (k : Fin 2048) : (iblk m c 2 t : Vec Ideal S1x2048 .f32) (ix2 0 k) = (V m c main_v3 : Vec Ideal S1x2048 .f32) (ix2 0 k) := by
  blk_simp [iblk]
  refine congrArg (V m c main_v3) (funext (Fin.forall_fin_two.mpr ⟨Fin.ext ?_, Fin.ext ?_⟩))
  · blk_simp [idx_2 t]
  · blk_simp [idx_2 t]

theorem weight_eq (t : Fin cfg0.N) (k : Fin 2048) (j : Fin 4096) :
    (iblk m c 3 t : Vec Ideal S2048x4096 .bf16) (ix2 k j) = (V m c main_v6 : Vec Ideal S2048x4096 .bf16) (ix2 k j) := by
  blk_simp [iblk]
  refine congrArg (V m c main_v6) (funext (Fin.forall_fin_two.mpr ⟨Fin.ext ?_, Fin.ext ?_⟩))
  · blk_simp [idx_3 t]
  · blk_simp [idx_3 t]

theorem row_eq (t : Fin cfg0.N) (p : Fin 512) (r : Fin 4096) (hr : r.val = 512 * t.val + p.val) :
    blockRow (iblk m c 0 t) (iblk m c 1 t) (iblk m c 2 t) p = rowAt (V m c main_v0) (V m c main_v1) (V m c main_v3) r := by
  have hN : t.val < 8 := Nat.lt_of_lt_of_eq t.isLt N_0
  have hb : r.val / 1024 = t.val / 2 := by omega
  funext k
  unfold blockRow rowAt
  simp only [input_eq m c t p r hr, mods_eq m c t ⟨r.val / 1024, by omega⟩ hb, scale_eq m c t]

/-- What the run leaves in the first output array. -/
theorem final_rows : (dats m 0 c).arrAt 4 cfg0.N = rows (V m c main_v0) (V m c main_v1) (V m c main_v3) := by
  refine (dats m 0 c).arrAt_eq_of_covers 4 _ (by decide +kernel) fun t hf y => ?_
  have hN : t.val < 8 := Nat.lt_of_lt_of_eq t.isLt N_0
  blk_simp
  rw [after0_4]
  obtain ⟨p, k, rfl⟩ : ∃ (a : Fin 512) (b : Fin 2048), y = ix2 a b := ⟨y 0, y 1, eq_ix2 y⟩
  refine (rows_apply _ _ _ _ p k).trans ?_
  rw [row_eq m c t p ⟨512 * t.val + p.val, by omega⟩ rfl]
  unfold rows
  refine congrArg₂ (rowAt _ _ _) (Fin.ext ?_) (Fin.ext ?_)
  · blk_simp [idx_4 t]
    show 512 * t.val + p.val = _
    omega
  · blk_simp [idx_4 t]

/-- What the run leaves in the second output array. -/
theorem final : (dats m 0 c).arrAt 5 cfg0.N = result (V m c main_v0) (V m c main_v1) (V m c main_v3) (V m c main_v6) := by
  refine (dats m 0 c).arrAt_eq_of_covers 5 _ (by decide +kernel) fun t hf y => ?_
  have hN : t.val < 8 := Nat.lt_of_lt_of_eq t.isLt N_0
  blk_simp
  rw [after0_5]
  obtain ⟨p, n, rfl⟩ : ∃ (a : Fin 512) (b : Fin 4096), y = ix2 a b := ⟨y 0, y 1, eq_ix2 y⟩
  refine (block_apply _ _ _ _ p n).trans ?_
  rw [row_eq m c t p ⟨512 * t.val + p.val, by omega⟩ rfl]
  simp only [weight_eq]
  unfold result
  refine congrArg₂ (fun r n => rowOut (rowAt _ _ _ r) _ n) (Fin.ext ?_) (Fin.ext ?_)
  · blk_simp [idx_5 t]
    show 512 * t.val + p.val = _
    omega
  · blk_simp [idx_5 t]

/-- The input rows as they are staged. -/
def inputRows (x : Vec Ideal S4x1024x2048 .f32) : Vec Ideal S4096x2048 .f32 := shapeCast S4096x2048 x shapeCasts_S4x1024x2048_S4096x2048

/-- The modulation as it is staged. -/
def modRows (x : Vec Ideal S4x12288 .f32) : Vec Ideal S4x6x2048 .f32 := shapeCast S4x6x2048 x shapeCasts_S4x12288_S4x6x2048

/-- The norm's scale as it is staged. -/
def scaleRow (x : Vec Ideal S1x2048 .f32) : Vec Ideal S1x2048 .f32 := shapeCast S1x2048 (shapeCast S2048 x shapeCasts_S1x2048_S2048) shapeCasts_S2048_S1x2048

/-- The weight as it is staged. -/
def weights (w : Vec Ideal S1x2048x9216 .f32) : Vec Ideal S2048x4096 .bf16 :=
  truncf (F := Ideal) (φ := .f32) .bf16 (extractStridedSlice S2048x4096 ![0, 0] (shapeCast S2048x9216 w shapeCasts_S1x2048x9216_S2048x9216)
    slices_S2048x9216_S2048x4096_0_0) bitsLt_bf16_f32

theorem rowAt_eq (x0 : Vec Ideal S4x1024x2048 .f32) (x1 : Vec Ideal S4x12288 .f32) (x2 : Vec Ideal S1x2048 .f32) (r : Fin 4096) :
    rowAt (inputRows x0) (modRows x1) (scaleRow x2) r
      = Cert.QkvuReferenceIdeal.Block.hidden x0 x1 x2 ⟨r.val / 1024, by omega⟩ ⟨r.val % 1024, by omega⟩ := by
  have e0 : ∀ k : Fin 2048, inputRows x0 (ix2 r k) = x0 (ix3 ⟨r.val / 1024, by omega⟩ ⟨r.val % 1024, by omega⟩ k) := fun k => by
    unfold inputRows
    pointwise []
  have e1 : ∀ k : Fin 2048, modRows x1 (ix3 ⟨r.val / 1024, by omega⟩ 1 k) = x1 (ix2 ⟨r.val / 1024, by omega⟩ ⟨2048 + k.val, by omega⟩) := fun k => by
    unfold modRows
    pointwise []
  have e2 : ∀ k : Fin 2048, modRows x1 (ix3 ⟨r.val / 1024, by omega⟩ 0 k) = x1 (ix2 ⟨r.val / 1024, by omega⟩ ⟨k.val, by omega⟩) := fun k => by
    unfold modRows
    pointwise []
  have e3 : ∀ k : Fin 2048, scaleRow x2 (ix2 0 k) = x2 (ix2 0 k) := fun k => by
    unfold scaleRow
    pointwise []
  funext k
  unfold rowAt Cert.QkvuReferenceIdeal.Block.hidden
  simp only [e0, e1, e2, e3]

/-- The first output from the arguments is the reference's first result. -/
theorem rows_eq (x0 : Vec Ideal S4x1024x2048 .f32) (x1 : Vec Ideal S4x12288 .f32) (x2 : Vec Ideal S1x2048 .f32) :
    rows (inputRows x0) (modRows x1) (scaleRow x2) = Cert.QkvuReferenceIdeal.Read.val_main_v51 (F := Ideal) x0 x1 x2 := by
  refine funext fun (z : S4096x2048.Idx) => ?_
  obtain ⟨r, k, rfl⟩ : ∃ (a : Fin 4096) (b : Fin 2048), z = ix2 a b := ⟨z 0, z 1, eq_ix2 z⟩
  exact (congrFun (rowAt_eq x0 x1 x2 r) k).trans (Cert.QkvuReferenceIdeal.Block.rows_apply x0 x1 x2 r k).symm

/-- The second output from the arguments is the reference's second result. -/
theorem qkvu_eq (x0 : Vec Ideal S4x1024x2048 .f32) (x1 : Vec Ideal S4x12288 .f32) (x2 : Vec Ideal S1x2048 .f32) (x3 : Vec Ideal S1x2048x9216 .f32) :
    result (inputRows x0) (modRows x1) (scaleRow x2) (weights x3) = Cert.QkvuReferenceIdeal.Read.val_main_v53 (F := Ideal) x0 x1 x2 x3 := by
  refine funext fun (z : S4096x4096.Idx) => ?_
  obtain ⟨r, n, rfl⟩ : ∃ (a : Fin 4096) (b : Fin 4096), z = ix2 a b := ⟨z 0, z 1, eq_ix2 z⟩
  refine Eq.trans ?_ (Cert.QkvuReferenceIdeal.Block.out_apply x0 x1 x2 x3 r n).symm
  have e1 : (fun (k : Fin 2048) (j : Fin 4096) => weights x3 (ix2 k j)) = Cert.QkvuReferenceIdeal.Block.cols x3 := by
    funext k j
    unfold weights Cert.QkvuReferenceIdeal.Block.cols
    pointwise []
  unfold result
  refine Eq.trans ?_ (congrArg (fun a => rowOut a _ n) (rowAt_eq x0 x1 x2 r))
  exact congrArg (fun w => rowOut _ w n) e1

theorem staged0 : V m c main_v0 = inputRows (m ((c.tc : Thread nD τ).loc main_arg0)) := by unfold_abbrev_sides; after_results; rfl
theorem staged1 : V m c main_v1 = modRows (m ((c.tc : Thread nD τ).loc main_arg1)) := by unfold_abbrev_sides; after_results; rfl
theorem staged3 : V m c main_v3 = scaleRow (m ((c.tc : Thread nD τ).loc main_arg2)) := by unfold_abbrev_sides; after_results; rfl
theorem staged6 : V m c main_v6 = weights (m ((c.tc : Thread nD τ).loc main_arg3)) := by unfold_abbrev_sides; after_results; rfl

/-- The call runs: its two results are the reference's functions of the arguments, and the arguments are unchanged. -/
theorem run : θ_run defs (onTc (τ := τ) (main (F := Ideal))) ⟨m, fun _ => 0, ρ⟩ (fun r => ∀ c : Dev nD,
      r.2.mem ((c.tc : Thread nD τ).loc main_v7_0) = Cert.QkvuReferenceIdeal.Read.val_main_v51 (F := Ideal) (m ((c.tc : Thread nD τ).loc main_arg0))
        (m ((c.tc : Thread nD τ).loc main_arg1)) (m ((c.tc : Thread nD τ).loc main_arg2))
      ∧ r.2.mem ((c.tc : Thread nD τ).loc main_v7_1) = Cert.QkvuReferenceIdeal.Read.val_main_v53 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans ((final_rows m c).trans (by rw [staged0, staged1, staged3]; exact rows_eq _ _ _)),
    ((h.1 c).1 5).trans ((final m c).trans (by rw [staged0, staged1, staged3, staged6]; exact qkvu_eq _ _ _ _)), h.2 c⟩)
    (θ_run_and (run_main m ρ) (unchanged m ρ))

end

end Cert.QkvuValue
-- ==== Proof.MergeTerm.lean ====
module

public import proofs.«01_k».proof.Proof.QkvuBlock

/-!
# One row of the merge of the two branches, over the extended reals
-/

@[expose] public section

namespace Cert.MergeValue

open Idealize.ShloMosaic
open Cert.Ffw (width tiny)

noncomputable section

/-- One entry of the spatially gated branch: the entry `u` times a mix of the chunk's 128 rows. -/
def gated (u : EReal) (w v : Fin 128 → EReal) (b : EReal) : EReal := u * ((∑ q : Fin 128, w q * v q) + b)

/-- The two branches projected and added under their gates. -/
def mixRow (ga gb : Fin 2048 → EReal) (oa ob : Fin 1024 → EReal) (wa wb : Fin 1024 → Fin 2048 → EReal) (k : Fin 2048) : EReal :=
  ga k * (∑ d : Fin 1024, oa d * wa d k) + gb k * (∑ d : Fin 1024, ob d * wb d k)

/-- The mixed row projected. -/
def projRow (m : Fin 2048 → EReal) (w : Fin 2048 → Fin 2048 → EReal) (k : Fin 2048) : EReal := ∑ e : Fin 2048, m e * w e k

/-- The row `x` with the normed row `y` added under a gate. -/
def addRow (x gate y g : Fin 2048 → EReal) (k : Fin 2048) : EReal :=
  x k + gate k * (y k * Ideal.rsqrt (Ideal.div (∑ e : Fin 2048, y e * y e) width + tiny) * g k)

end

end Cert.MergeValue
-- ==== Proof.MergeReference.lean ====
module

public import proofs.«01_k».proof.Proof.MergeTerm
public import proofs.«01_k».proof.Proof.Gen.MergeReferenceIdeal.Read
public import Idealize.ShloMosaic.Lib.Tactic.CleanTypes
public import Idealize.ShloMosaic.Lib.Pipeline.Value

/-!
# The two results of the reference of the merge at an index, over the extended reals
-/

@[expose] public section

namespace Cert.MergeReferenceIdeal.Block

open Cert.MergeReferenceIdeal Cert.MergeReferenceIdeal.Gen Cert.MergeReferenceIdeal.Read Idealize.ShloMosaic Idealize.ShloMosaic.TcCoe
open Cert.Ffw (width tiny)
open Cert.QkvuValue (normRow)
open Cert.MergeValue (gated mixRow projRow addRow)

noncomputable section

set_option maxRecDepth 16384

variable (x0 : Vec Ideal S4x1024x2048 .f32) (x1 : Vec Ideal S4x12288 .f32) (x2 : Vec Ideal S4096x1024 .bf16) (x3 : Vec Ideal S4096x4096 .bf16)
  (x4 : Vec Ideal S8192x5120 .bf16) (x5 : Vec Ideal S1x8x128x128 .f32) (x6 : Vec Ideal S1x8x128 .f32) (x7 x8 : Vec Ideal S1x1024x2048 .f32)
  (x9 : Vec Ideal S1x2048x2048 .f32) (x10 x11 : Vec Ideal S1x2048 .f32)

theorem row_lt (b : Fin 4) (a : Fin 1024) : b.val * 1024 + a.val < 4096 := by omega

/-- The spatially gated branch at a row of a sample. -/
def branch (b : Fin 4) (a : Fin 1024) (d : Fin 1024) : EReal :=
  gated (x3 (ix2 ⟨b.val * 1024 + a.val, row_lt b a⟩ ⟨3072 + d.val, by omega⟩))
    (fun q => x5 (ix4 0 ⟨d.val / 128, by omega⟩ ⟨a.val % 128, by omega⟩ q))
    (fun q => x4 (ix2 ⟨4096 + (b.val * 1024 + (a.val / 128 * 128 + q.val)), by omega⟩ ⟨4096 + d.val, by omega⟩))
    (x6 (ix3 0 ⟨d.val / 128, by omega⟩ ⟨a.val % 128, by omega⟩))

/-- The mixed branches at a row of a sample. -/
def mixed (b : Fin 4) (a : Fin 1024) : Fin 2048 → EReal :=
  mixRow (fun k => x4 (ix2 ⟨4096 + (b.val * 1024 + a.val), by omega⟩ ⟨k.val, by omega⟩))
    (fun k => x4 (ix2 ⟨4096 + (b.val * 1024 + a.val), by omega⟩ ⟨2048 + k.val, by omega⟩))
    (fun d => x2 (ix2 ⟨b.val * 1024 + a.val, row_lt b a⟩ d)) (branch x3 x4 x5 x6 b a)
    (fun d k => x7 (ix3 0 d k)) (fun d k => x8 (ix3 0 d k))

/-- The first result's row. -/
def added (b : Fin 4) (a : Fin 1024) : Fin 2048 → EReal :=
  addRow (fun k => x0 (ix3 b a k)) (fun k => x1 (ix2 b ⟨4096 + k.val, by omega⟩))
    (projRow (mixed x2 x3 x4 x5 x6 x7 x8 b a) (fun e k => x9 (ix3 0 e k))) (fun k => x10 (ix2 0 k))

/-- The second result's row. -/
def hidden (b : Fin 4) (a : Fin 1024) : Fin 2048 → EReal :=
  normRow (added x0 x1 x2 x3 x4 x5 x6 x7 x8 x9 x10 b a) (fun k => x11 (ix2 0 k)) (fun k => x1 (ix2 b ⟨8192 + k.val, by omega⟩))
    (fun k => x1 (ix2 b ⟨6144 + k.val, by omega⟩))

theorem value_apply (b : Fin 4) (n : Fin 8) (q : Fin 128) (g : Fin 8) (e : Fin 128) :
    val_main_v18 (F := Ideal) x4 (ix5 b n q g e)
      = x4 (ix2 ⟨4096 + (b.val * 1024 + (n.val * 128 + q.val)), by omega⟩ ⟨4096 + (g.val * 128 + e.val), by omega⟩) := by
  unfold val_main_v18 val_main_v15 val_main_v12 val_main_v11 val_main_v10
  clean_types
  pointwise []

theorem mix_apply (b : Fin 4) (n : Fin 8) (p : Fin 128) (g : Fin 8) (e : Fin 128) :
    val_main_v24 (F := Ideal) x4 x5 x6 (ix5 b n p g e)
      = (∑ q : Fin 128, x5 (ix4 0 g p q) * x4 (ix2 ⟨4096 + (b.val * 1024 + (n.val * 128 + q.val)), by omega⟩ ⟨4096 + (g.val * 128 + e.val), by omega⟩))
        + x6 (ix3 0 g p) := by
  simp only [← value_apply]
  unfold val_main_v24 val_main_v23 val_main_v22 val_main_v21 val_main_v20 val_main_v19 val_main_v17 val_main_v16
  generalize val_main_v18 (F := Ideal) x4 = y
  clean_types
  pointwise []
  exact congrArg (· + _) (Finset.sum_congr rfl fun q _ => mul_comm _ _)

theorem branch_apply (b : Fin 4) (a : Fin 1024) (d : Fin 1024) : val_main_v26 (F := Ideal) x3 x4 x5 x6 (ix3 b a d) = branch x3 x4 x5 x6 b a d := by
  have e := mix_apply x4 x5 x6 b ⟨a.val / 128, by omega⟩ ⟨a.val % 128, by omega⟩ ⟨d.val / 128, by omega⟩ ⟨d.val % 128, by omega⟩
  have e0 : val_main_v25 (F := Ideal) x4 x5 x6 (ix3 b a d)
      = val_main_v24 (F := Ideal) x4 x5 x6 (ix5 b ⟨a.val / 128, by omega⟩ ⟨a.val % 128, by omega⟩ ⟨d.val / 128, by omega⟩ ⟨d.val % 128, by omega⟩) := by
    unfold val_main_v25
    generalize val_main_v24 (F := Ideal) x4 x5 x6 = y
    clean_types
    pointwise []
  have e1 : val_main_v9 (F := Ideal) x3 (ix3 b a d) = x3 (ix2 ⟨b.val * 1024 + a.val, row_lt b a⟩ ⟨3072 + d.val, by omega⟩) := by
    unfold val_main_v9 val_main_v8 val_main_v7
    clean_types
    pointwise []
  have hd : d.val / 128 * 128 + d.val % 128 = d.val := by omega
  simp only [hd] at e
  unfold branch gated
  rw [← e1, ← e, ← e0]
  rfl

theorem mixed_apply (b : Fin 4) (a : Fin 1024) (k : Fin 2048) :
    val_main_v35 (F := Ideal) x2 x3 x4 x5 x6 x7 x8 (ix3 b a k) = mixed x2 x3 x4 x5 x6 x7 x8 b a k := by
  unfold mixed mixRow
  simp only [← branch_apply]
  unfold val_main_v35 val_main_v34 val_main_v33 val_main_v32 val_main_v31 val_main_v30 val_main_v29 val_main_v28 val_main_v27 val_main_v14 val_main_v13
    val_main_v12 val_main_v11 val_main_v10
  generalize val_main_v26 (F := Ideal) x3 x4 x5 x6 = y
  clean_types
  pointwise []

theorem proj_apply (b : Fin 4) (a : Fin 1024) (k : Fin 2048) :
    val_main_v37 (F := Ideal) x2 x3 x4 x5 x6 x7 x8 x9 (ix3 b a k)
      = projRow (mixed x2 x3 x4 x5 x6 x7 x8 b a) (fun e k => x9 (ix3 0 e k)) k := by
  unfold projRow
  simp only [← mixed_apply]
  unfold val_main_v37 val_main_v36
  generalize val_main_v35 (F := Ideal) x2 x3 x4 x5 x6 x7 x8 = y
  clean_types
  pointwise []

theorem added_apply (b : Fin 4) (a : Fin 1024) (k : Fin 2048) :
    val_main_v54 (F := Ideal) x0 x1 x2 x3 x4 x5 x6 x7 x8 x9 x10 (ix3 b a k) = added x0 x1 x2 x3 x4 x5 x6 x7 x8 x9 x10 b a k := by
  unfold added addRow
  simp only [← proj_apply]
  unfold val_main_v54 val_main_v53 val_main_v52 val_main_v51 val_main_v50 val_main_v49 val_main_v48 val_main_v47 val_main_v46 val_main_v45 val_main_v44
    val_main_v43 val_main_v42 val_main_v41 val_main_v40 val_main_v39 val_main_v38 val_main_v3 val_main_v0 val_main_cst val_main_cst_0 val_main_cst_1
    width tiny
  generalize val_main_v37 (F := Ideal) x2 x3 x4 x5 x6 x7 x8 x9 = y
  clean_types
  pointwise []

theorem hidden_apply (b : Fin 4) (a : Fin 1024) (k : Fin 2048) :
    val_main_v74 (F := Ideal) x0 x1 x2 x3 x4 x5 x6 x7 x8 x9 x10 x11 (ix3 b a k) = hidden x0 x1 x2 x3 x4 x5 x6 x7 x8 x9 x10 x11 b a k := by
  unfold hidden normRow
  simp only [← added_apply]
  unfold val_main_v74 val_main_v73 val_main_v72 val_main_v71 val_main_v70 val_main_v69 val_main_v68 val_main_v67 val_main_v66 val_main_v65 val_main_v64
    val_main_v63 val_main_v62 val_main_v61 val_main_v60 val_main_v59 val_main_v58 val_main_v57 val_main_v56 val_main_v55 val_main_v5 val_main_v4 val_main_v0
    val_main_cst_2 val_main_cst_3 val_main_cst_4 val_main_cst_5 width tiny
  generalize val_main_v54 (F := Ideal) x0 x1 x2 x3 x4 x5 x6 x7 x8 x9 x10 = y
  clean_types
  pointwise []

/-- The first result at a row. -/
theorem rows_apply (r : Fin 4096) (k : Fin 2048) :
    val_main_v75 (F := Ideal) x0 x1 x2 x3 x4 x5 x6 x7 x8 x9 x10 (ix2 r k)
      = added x0 x1 x2 x3 x4 x5 x6 x7 x8 x9 x10 ⟨r.val / 1024, by omega⟩ ⟨r.val % 1024, by omega⟩ k := by
  rw [← added_apply]
  unfold val_main_v75
  generalize val_main_v54 (F := Ideal) x0 x1 x2 x3 x4 x5 x6 x7 x8 x9 x10 = y
  clean_types
  pointwise []

/-- The second result at a row. -/
theorem out_apply (r : Fin 4096) (k : Fin 2048) :
    val_main_v77 (F := Ideal) x0 x1 x2 x3 x4 x5 x6 x7 x8 x9 x10 x11 (ix2 r k)
      = hidden x0 x1 x2 x3 x4 x5 x6 x7 x8 x9 x10 x11 ⟨r.val / 1024, by omega⟩ ⟨r.val % 1024, by omega⟩ k := by
  rw [← hidden_apply]
  unfold val_main_v77 val_main_v76
  generalize val_main_v74 (F := Ideal) x0 x1 x2 x3 x4 x5 x6 x7 x8 x9 x10 x11 = y
  clean_types
  pointwise []

end

end Cert.MergeReferenceIdeal.Block
-- ==== Proof.MergeBlock.lean ====
module

public import proofs.«01_k».proof.Proof.Gen.MergeIdeal.Frame

/-!
# What one point of the merge stores, in a uniform form

The generated run of the call's body lists its stores one at a time.  Here the same lists are written once for chunk `c` (of the four
chunks of 128 rows) and group `g` (of the eight groups of 128 columns) of the gated branch, and for half `h` of the block's rows.
-/

@[expose] public section

namespace Cert.MergeIdeal.Block

open Idealize.ShloMosaic Idealize.ShloMosaic.TcCoe Cert.MergeIdeal Cert.MergeIdeal.Gen

noncomputable section

variable {F : FTy → Type} [FloatOps F]

theorem inbTile (q : Fin 4) (g : Fin 8) : ∀ a, (![128 * q.val, 128 * g.val] : Fin 2 → ℕ) a + S128x128.size a ≤ S512x1024.size a := by
  intro a; fin_cases a
  · show 128 * q.val + 128 ≤ 512; omega
  · show 128 * g.val + 128 ≤ 1024; omega

theorem inbMix (g : Fin 8) : ∀ a, (![g.val, 0, 0] : Fin 3 → ℕ) a + S1x128x128.size a ≤ S8x128x128.size a := by
  intro a; fin_cases a
  · show g.val + 1 ≤ 8; omega
  · show 0 + 128 ≤ 128; omega
  · show 0 + 128 ≤ 128; omega

theorem inbBias (g : Fin 8) : ∀ a, (![0, g.val] : Fin 2 → ℕ) a + S128x1.size a ≤ S128x8.size a := by
  intro a; fin_cases a
  · show 0 + 128 ≤ 128; omega
  · show g.val + 1 ≤ 8; omega

theorem inbBranch (h : Fin 2) : ∀ a, (![256 * h.val, 0] : Fin 2 → ℕ) a + S256x1024.size a ≤ S512x1024.size a := by
  intro a; fin_cases a
  · show 256 * h.val + 256 ≤ 512; omega
  · show 0 + 1024 ≤ 1024; omega

theorem inbRows (h : Fin 2) : ∀ a, (![256 * h.val, 0] : Fin 2 → ℕ) a + S256x2048.size a ≤ S512x2048.size a := by
  intro a; fin_cases a
  · show 256 * h.val + 256 ≤ 512; omega
  · show 0 + 2048 ≤ 2048; omega

section Run

variable (c : Dev nD) (i : grid0.Coords)
  (arg1 : Memref sig .tc .vmem S512x2048 .f32) (harg1 : arg1.IsWhole) (arg2 : Memref sig .tc .vmem S1x6x2048 .f32) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x5120 .bf16) (harg5 : arg5.IsWhole) (arg6 : Memref sig .tc .vmem S8x128x128 .bf16) (harg6 : arg6.IsWhole)
  (arg7 : Memref sig .tc .vmem S128x8 .f32) (harg7 : arg7.IsWhole) (arg8 : Memref sig .tc .vmem S1024x2048 .bf16) (harg8 : arg8.IsWhole)
  (arg9 : Memref sig .tc .vmem S1024x2048 .bf16) (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S1x2048 .f32) (harg12 : arg12.IsWhole)
  (arg13 : Memref sig .tc .vmem S512x2048 .f32) (harg13 : arg13.IsWhole) (arg14 : Memref sig .tc .vmem S512x2048 .bf16) (harg14 : arg14.IsWhole)
  (arg15 : Memref sig .tc .vmem S512x1024 .bf16) (harg15 : arg15.IsWhole)
  (x0 : Vec F S512x2048 .f32) (x1 : Vec F S1x6x2048 .f32) (x2 x3 : Vec F S512x1024 .bf16) (x4 : Vec F S512x5120 .bf16) (x5 : Vec F S8x128x128 .bf16)
  (x6 : Vec F S128x8 .f32) (x7 x8 : Vec F S1024x2048 .bf16) (x9 : Vec F S2048x2048 .bf16) (x10 x11 : Vec F S1x2048 .f32)

/-- The gated tile of chunk `q` and group `g`. -/
def tile (q : Fin 4) (g : Fin 8) : FVec F S128x128 .bf16 :=
  k0_pay5
    (View.readAt (Elt F) arg6.view (Rect.unit (s := S8x128x128) ![g.val, 0, 0] S1x128x128.size (inbMix g)).toLoadRect (harg6.unread x5))
    (View.readAt (Elt F) arg5.view ((Rect.unit (s := S512x5120) ![0, 4096] S512x1024.size inb_S512x5120_S512x1024_0_4096).withinL
      (Rect.unit (s := S512x1024) ![128 * q.val, 128 * g.val] S128x128.size (inbTile q g)).toLoadRect (fun _ => rfl)) (harg5.unread x4))
    (View.readAt (Elt F) arg7.view (Rect.unit (s := S128x8) ![0, g.val] S128x1.size (inbBias g)).toLoadRect (harg7.unread x6))
    (View.readAt (Elt F) arg4.view (Rect.unit (s := S512x1024) ![128 * q.val, 128 * g.val] S128x128.size (inbTile q g)).toLoadRect (harg4.unread x3))

/-- The store of the tile. -/
def tilePiece (q : Fin 4) (g : Fin 8) : View.Piece (Elt F) S512x1024 .bf16 :=
  ⟨Rect.unit (s := S512x1024) ![128 * q.val, 128 * g.val] S128x128.size (inbTile q g), tile arg4 harg4 arg5 harg5 arg6 harg6 arg7 harg7 x3 x4 x5 x6 q g⟩

/-- The sixteen stores of a half, the last first. -/
def halfPieces (h : Fin 2) : List (View.Piece (Elt F) S512x1024 .bf16) :=
  List.ofFn fun n : Fin 16 => tilePiece arg4 harg4 arg5 harg5 arg6 harg6 arg7 harg7 x3 x4 x5 x6 (Fin.ofNat 4 (2 * h.val + (1 - n.val / 8))) (Fin.ofNat 8 (7 - n.val % 8))

/-- A half of the gated branch, as read back from the scratch. -/
def branchHalf (h : Fin 2) : Vec F S256x1024 .bf16 :=
  arg15.view.readCov (match h with
      | 0 => kernelRun0_A.sl.HS0_16 c arg4 harg4 arg5 harg5 arg6 harg6 arg7 harg7 x3 x4 x5 x6
      | 1 => kernelRun0_A.sl.HS0_32 c arg4 harg4 arg5 harg5 arg6 harg6 arg7 harg7 x3 x4 x5 x6)
    (Rect.unit (s := S512x1024) ![256 * h.val, 0] S256x1024.size (inbBranch h)).toLoadRect

/-- A half's stores are the newest sixteen of the scratch when it is read. -/
theorem half_eq (h : Fin 2) : ∃ L, (match h with
      | 0 => kernelRun0_A.sl.HS0_16 c arg4 harg4 arg5 harg5 arg6 harg6 arg7 harg7 x3 x4 x5 x6
      | 1 => kernelRun0_A.sl.HS0_32 c arg4 harg4 arg5 harg5 arg6 harg6 arg7 harg7 x3 x4 x5 x6)
    = halfPieces arg4 harg4 arg5 harg5 arg6 harg6 arg7 harg7 x3 x4 x5 x6 h ++ L := by
  match h with
  | 0 => exact ⟨[], (List.append_nil _).symm⟩
  | 1 => exact ⟨kernelRun0_A.sl.HS0_16 c arg4 harg4 arg5 harg5 arg6 harg6 arg7 harg7 x3 x4 x5 x6, rfl⟩

/-- A half of the mixed rows, projected. -/
def projHalf (h : Fin 2) : FVec F S256x2048 .f32 :=
  k0_pay27
    (k0_pay2 (View.readAt (Elt F) arg8.view (Rect.unit (s := S1024x2048) ![0, 0] S1024x2048.size inb_S1024x2048_S1024x2048_0_0).toLoadRect (harg8.unread x7)))
    (k0_pay3 (View.readAt (Elt F) arg9.view (Rect.unit (s := S1024x2048) ![0, 0] S1024x2048.size inb_S1024x2048_S1024x2048_0_0).toLoadRect (harg9.unread x8)))
    (k0_pay4 (View.readAt (Elt F) arg10.view (Rect.unit (s := S2048x2048) ![0, 0] S2048x2048.size inb_S2048x2048_S2048x2048_0_0).toLoadRect (harg10.unread x9)))
    (View.readAt (Elt F) arg3.view (Rect.unit (s := S512x1024) ![256 * h.val, 0] S256x1024.size (inbBranch h)).toLoadRect (harg3.unread x2))
    (branchHalf c arg4 harg4 arg5 harg5 arg6 harg6 arg7 harg7 arg15 x3 x4 x5 x6 h)
    (View.readAt (Elt F) arg5.view ((Rect.unit (s := S512x5120) ![0, 0] S512x2048.size inb_S512x5120_S512x2048_0_0).withinL
      (Rect.unit (s := S512x2048) ![256 * h.val, 0] S256x2048.size (inbRows h)).toLoadRect (fun _ => rfl)) (harg5.unread x4))
    (View.readAt (Elt F) arg5.view ((Rect.unit (s := S512x5120) ![0, 2048] S512x2048.size inb_S512x5120_S512x2048_0_2048).withinL
      (Rect.unit (s := S512x2048) ![256 * h.val, 0] S256x2048.size (inbRows h)).toLoadRect (fun _ => rfl)) (harg5.unread x4))

/-- A row of the modulation's block. -/
abbrev modRow (k : Fin 6) (hk : ∀ a, (![0, k.val, 0] : Fin 3 → ℕ) a + S1x1x2048.size a ≤ S1x6x2048.size a) : Vec F S1x1x2048 .f32 :=
  View.readAt (Elt F) arg2.view (Rect.unit (s := S1x6x2048) ![0, k.val, 0] S1x1x2048.size hk).toLoadRect (harg2.unread x1)

/-- A norm's scale. -/
abbrev scale (ar : Memref sig .tc .vmem S1x2048 .f32) (har : ar.IsWhole) (x : Vec F S1x2048 .f32) : Vec F S1x2048 .f32 :=
  View.readAt (Elt F) ar.view (Rect.unit (s := S1x2048) ![0, 0] S1x2048.size inb_S1x2048_S1x2048_0_0).toLoadRect (har.unread x)

/-- A half of the input rows. -/
abbrev inputHalf (h : Fin 2) : Vec F S256x2048 .f32 :=
  View.readAt (Elt F) arg1.view (Rect.unit (s := S512x2048) ![256 * h.val, 0] S256x2048.size (inbRows h)).toLoadRect (harg1.unread x0)

/-- A half of the first output block. -/
def addedHalf (h : Fin 2) : FVec F S256x2048 .f32 :=
  k0_pay28 (projHalf c arg3 harg3 arg4 harg4 arg5 harg5 arg6 harg6 arg7 harg7 arg8 harg8 arg9 harg9 arg10 harg10 arg15 x2 x3 x4 x5 x6 x7 x8 x9 h)
    (inputHalf arg1 harg1 x0 h) (modRow arg2 harg2 x1 2 inb_S1x6x2048_S1x1x2048_0_2_0) (scale arg11 harg11 x10)

/-- A half of the second output block. -/
def hiddenHalf (h : Fin 2) : FVec F S256x2048 .bf16 :=
  k0_pay32 (k0_pay29 (projHalf c arg3 harg3 arg4 harg4 arg5 harg5 arg6 harg6 arg7 harg7 arg8 harg8 arg9 harg9 arg10 harg10 arg15 x2 x3 x4 x5 x6 x7 x8 x9 h)
      (inputHalf arg1 harg1 x0 h) (modRow arg2 harg2 x1 2 inb_S1x6x2048_S1x1x2048_0_2_0) (scale arg11 harg11 x10) (scale arg12 harg12 x11))
    (k0_pay30 (modRow arg2 harg2 x1 4 inb_S1x6x2048_S1x1x2048_0_4_0)) k0_pay31 (modRow arg2 harg2 x1 3 inb_S1x6x2048_S1x1x2048_0_3_0)

/-- The two stores of the first output block, the last first. -/
theorem added_pieces : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 x9 x10 x11).1
    = List.ofFn fun n : Fin 2 => (⟨Rect.unit (s := S512x2048) ![256 * (Fin.ofNat 2 (1 - n.val)).val, 0] S256x2048.size (inbRows (Fin.ofNat 2 (1 - n.val))),
        addedHalf c arg1 harg1 arg2 harg2 arg3 harg3 arg4 harg4 arg5 harg5 arg6 harg6 arg7 harg7 arg8 harg8 arg9 harg9 arg10 harg10 arg11 harg11 arg15
          x0 x1 x2 x3 x4 x5 x6 x7 x8 x9 x10 (Fin.ofNat 2 (1 - n.val))⟩ : View.Piece (Elt F) S512x2048 .f32) := rfl

/-- The two stores of the second output block, the last first. -/
theorem hidden_pieces : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 x9 x10 x11).2.1
    = List.ofFn fun n : Fin 2 => (⟨Rect.unit (s := S512x2048) ![256 * (Fin.ofNat 2 (1 - n.val)).val, 0] S256x2048.size (inbRows (Fin.ofNat 2 (1 - n.val))),
        hiddenHalf c arg1 harg1 arg2 harg2 arg3 harg3 arg4 harg4 arg5 harg5 arg6 harg6 arg7 harg7 arg8 harg8 arg9 harg9 arg10 harg10 arg11 harg11
          arg12 harg12 arg15 x0 x1 x2 x3 x4 x5 x6 x7 x8 x9 x10 x11 (Fin.ofNat 2 (1 - n.val))⟩ : View.Piece (Elt F) S512x2048 .bf16) := rfl

end Run

end

end Cert.MergeIdeal.Block
-- ==== Proof.MergeBlockValue.lean ====
module

public import proofs.«01_k».proof.Proof.MergeBlock
public import proofs.«01_k».proof.Proof.MergeTerm
public import proofs.«01_k».proof.Proof.BlockValue

/-!
# What one point of the merge leaves in its two output blocks, at an index, over the extended reals
-/

@[expose] public section

namespace Cert.MergeIdeal.Block

open Idealize.ShloMosaic Idealize.ShloMosaic.TcCoe Cert.MergeIdeal Cert.MergeIdeal.Gen
open Cert.Ffw (width tiny)
open Cert.QkvuValue (normRow)
open Cert.MergeValue (gated mixRow projRow addRow)
open Cert.KernelIdeal.Block (readAt_unit)

noncomputable section

set_option maxRecDepth 16384

theorem gated_apply (w : Vec Ideal S1x128x128 .bf16) (v : Vec Ideal S128x128 .bf16) (b : Vec Ideal S128x1 .f32) (u : Vec Ideal S128x128 .bf16)
    (p e : Fin 128) :
    k0_pay5 (F := Ideal) w v b u (ix2 p e) = gated (u (ix2 p e)) (fun q => w (ix3 0 p q)) (fun q => v (ix2 q e)) (b (ix2 p 0)) := by
  unfold k0_pay5 gated
  pointwise []

theorem proj_apply (wa wb : Vec Ideal S1024x2048 .bf16) (w : Vec Ideal S2048x2048 .bf16) (oa ob : Vec Ideal S256x1024 .bf16)
    (ga gb : Vec Ideal S256x2048 .bf16) (p : Fin 256) (k : Fin 2048) :
    k0_pay27 (F := Ideal) (k0_pay2 wa) (k0_pay3 wb) (k0_pay4 w) oa ob ga gb (ix2 p k)
      = projRow (mixRow (fun k => ga (ix2 p k)) (fun k => gb (ix2 p k)) (fun d => oa (ix2 p d)) (fun d => ob (ix2 p d))
          (fun d k => wa (ix2 d k)) (fun d k => wb (ix2 d k))) (fun e k => w (ix2 e k)) k := by
  unfold k0_pay27 k0_pay2 k0_pay3 k0_pay4 projRow mixRow
  pointwise []

theorem added_apply (y x : Vec Ideal S256x2048 .f32) (gate : Vec Ideal S1x1x2048 .f32) (g : Vec Ideal S1x2048 .f32) (p : Fin 256) (k : Fin 2048) :
    k0_pay28 (F := Ideal) y x gate g (ix2 p k)
      = addRow (fun k => x (ix2 p k)) (fun k => gate (ix3 0 0 k)) (fun k => y (ix2 p k)) (fun k => g (ix2 0 k)) k := by
  unfold k0_pay28 addRow width tiny
  pointwise []

theorem hidden_apply (y x : Vec Ideal S256x2048 .f32) (gate : Vec Ideal S1x1x2048 .f32) (g f : Vec Ideal S1x2048 .f32) (scale shift : Vec Ideal S1x1x2048 .f32)
    (p : Fin 256) (k : Fin 2048) :
    k0_pay32 (F := Ideal) (k0_pay29 y x gate g f) (k0_pay30 scale) k0_pay31 shift (ix2 p k)
      = normRow (fun k => k0_pay28 (F := Ideal) y x gate g (ix2 p k)) (fun k => f (ix2 0 k)) (fun k => scale (ix3 0 0 k)) (fun k => shift (ix3 0 0 k)) k := by
  unfold k0_pay32 k0_pay29 k0_pay30 k0_pay31 normRow width tiny
  generalize k0_pay28 (F := Ideal) y x gate g = z
  pointwise []

/-- A read through a slice of a whole buffer. -/
theorem readAt_within {sg : RefSig} {kd : Kind} {sp : Space} {S : Shape} {e : EltTy} {mr : Memref sg kd sp S e} (h : mr.IsWhole)
    (X : S.Idx → Elt Ideal e) (o sz : Fin S.rank → ℕ) (ino : ∀ a, o a + sz a ≤ S.size a) (off size : Fin S.rank → ℕ) (inb : ∀ a, off a + size a ≤ sz a)
    (x : (⟨S.rank, size⟩ : Shape).Idx) (y : S.Idx) (hy : ∀ a, (y a).val = o a + off a + (x a).val) :
    View.readAt (Elt Ideal) mr.view ((Rect.unit o sz ino).withinL (Rect.unit (s := ⟨S.rank, sz⟩) off size inb).toLoadRect (fun _ => rfl)) (h.unread X) x = X y := by
  refine (View.readAt_apply _ _ _).trans ?_
  rw [h.read_unread]
  refine congrArg X (funext fun a => Fin.ext ?_)
  refine Eq.trans ?_ (hy a).symm
  show (o a + off a) + 1 * (x a).val = _
  rw [one_mul]

section Run

variable (c : Dev nD) (i : grid0.Coords)
  (arg1 : Memref sig .tc .vmem S512x2048 .f32) (harg1 : arg1.IsWhole) (arg2 : Memref sig .tc .vmem S1x6x2048 .f32) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x5120 .bf16) (harg5 : arg5.IsWhole) (arg6 : Memref sig .tc .vmem S8x128x128 .bf16) (harg6 : arg6.IsWhole)
  (arg7 : Memref sig .tc .vmem S128x8 .f32) (harg7 : arg7.IsWhole) (arg8 : Memref sig .tc .vmem S1024x2048 .bf16) (harg8 : arg8.IsWhole)
  (arg9 : Memref sig .tc .vmem S1024x2048 .bf16) (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S1x2048 .f32) (harg12 : arg12.IsWhole)
  (arg13 : Memref sig .tc .vmem S512x2048 .f32) (harg13 : arg13.IsWhole) (arg14 : Memref sig .tc .vmem S512x2048 .bf16) (harg14 : arg14.IsWhole)
  (arg15 : Memref sig .tc .vmem S512x1024 .bf16) (harg15 : arg15.IsWhole)
  (x0 : Vec Ideal S512x2048 .f32) (x1 : Vec Ideal S1x6x2048 .f32) (x2 x3 : Vec Ideal S512x1024 .bf16) (x4 : Vec Ideal S512x5120 .bf16)
  (x5 : Vec Ideal S8x128x128 .bf16) (x6 : Vec Ideal S128x8 .f32) (x7 x8 : Vec Ideal S1024x2048 .bf16) (x9 : Vec Ideal S2048x2048 .bf16)
  (x10 x11 : Vec Ideal S1x2048 .f32)

/-- The gated branch at a row of the block. -/
def branchRow (a : Fin 512) (d : Fin 1024) : EReal :=
  gated (x3 (ix2 a d)) (fun q => x5 (ix3 ⟨d.val / 128, by omega⟩ ⟨a.val % 128, by omega⟩ q))
    (fun q => x4 (ix2 ⟨a.val / 128 * 128 + q.val, by omega⟩ ⟨4096 + d.val, by omega⟩)) (x6 (ix2 ⟨a.val % 128, by omega⟩ ⟨d.val / 128, by omega⟩))

theorem tile_apply (q : Fin 4) (g : Fin 8) (p e : Fin 128) (a : Fin 512) (d : Fin 1024) (ha : a.val = 128 * q.val + p.val) (hd : d.val = 128 * g.val + e.val) :
    tile arg4 harg4 arg5 harg5 arg6 harg6 arg7 harg7 x3 x4 x5 x6 q g (ix2 p e) = branchRow x3 x4 x5 x6 a d := by
  unfold tile
  refine (gated_apply _ _ _ _ p e).trans ?_
  unfold branchRow gated
  refine congrArg₂ (· * ·) (readAt_unit harg4 x3 _ _ _ _ _ (Fin.forall_fin_two.mpr ⟨ha, hd⟩))
    (congrArg₂ (· + ·) (Finset.sum_congr rfl fun r _ => congrArg₂ (· * ·) (readAt_unit harg6 x5 _ _ _ _ _ ?_)
      (readAt_within harg5 x4 _ _ _ _ _ _ _ _ (Fin.forall_fin_two.mpr ⟨?_, ?_⟩)))
      (readAt_unit harg7 x6 _ _ _ _ _ (Fin.forall_fin_two.mpr ⟨?_, ?_⟩)))
  · intro k; fin_cases k
    · show d.val / 128 = g.val + 0; omega
    · show a.val % 128 = 0 + p.val; omega
    · exact (Nat.zero_add _).symm
  · show a.val / 128 * 128 + r.val = 0 + 128 * q.val + r.val; omega
  · show 4096 + d.val = 4096 + 128 * g.val + e.val; omega
  · show a.val % 128 = 0 + p.val; omega
  · show d.val / 128 = g.val + 0; omega

theorem tilePiece_apply (q : Fin 4) (g : Fin 8) (x : (tilePiece arg4 harg4 arg5 harg5 arg6 harg6 arg7 harg7 x3 x4 x5 x6 q g).1.shape.Idx) :
    (tilePiece arg4 harg4 arg5 harg5 arg6 harg6 arg7 harg7 x3 x4 x5 x6 q g).2 x = (fun z : S512x1024.Idx => branchRow x3 x4 x5 x6 (z 0) (z 1)) ((tilePiece arg4 harg4 arg5 harg5 arg6 harg6 arg7 harg7 x3 x4 x5 x6 q g).1.emb x) := by
  have e0 : ((tilePiece arg4 harg4 arg5 harg5 arg6 harg6 arg7 harg7 x3 x4 x5 x6 q g).1.emb x 0).val = 128 * q.val + (x 0).val := by
    rw [Rect.emb_apply]; show 128 * q.val + 1 * (x 0).val = _; omega
  have e1 : ((tilePiece arg4 harg4 arg5 harg5 arg6 harg6 arg7 harg7 x3 x4 x5 x6 q g).1.emb x 1).val = 128 * g.val + (x 1).val := by
    rw [Rect.emb_apply]; show 128 * g.val + 1 * (x 1).val = _; omega
  refine Eq.trans ?_ (tile_apply arg4 harg4 arg5 harg5 arg6 harg6 arg7 harg7 x3 x4 x5 x6 q g (x 0) (x 1) _ _ e0 e1)
  exact congrArg (tile arg4 harg4 arg5 harg5 arg6 harg6 arg7 harg7 x3 x4 x5 x6 q g) (eq_ix2 x)

/-- The scratch's half read back: the gated branch. -/
theorem branchHalf_apply (h : Fin 2) (p : Fin 256) (d : Fin 1024) (a : Fin 512) (ha : a.val = 256 * h.val + p.val) :
    branchHalf c arg4 harg4 arg5 harg5 arg6 harg6 arg7 harg7 arg15 x3 x4 x5 x6 h (ix2 p d) = branchRow x3 x4 x5 x6 a d := by
  obtain ⟨L, hL⟩ := half_eq c arg4 harg4 arg5 harg5 arg6 harg6 arg7 harg7 x3 x4 x5 x6 h
  unfold branchHalf
  rw [hL, View.readCov_eq_canon']
  refine (View.canon_append_of_pieces (fun z : S512x1024.Idx => branchRow x3 x4 x5 x6 (z 0) (z 1)) L _ ?_ _ ?_).trans ?_
  · intro t ht
    obtain ⟨n, rfl⟩ := (List.mem_ofFn).mp ht
    exact tilePiece_apply arg4 harg4 arg5 harg5 arg6 harg6 arg7 harg7 x3 x4 x5 x6 _ _
  · refine ⟨_, (List.mem_ofFn).mpr ⟨(⟨8 * (1 - p.val / 128) + (7 - d.val / 128), by omega⟩ : Fin 16), rfl⟩, ?_⟩
    refine (LoadRect.mem_set _).mpr (Fin.forall_fin_two.mpr ⟨⟨p.val % 128, Nat.mod_lt _ (by decide), ?_⟩, ⟨d.val % 128, Nat.mod_lt _ (by decide), ?_⟩⟩)
    · show 256 * h.val + 1 * p.val
        = 128 * ((2 * h.val + (1 - (8 * (1 - p.val / 128) + (7 - d.val / 128)) / 8)) % 4) + 1 * (p.val % 128)
      omega
    · show 0 + 1 * d.val = 128 * ((7 - (8 * (1 - p.val / 128) + (7 - d.val / 128)) % 8) % 8) + 1 * (d.val % 128)
      omega
  · refine congrArg₂ (branchRow x3 x4 x5 x6) (Fin.ext ?_) (Fin.ext ?_)
    · show 256 * h.val + 1 * p.val = _; omega
    · show 0 + 1 * d.val = _; omega

/-- The mixed row of the block. -/
def mixedRow (a : Fin 512) : Fin 2048 → EReal :=
  mixRow (fun k => x4 (ix2 a ⟨k.val, by omega⟩)) (fun k => x4 (ix2 a ⟨2048 + k.val, by omega⟩)) (fun d => x2 (ix2 a d)) (branchRow x3 x4 x5 x6 a)
    (fun d k => x7 (ix2 d k)) (fun d k => x8 (ix2 d k))

/-- The first output's row of the block. -/
def addedRow (a : Fin 512) : Fin 2048 → EReal :=
  addRow (fun k => x0 (ix2 a k)) (fun k => x1 (ix3 0 2 k)) (projRow (mixedRow x2 x3 x4 x5 x6 x7 x8 a) (fun e k => x9 (ix2 e k))) (fun k => x10 (ix2 0 k))

/-- The second output's row of the block. -/
def hiddenRow (a : Fin 512) : Fin 2048 → EReal :=
  normRow (addedRow x0 x1 x2 x3 x4 x5 x6 x7 x8 x9 x10 a) (fun k => x11 (ix2 0 k)) (fun k => x1 (ix3 0 4 k)) (fun k => x1 (ix3 0 3 k))

theorem projHalf_apply (h : Fin 2) (p : Fin 256) (k : Fin 2048) (a : Fin 512) (ha : a.val = 256 * h.val + p.val) :
    projHalf c arg3 harg3 arg4 harg4 arg5 harg5 arg6 harg6 arg7 harg7 arg8 harg8 arg9 harg9 arg10 harg10 arg15 x2 x3 x4 x5 x6 x7 x8 x9 h (ix2 p k) = projRow (mixedRow x2 x3 x4 x5 x6 x7 x8 a) (fun e k => x9 (ix2 e k)) k := by
  unfold projHalf
  refine (proj_apply _ _ _ _ _ _ _ p k).trans ?_
  unfold mixedRow
  refine congrArg₂ (fun m w => projRow m w k) ?_ ?_
  · refine congr (congr (congr (congr (congrArg₂ mixRow ?_ ?_) ?_) ?_) ?_) ?_
    · funext k
      exact readAt_within harg5 x4 _ _ _ _ _ _ _ _ (Fin.forall_fin_two.mpr ⟨by show a.val = 0 + 256 * h.val + p.val; omega, by show k.val = 0 + 0 + k.val; omega⟩)
    · funext k
      exact readAt_within harg5 x4 _ _ _ _ _ _ _ _ (Fin.forall_fin_two.mpr ⟨by show a.val = 0 + 256 * h.val + p.val; omega, by show 2048 + k.val = 2048 + 0 + k.val; omega⟩)
    · funext d
      exact readAt_unit harg3 x2 _ _ _ _ _ (Fin.forall_fin_two.mpr ⟨ha, (Nat.zero_add _).symm⟩)
    · funext d
      exact branchHalf_apply c arg4 harg4 arg5 harg5 arg6 harg6 arg7 harg7 arg15 x3 x4 x5 x6 h p d a ha
    · funext d k
      exact readAt_unit harg8 x7 _ _ _ _ _ (Fin.forall_fin_two.mpr ⟨(Nat.zero_add _).symm, (Nat.zero_add _).symm⟩)
    · funext d k
      exact readAt_unit harg9 x8 _ _ _ _ _ (Fin.forall_fin_two.mpr ⟨(Nat.zero_add _).symm, (Nat.zero_add _).symm⟩)
  · funext e k
    exact readAt_unit harg10 x9 _ _ _ _ _ (Fin.forall_fin_two.mpr ⟨(Nat.zero_add _).symm, (Nat.zero_add _).symm⟩)

theorem modRow_apply (j : Fin 6) (hj : ∀ a, (![0, j.val, 0] : Fin 3 → ℕ) a + S1x1x2048.size a ≤ S1x6x2048.size a) (k : Fin 2048) :
    modRow arg2 harg2 x1 j hj (ix3 0 0 k) = x1 (ix3 0 j k) :=
  readAt_unit harg2 x1 _ _ _ _ _ (fun a => match a with
    | 0 => rfl
    | 1 => rfl
    | 2 => (Nat.zero_add _).symm)

theorem scale_apply (ar : Memref sig .tc .vmem S1x2048 .f32) (har : ar.IsWhole) (x : Vec Ideal S1x2048 .f32) (k : Fin 2048) :
    scale ar har x (ix2 0 k) = x (ix2 0 k) :=
  readAt_unit har x _ _ _ _ _ (Fin.forall_fin_two.mpr ⟨rfl, (Nat.zero_add _).symm⟩)

theorem addedHalf_apply (h : Fin 2) (p : Fin 256) (k : Fin 2048) (a : Fin 512) (ha : a.val = 256 * h.val + p.val) :
    addedHalf c arg1 harg1 arg2 harg2 arg3 harg3 arg4 harg4 arg5 harg5 arg6 harg6 arg7 harg7 arg8 harg8 arg9 harg9 arg10 harg10 arg11 harg11 arg15 x0 x1 x2 x3 x4 x5 x6 x7 x8 x9 x10 h (ix2 p k) = addedRow x0 x1 x2 x3 x4 x5 x6 x7 x8 x9 x10 a k := by
  unfold addedHalf
  refine (added_apply _ _ _ _ p k).trans ?_
  unfold addedRow
  refine congrFun (congr (congr (congrArg₂ addRow ?_ ?_) ?_) ?_) k
  · funext k
    exact readAt_unit harg1 x0 _ _ _ _ _ (Fin.forall_fin_two.mpr ⟨ha, (Nat.zero_add _).symm⟩)
  · funext k
    exact modRow_apply arg2 harg2 x1 2 _ k
  · funext k
    exact projHalf_apply c arg3 harg3 arg4 harg4 arg5 harg5 arg6 harg6 arg7 harg7 arg8 harg8 arg9 harg9 arg10 harg10 arg15 x2 x3 x4 x5 x6 x7 x8 x9 h p k a ha
  · funext k
    exact scale_apply arg11 harg11 x10 k

theorem hiddenHalf_apply (h : Fin 2) (p : Fin 256) (k : Fin 2048) (a : Fin 512) (ha : a.val = 256 * h.val + p.val) :
    hiddenHalf c arg1 harg1 arg2 harg2 arg3 harg3 arg4 harg4 arg5 harg5 arg6 harg6 arg7 harg7 arg8 harg8 arg9 harg9 arg10 harg10 arg11 harg11 arg12 harg12 arg15 x0 x1 x2 x3 x4 x5 x6 x7 x8 x9 x10 x11 h (ix2 p k) = hiddenRow x0 x1 x2 x3 x4 x5 x6 x7 x8 x9 x10 x11 a k := by
  unfold hiddenHalf
  refine (hidden_apply _ _ _ _ _ _ _ p k).trans ?_
  unfold hiddenRow
  refine congrFun (congr (congr (congrArg₂ normRow ?_ ?_) ?_) ?_) k
  · funext k
    exact addedHalf_apply c arg1 harg1 arg2 harg2 arg3 harg3 arg4 harg4 arg5 harg5 arg6 harg6 arg7 harg7 arg8 harg8 arg9 harg9 arg10 harg10 arg11 harg11 arg15 x0 x1 x2 x3 x4 x5 x6 x7 x8 x9 x10 h p k a ha
  · funext k
    exact scale_apply arg12 harg12 x11 k
  · funext k
    exact modRow_apply arg2 harg2 x1 4 _ k
  · funext k
    exact modRow_apply arg2 harg2 x1 3 _ k

/-- The first output block at an index. -/
theorem rows_apply (a : Fin 512) (k : Fin 2048) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 a k) = addedRow x0 x1 x2 x3 x4 x5 x6 x7 x8 x9 x10 a k := by
  unfold out0_A_12
  rw [added_pieces, View.read_writes_junk_eq_canon]
  refine View.canon_ofFn_unit_eq_of_forall _ _ _ _ _ _ ?_ ?_
  · refine ⟨⟨1 - a.val / 256, by omega⟩, Fin.forall_fin_two.mpr ⟨?_, ?_⟩⟩
    · show 256 * ((1 - (1 - a.val / 256)) % 2) ≤ a.val ∧ a.val < 256 * ((1 - (1 - a.val / 256)) % 2) + 256
      omega
    · show 0 ≤ k.val ∧ k.val < 0 + 2048
      omega
  · intro n x hx
    have h0 : a.val = 256 * (Fin.ofNat 2 (1 - n.val)).val + (x 0).val := hx 0
    have h1 : k.val = 0 + (x 1).val := hx 1
    have hk : k = x 1 := Fin.ext (h1.trans (Nat.zero_add _))
    rw [hk]
    exact (congrArg _ (eq_ix2 x)).trans (addedHalf_apply c arg1 harg1 arg2 harg2 arg3 harg3 arg4 harg4 arg5 harg5 arg6 harg6 arg7 harg7 arg8 harg8 arg9 harg9 arg10 harg10 arg11 harg11 arg15 x0 x1 x2 x3 x4 x5 x6 x7 x8 x9 x10 _ (x 0) (x 1) a h0)

/-- The second output block at an index. -/
theorem block_apply (a : Fin 512) (k : Fin 2048) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 a k) = hiddenRow x0 x1 x2 x3 x4 x5 x6 x7 x8 x9 x10 x11 a k := by
  unfold out0_A_13
  rw [hidden_pieces, View.read_writes_junk_eq_canon]
  refine View.canon_ofFn_unit_eq_of_forall _ _ _ _ _ _ ?_ ?_
  · refine ⟨⟨1 - a.val / 256, by omega⟩, Fin.forall_fin_two.mpr ⟨?_, ?_⟩⟩
    · show 256 * ((1 - (1 - a.val / 256)) % 2) ≤ a.val ∧ a.val < 256 * ((1 - (1 - a.val / 256)) % 2) + 256
      omega
    · show 0 ≤ k.val ∧ k.val < 0 + 2048
      omega
  · intro n x hx
    have h0 : a.val = 256 * (Fin.ofNat 2 (1 - n.val)).val + (x 0).val := hx 0
    have h1 : k.val = 0 + (x 1).val := hx 1
    have hk : k = x 1 := Fin.ext (h1.trans (Nat.zero_add _))
    rw [hk]
    exact (congrArg _ (eq_ix2 x)).trans (hiddenHalf_apply c arg1 harg1 arg2 harg2 arg3 harg3 arg4 harg4 arg5 harg5 arg6 harg6 arg7 harg7 arg8 harg8 arg9 harg9 arg10 harg10 arg11 harg11 arg12 harg12 arg15 x0 x1 x2 x3 x4 x5 x6 x7 x8 x9 x10 x11 _ (x 0) (x 1) a h0)

end Run

end

end Cert.MergeIdeal.Block
-- ==== Proof.MergeValue.lean ====
module

public import proofs.«01_k».proof.Proof.MergeReference
public import proofs.«01_k».proof.Proof.MergeBlockValue
public import proofs.«01_k».proof.Proof.QkvuValue
public import Idealize.ShloMosaic.Lib.Pipeline.ArrRel

/-!
# The two final arrays of the merge, and that they are the reference's
-/

@[expose] public section

namespace Cert.MergeValue

open Idealize.ShloMosaic Idealize.ShloMosaic.TcCoe Cert.MergeIdeal Cert.MergeIdeal.Gen Cert.MergeIdeal.Block Idealize.SL.Sem
open Cert.QkvuValue (normRow inputRows modRows scaleRow)

noncomputable section

set_option maxRecDepth 16384

section Rows

variable (x : Vec Ideal S4096x2048 .f32) (e : Vec Ideal S4x6x2048 .f32) (o : Vec Ideal S4096x1024 .bf16) (u : Vec Ideal S4096x4096 .bf16)
  (v : Vec Ideal S8192x5120 .bf16) (s : Vec Ideal S8x128x128 .bf16) (b : Vec Ideal S128x8 .f32) (wa wb : Vec Ideal S1024x2048 .bf16)
  (w : Vec Ideal S2048x2048 .bf16) (g f : Vec Ideal S1x2048 .f32)

/-- The gated branch of the staged arrays at a row. -/
def branchAt (r : Fin 4096) (d : Fin 1024) : EReal :=
  gated (u (ix2 r ⟨3072 + d.val, by omega⟩)) (fun q => s (ix3 ⟨d.val / 128, by omega⟩ ⟨r.val % 128, by omega⟩ q))
    (fun q => v (ix2 ⟨4096 + (r.val / 128 * 128 + q.val), by omega⟩ ⟨4096 + d.val, by omega⟩)) (b (ix2 ⟨r.val % 128, by omega⟩ ⟨d.val / 128, by omega⟩))

/-- The mixed row. -/
def mixedAt (r : Fin 4096) : Fin 2048 → EReal :=
  mixRow (fun k => v (ix2 ⟨4096 + r.val, by omega⟩ ⟨k.val, by omega⟩)) (fun k => v (ix2 ⟨4096 + r.val, by omega⟩ ⟨2048 + k.val, by omega⟩))
    (fun d => o (ix2 r d)) (branchAt u v s b r) (fun d k => wa (ix2 d k)) (fun d k => wb (ix2 d k))

/-- The first output's row. -/
def addedAt (r : Fin 4096) : Fin 2048 → EReal :=
  addRow (fun k => x (ix2 r k)) (fun k => e (ix3 ⟨r.val / 1024, by omega⟩ 2 k)) (projRow (mixedAt o u v s b wa wb r) (fun i k => w (ix2 i k)))
    (fun k => g (ix2 0 k))

/-- The second output's row. -/
def hiddenAt (r : Fin 4096) : Fin 2048 → EReal :=
  normRow (addedAt x e o u v s b wa wb w g r) (fun k => f (ix2 0 k)) (fun k => e (ix3 ⟨r.val / 1024, by omega⟩ 4 k))
    (fun k => e (ix3 ⟨r.val / 1024, by omega⟩ 3 k))

/-- The first output array as one function of the staged arrays. -/
def rows : Vec Ideal S4096x2048 .f32 := fun z => addedAt x e o u v s b wa wb w g (z 0) (z 1)

/-- The second. -/
def result : Vec Ideal S4096x2048 .bf16 := fun z => hiddenAt x e o u v s b wa wb w g f (z 0) (z 1)

end Rows

variable (m : (ℓ : Loc nD τ sig) → Buf (Elt Ideal) ℓ) (ρ : Dev nD → PrngReg) (c : Dev nD)

theorem idx_0 : ∀ t : Fin grid0.N, win0_0.index t = ![t.val, 0] := by decide +kernel
theorem idx_1 : ∀ t : Fin grid0.N, win0_1.index t = ![t.val / 2, 0, 0] := by decide +kernel
theorem idx_2 : ∀ t : Fin grid0.N, win0_2.index t = ![t.val, 0] := by decide +kernel
theorem idx_3 : ∀ t : Fin grid0.N, win0_3.index t = ![t.val, 3] := by decide +kernel
theorem idx_4 : ∀ t : Fin grid0.N, win0_4.index t = ![8 + t.val, 0] := by decide +kernel
theorem idx_5 : ∀ t : Fin grid0.N, win0_5.index t = ![0, 0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![0, 0] := by decide +kernel
theorem idx_9 : ∀ t : Fin grid0.N, win0_9.index t = ![0, 0] := by decide +kernel
theorem idx_10 : ∀ t : Fin grid0.N, win0_10.index t = ![0, 0] := by decide +kernel
theorem idx_11 : ∀ t : Fin grid0.N, win0_11.index t = ![0, 0] := by decide +kernel
theorem idx_12 : ∀ t : Fin grid0.N, win0_12.index t = ![t.val, 0] := by decide +kernel
theorem idx_13 : ∀ t : Fin grid0.N, win0_13.index t = ![t.val, 0] := by decide +kernel

theorem input_eq (t : Fin cfg0.N) (p : Fin 512) (r : Fin 4096) (hr : r.val = 512 * t.val + p.val) (k : Fin 2048) :
    (iblk m c 0 t : Vec Ideal S512x2048 .f32) (ix2 p k) = (V m c main_v0 : Vec Ideal S4096x2048 .f32) (ix2 r k) := by
  blk_simp [iblk]
  refine congrArg (V m c main_v0) (funext (Fin.forall_fin_two.mpr ⟨Fin.ext ?_, Fin.ext ?_⟩))
  · blk_simp [idx_0 t]; omega
  · blk_simp [idx_0 t]

theorem mods_eq (t : Fin cfg0.N) (b : Fin 4) (hb : b.val = t.val / 2) (i : Fin 6) (k : Fin 2048) :
    (iblk m c 1 t : Vec Ideal S1x6x2048 .f32) (ix3 0 i k) = (V m c main_v1 : Vec Ideal S4x6x2048 .f32) (ix3 b i k) := by
  blk_simp [iblk]
  refine congrArg (V m c main_v1) (funext fun a => ?_)
  match a with
  | 0 => apply Fin.ext; blk_simp [idx_1 t]; omega
  | 1 => apply Fin.ext; blk_simp [idx_1 t]
  | 2 => apply Fin.ext; blk_simp [idx_1 t]

theorem attended_eq (t : Fin cfg0.N) (p : Fin 512) (r : Fin 4096) (hr : r.val = 512 * t.val + p.val) (d : Fin 1024) :
    (iblk m c 2 t : Vec Ideal S512x1024 .bf16) (ix2 p d) = (V m c main_arg2 : Vec Ideal S4096x1024 .bf16) (ix2 r d) := by
  blk_simp [iblk]
  refine congrArg (V m c main_arg2) (funext (Fin.forall_fin_two.mpr ⟨Fin.ext ?_, Fin.ext ?_⟩))
  · blk_simp [idx_2 t]; omega
  · blk_simp [idx_2 t]

theorem unit_eq (t : Fin cfg0.N) (p : Fin 512) (r : Fin 4096) (hr : r.val = 512 * t.val + p.val) (d : Fin 1024) :
    (iblk m c 3 t : Vec Ideal S512x1024 .bf16) (ix2 p d) = (V m c main_arg3 : Vec Ideal S4096x4096 .bf16) (ix2 r ⟨3072 + d.val, by omega⟩) := by
  blk_simp [iblk]
  refine congrArg (V m c main_arg3) (funext (Fin.forall_fin_two.mpr ⟨Fin.ext ?_, Fin.ext ?_⟩))
  · blk_simp [idx_3 t]; omega
  · blk_simp [idx_3 t]

theorem gates_eq (t : Fin cfg0.N) (p : Fin 512) (r : Fin 8192) (hr : r.val = 4096 + (512 * t.val + p.val)) (k : Fin 5120) :
    (iblk m c 4 t : Vec Ideal S512x5120 .bf16) (ix2 p k) = (V m c main_arg4 : Vec Ideal S8192x5120 .bf16) (ix2 r k) := by
  blk_simp [iblk]
  refine congrArg (V m c main_arg4) (funext (Fin.forall_fin_two.mpr ⟨Fin.ext ?_, Fin.ext ?_⟩))
  · blk_simp [idx_4 t]; omega
  · blk_simp [idx_4 t]

theorem mix_eq (t : Fin cfg0.N) (i : Fin 8) (p q : Fin 128) :
    (iblk m c 5 t : Vec Ideal S8x128x128 .bf16) (ix3 i p q) = (V m c main_v3 : Vec Ideal S8x128x128 .bf16) (ix3 i p q) := by
  blk_simp [iblk]
  refine congrArg (V m c main_v3) (funext fun a => ?_)
  match a with
  | 0 => apply Fin.ext; blk_simp [idx_5 t]
  | 1 => apply Fin.ext; blk_simp [idx_5 t]
  | 2 => apply Fin.ext; blk_simp [idx_5 t]

theorem bias_eq (t : Fin cfg0.N) (p : Fin 128) (i : Fin 8) :
    (iblk m c 6 t : Vec Ideal S128x8 .f32) (ix2 p i) = (V m c main_v5 : Vec Ideal S128x8 .f32) (ix2 p i) := by
  blk_simp [iblk]
  refine congrArg (V m c main_v5) (funext (Fin.forall_fin_two.mpr ⟨Fin.ext ?_, Fin.ext ?_⟩))
  · blk_simp [idx_6 t]
  · blk_simp [idx_6 t]

theorem first_eq (t : Fin cfg0.N) (d : Fin 1024) (k : Fin 2048) :
    (iblk m c 7 t : Vec Ideal S1024x2048 .bf16) (ix2 d k) = (V m c main_v7 : Vec Ideal S1024x2048 .bf16) (ix2 d k) := by
  blk_simp [iblk]
  refine congrArg (V m c main_v7) (funext (Fin.forall_fin_two.mpr ⟨Fin.ext ?_, Fin.ext ?_⟩))
  · blk_simp [idx_7 t]
  · blk_simp [idx_7 t]

theorem second_eq (t : Fin cfg0.N) (d : Fin 1024) (k : Fin 2048) :
    (iblk m c 8 t : Vec Ideal S1024x2048 .bf16) (ix2 d k) = (V m c main_v9 : Vec Ideal S1024x2048 .bf16) (ix2 d k) := by
  blk_simp [iblk]
  refine congrArg (V m c main_v9) (funext (Fin.forall_fin_two.mpr ⟨Fin.ext ?_, Fin.ext ?_⟩))
  · blk_simp [idx_8 t]
  · blk_simp [idx_8 t]

theorem third_eq (t : Fin cfg0.N) (i k : Fin 2048) :
    (iblk m c 9 t : Vec Ideal S2048x2048 .bf16) (ix2 i k) = (V m c main_v11 : Vec Ideal S2048x2048 .bf16) (ix2 i k) := by
  blk_simp [iblk]
  refine congrArg (V m c main_v11) (funext (Fin.forall_fin_two.mpr ⟨Fin.ext ?_, Fin.ext ?_⟩))
  · blk_simp [idx_9 t]
  · blk_simp [idx_9 t]

theorem scale_eq (t : Fin cfg0.N) (k : Fin 2048) : (iblk m c 10 t : Vec Ideal S1x2048 .f32) (ix2 0 k) = (V m c main_v13 : Vec Ideal S1x2048 .f32) (ix2 0 k) := by
  blk_simp [iblk]
  refine congrArg (V m c main_v13) (funext (Fin.forall_fin_two.mpr ⟨Fin.ext ?_, Fin.ext ?_⟩))
  · blk_simp [idx_10 t]
  · blk_simp [idx_10 t]

theorem next_eq (t : Fin cfg0.N) (k : Fin 2048) : (iblk m c 11 t : Vec Ideal S1x2048 .f32) (ix2 0 k) = (V m c main_v15 : Vec Ideal S1x2048 .f32) (ix2 0 k) := by
  blk_simp [iblk]
  refine congrArg (V m c main_v15) (funext (Fin.forall_fin_two.mpr ⟨Fin.ext ?_, Fin.ext ?_⟩))
  · blk_simp [idx_11 t]
  · blk_simp [idx_11 t]

theorem branch_eq (t : Fin cfg0.N) (p : Fin 512) (r : Fin 4096) (hr : r.val = 512 * t.val + p.val) :
    branchRow (iblk m c 3 t) (iblk m c 4 t) (iblk m c 5 t) (iblk m c 6 t) p = branchAt (V m c main_arg3) (V m c main_arg4) (V m c main_v3) (V m c main_v5) r := by
  have hN : t.val < 8 := Nat.lt_of_lt_of_eq t.isLt N_0
  have hm : (⟨p.val % 128, by omega⟩ : Fin 128) = ⟨r.val % 128, by omega⟩ := Fin.ext (by show p.val % 128 = r.val % 128; omega)
  funext d
  unfold branchRow branchAt
  rw [hm, unit_eq m c t p r hr d, bias_eq]
  refine congrArg₂ (fun a b => gated _ a b _) (funext fun q => mix_eq m c t _ _ q) (funext fun q => gates_eq m c t _ _ ?_ _)
  show 4096 + (r.val / 128 * 128 + q.val) = 4096 + (512 * t.val + (p.val / 128 * 128 + q.val))
  omega

theorem mixed_eq (t : Fin cfg0.N) (p : Fin 512) (r : Fin 4096) (hr : r.val = 512 * t.val + p.val) :
    mixedRow (iblk m c 2 t) (iblk m c 3 t) (iblk m c 4 t) (iblk m c 5 t) (iblk m c 6 t) (iblk m c 7 t) (iblk m c 8 t) p = mixedAt (V m c main_arg2) (V m c main_arg3) (V m c main_arg4) (V m c main_v3) (V m c main_v5) (V m c main_v7) (V m c main_v9) r := by
  have hN : t.val < 8 := Nat.lt_of_lt_of_eq t.isLt N_0
  unfold mixedRow mixedAt
  rw [branch_eq m c t p r hr]
  simp only [attended_eq m c t p r hr, first_eq, second_eq, gates_eq m c t p ⟨4096 + r.val, by omega⟩ (congrArg (4096 + ·) hr)]

theorem added_eq (t : Fin cfg0.N) (p : Fin 512) (r : Fin 4096) (hr : r.val = 512 * t.val + p.val) :
    addedRow (iblk m c 0 t) (iblk m c 1 t) (iblk m c 2 t) (iblk m c 3 t) (iblk m c 4 t) (iblk m c 5 t) (iblk m c 6 t) (iblk m c 7 t) (iblk m c 8 t) (iblk m c 9 t) (iblk m c 10 t) p = addedAt (V m c main_v0) (V m c main_v1) (V m c main_arg2) (V m c main_arg3) (V m c main_arg4) (V m c main_v3) (V m c main_v5) (V m c main_v7) (V m c main_v9) (V m c main_v11) (V m c main_v13) r := by
  have hN : t.val < 8 := Nat.lt_of_lt_of_eq t.isLt N_0
  have hb : r.val / 1024 = t.val / 2 := by omega
  unfold addedRow addedAt
  rw [mixed_eq m c t p r hr]
  simp only [input_eq m c t p r hr, mods_eq m c t ⟨r.val / 1024, by omega⟩ hb, third_eq, scale_eq]

theorem hidden_eq (t : Fin cfg0.N) (p : Fin 512) (r : Fin 4096) (hr : r.val = 512 * t.val + p.val) :
    hiddenRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p = hiddenAt (V m c main_v0) (V m c main_v1) (V m c main_arg2) (V m c main_arg3) (V m c main_arg4) (V m c main_v3) (V m c main_v5) (V m c main_v7) (V m c main_v9) (V m c main_v11) (V m c main_v13) (V m c main_v15) r := by
  have hN : t.val < 8 := Nat.lt_of_lt_of_eq t.isLt N_0
  have hb : r.val / 1024 = t.val / 2 := by omega
  unfold hiddenRow hiddenAt
  rw [added_eq m c t p r hr]
  simp only [mods_eq m c t ⟨r.val / 1024, by omega⟩ hb, next_eq]

theorem outs_rows (t : Fin cfg0.N) (p : Fin 512) (k : Fin 2048) : (outsAt0 m c t).1 (ix2 p k) = addedRow (iblk m c 0 t) (iblk m c 1 t) (iblk m c 2 t) (iblk m c 3 t) (iblk m c 4 t) (iblk m c 5 t) (iblk m c 6 t) (iblk m c 7 t) (iblk m c 8 t) (iblk m c 9 t) (iblk m c 10 t) p k := by
  unfold outsAt0
  dsimp only
  exact rows_apply c (grid0.coords t) _ _ _ _ _ _ _ _ _ _ _ _ _ _ _ _ _ _ _ _ _ _ _ _ _ _ _ _ _ _ _ _ _ _ _ _ _ _ _ _ _ _ p k

theorem outs_hidden (t : Fin cfg0.N) (p : Fin 512) (k : Fin 2048) : (outsAt0 m c t).2 (ix2 p k) = hiddenRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k := by
  unfold outsAt0
  dsimp only
  exact block_apply c (grid0.coords t) _ _ _ _ _ _ _ _ _ _ _ _ _ _ _ _ _ _ _ _ _ _ _ _ _ _ _ _ _ _ _ _ _ _ _ _ _ _ _ _ _ _ p k

/-- What the run leaves in the first output array. -/
theorem final_rows : (dats m 0 c).arrAt 12 cfg0.N = rows (V m c main_v0) (V m c main_v1) (V m c main_arg2) (V m c main_arg3) (V m c main_arg4) (V m c main_v3) (V m c main_v5) (V m c main_v7) (V m c main_v9) (V m c main_v11) (V m c main_v13) := by
  refine (dats m 0 c).arrAt_eq_of_covers 12 _ (by decide +kernel) fun t hf y => ?_
  have hN : t.val < 8 := Nat.lt_of_lt_of_eq t.isLt N_0
  blk_simp
  rw [after0_12]
  obtain ⟨p, k, rfl⟩ : ∃ (a : Fin 512) (b : Fin 2048), y = ix2 a b := ⟨y 0, y 1, eq_ix2 y⟩
  refine (outs_rows m c t p k).trans ?_
  rw [added_eq m c t p ⟨512 * t.val + p.val, by omega⟩ rfl]
  unfold rows
  refine congrArg₂ (addedAt (V m c main_v0) (V m c main_v1) (V m c main_arg2) (V m c main_arg3) (V m c main_arg4) (V m c main_v3) (V m c main_v5) (V m c main_v7) (V m c main_v9) (V m c main_v11) (V m c main_v13)) (Fin.ext ?_) (Fin.ext ?_)
  · blk_simp [idx_12 t]
    show 512 * t.val + p.val = _
    omega
  · blk_simp [idx_12 t]

/-- What the run leaves in the second output array. -/
theorem final : (dats m 0 c).arrAt 13 cfg0.N = result (V m c main_v0) (V m c main_v1) (V m c main_arg2) (V m c main_arg3) (V m c main_arg4) (V m c main_v3) (V m c main_v5) (V m c main_v7) (V m c main_v9) (V m c main_v11) (V m c main_v13) (V m c main_v15) := by
  refine (dats m 0 c).arrAt_eq_of_covers 13 _ (by decide +kernel) fun t hf y => ?_
  have hN : t.val < 8 := Nat.lt_of_lt_of_eq t.isLt N_0
  blk_simp
  rw [after0_13]
  obtain ⟨p, k, rfl⟩ : ∃ (a : Fin 512) (b : Fin 2048), y = ix2 a b := ⟨y 0, y 1, eq_ix2 y⟩
  refine (outs_hidden m c t p k).trans ?_
  rw [hidden_eq m c t p ⟨512 * t.val + p.val, by omega⟩ rfl]
  unfold result
  refine congrArg₂ (hiddenAt (V m c main_v0) (V m c main_v1) (V m c main_arg2) (V m c main_arg3) (V m c main_arg4) (V m c main_v3) (V m c main_v5) (V m c main_v7) (V m c main_v9) (V m c main_v11) (V m c main_v13) (V m c main_v15)) (Fin.ext ?_) (Fin.ext ?_)
  · blk_simp [idx_13 t]
    show 512 * t.val + p.val = _
    omega
  · blk_simp [idx_13 t]

/-- The mixing matrices as they are staged. -/
def mixers (x : Vec Ideal S1x8x128x128 .f32) : Vec Ideal S8x128x128 .bf16 :=
  truncf (F := Ideal) (φ := .f32) .bf16 (shapeCast S8x128x128 x shapeCasts_S1x8x128x128_S8x128x128) bitsLt_bf16_f32

/-- Their biases. -/
def biases (x : Vec Ideal S1x8x128 .f32) : Vec Ideal S128x8 .f32 :=
  transpose S128x8 [1, 0] (shapeCast S8x128 x shapeCasts_S1x8x128_S8x128) transposes_S8x128_S128x8_1_0

/-- A branch's projection as it is staged. -/
def branchWeight (x : Vec Ideal S1x1024x2048 .f32) : Vec Ideal S1024x2048 .bf16 :=
  truncf (F := Ideal) (φ := .f32) .bf16 (shapeCast S1024x2048 x shapeCasts_S1x1024x2048_S1024x2048) bitsLt_bf16_f32

/-- The output projection as it is staged. -/
def outWeight (x : Vec Ideal S1x2048x2048 .f32) : Vec Ideal S2048x2048 .bf16 :=
  truncf (F := Ideal) (φ := .f32) .bf16 (shapeCast S2048x2048 x shapeCasts_S1x2048x2048_S2048x2048) bitsLt_bf16_f32

section Reference

variable (x0 : Vec Ideal S4x1024x2048 .f32) (x1 : Vec Ideal S4x12288 .f32) (x2 : Vec Ideal S4096x1024 .bf16) (x3 : Vec Ideal S4096x4096 .bf16)
  (x4 : Vec Ideal S8192x5120 .bf16) (x5 : Vec Ideal S1x8x128x128 .f32) (x6 : Vec Ideal S1x8x128 .f32) (x7 x8 : Vec Ideal S1x1024x2048 .f32)
  (x9 : Vec Ideal S1x2048x2048 .f32) (x10 x11 : Vec Ideal S1x2048 .f32) (r : Fin 4096)

theorem branchAt_eq : branchAt x3 x4 (mixers x5) (biases x6) r
    = Cert.MergeReferenceIdeal.Block.branch x3 x4 x5 x6 ⟨r.val / 1024, by omega⟩ ⟨r.val % 1024, by omega⟩ := by
  have e5 : ∀ (i : Fin 8) (p q : Fin 128), mixers x5 (ix3 i p q) = x5 (ix4 0 i p q) := fun i p q => by
    unfold mixers
    pointwise []
  have e6 : ∀ (p : Fin 128) (i : Fin 8), biases x6 (ix2 p i) = x6 (ix3 0 i p) := fun p i => by
    unfold biases
    pointwise []
  have h0 : r.val / 1024 * 1024 + r.val % 1024 = r.val := by omega
  have h1 : r.val % 1024 % 128 = r.val % 128 := by omega
  have h2 : ∀ q : Fin 128, r.val / 1024 * 1024 + (r.val % 1024 / 128 * 128 + q.val) = r.val / 128 * 128 + q.val := fun q => by omega
  funext d
  unfold branchAt Cert.MergeReferenceIdeal.Block.branch
  simp only [e5, e6, h0, h1, h2]

theorem mixedAt_eq : mixedAt x2 x3 x4 (mixers x5) (biases x6) (branchWeight x7) (branchWeight x8) r
    = Cert.MergeReferenceIdeal.Block.mixed x2 x3 x4 x5 x6 x7 x8 ⟨r.val / 1024, by omega⟩ ⟨r.val % 1024, by omega⟩ := by
  have e : ∀ (x : Vec Ideal S1x1024x2048 .f32) (d : Fin 1024) (k : Fin 2048), branchWeight x (ix2 d k) = x (ix3 0 d k) := fun x d k => by
    unfold branchWeight
    pointwise []
  have h0 : r.val / 1024 * 1024 + r.val % 1024 = r.val := by omega
  unfold mixedAt Cert.MergeReferenceIdeal.Block.mixed
  simp only [e, h0, branchAt_eq]

theorem mod_eq (i : Fin 6) (b : Fin 4) (k : Fin 2048) : modRows x1 (ix3 b i k) = x1 (ix2 b ⟨i.val * 2048 + k.val, by omega⟩) := by
  unfold modRows
  pointwise []

theorem addedAt_eq : addedAt (inputRows x0) (modRows x1) x2 x3 x4 (mixers x5) (biases x6) (branchWeight x7) (branchWeight x8) (outWeight x9) (scaleRow x10) r
    = Cert.MergeReferenceIdeal.Block.added x0 x1 x2 x3 x4 x5 x6 x7 x8 x9 x10 ⟨r.val / 1024, by omega⟩ ⟨r.val % 1024, by omega⟩ := by
  have e0 : ∀ k : Fin 2048, inputRows x0 (ix2 r k) = x0 (ix3 ⟨r.val / 1024, by omega⟩ ⟨r.val % 1024, by omega⟩ k) := fun k => by
    unfold inputRows
    pointwise []
  have e1 : ∀ k : Fin 2048, modRows x1 (ix3 ⟨r.val / 1024, by omega⟩ 2 k) = x1 (ix2 ⟨r.val / 1024, by omega⟩ ⟨4096 + k.val, by omega⟩) :=
    fun k => mod_eq x1 2 _ k
  have e9 : ∀ i k : Fin 2048, outWeight x9 (ix2 i k) = x9 (ix3 0 i k) := fun i k => by
    unfold outWeight
    pointwise []
  have e10 : ∀ k : Fin 2048, scaleRow x10 (ix2 0 k) = x10 (ix2 0 k) := fun k => by
    unfold scaleRow
    pointwise []
  unfold addedAt Cert.MergeReferenceIdeal.Block.added
  simp only [e0, e1, e9, e10, mixedAt_eq]

theorem hiddenAt_eq : hiddenAt (inputRows x0) (modRows x1) x2 x3 x4 (mixers x5) (biases x6) (branchWeight x7) (branchWeight x8) (outWeight x9) (scaleRow x10)
      (scaleRow x11) r
    = Cert.MergeReferenceIdeal.Block.hidden x0 x1 x2 x3 x4 x5 x6 x7 x8 x9 x10 x11 ⟨r.val / 1024, by omega⟩ ⟨r.val % 1024, by omega⟩ := by
  have e3 : ∀ k : Fin 2048, modRows x1 (ix3 ⟨r.val / 1024, by omega⟩ 3 k) = x1 (ix2 ⟨r.val / 1024, by omega⟩ ⟨6144 + k.val, by omega⟩) :=
    fun k => mod_eq x1 3 _ k
  have e4 : ∀ k : Fin 2048, modRows x1 (ix3 ⟨r.val / 1024, by omega⟩ 4 k) = x1 (ix2 ⟨r.val / 1024, by omega⟩ ⟨8192 + k.val, by omega⟩) :=
    fun k => mod_eq x1 4 _ k
  have e11 : ∀ k : Fin 2048, scaleRow x11 (ix2 0 k) = x11 (ix2 0 k) := fun k => by
    unfold scaleRow
    pointwise []
  unfold hiddenAt Cert.MergeReferenceIdeal.Block.hidden
  simp only [e3, e4, e11, addedAt_eq]

/-- The first output from the arguments is the reference's first result. -/
theorem rows_eq : rows (inputRows x0) (modRows x1) x2 x3 x4 (mixers x5) (biases x6) (branchWeight x7) (branchWeight x8) (outWeight x9) (scaleRow x10)
    = Cert.MergeReferenceIdeal.Read.val_main_v75 (F := Ideal) x0 x1 x2 x3 x4 x5 x6 x7 x8 x9 x10 := by
  refine funext fun (z : S4096x2048.Idx) => ?_
  obtain ⟨r, k, rfl⟩ : ∃ (a : Fin 4096) (b : Fin 2048), z = ix2 a b := ⟨z 0, z 1, eq_ix2 z⟩
  exact (congrFun (addedAt_eq x0 x1 x2 x3 x4 x5 x6 x7 x8 x9 x10 r) k).trans
    (Cert.MergeReferenceIdeal.Block.rows_apply x0 x1 x2 x3 x4 x5 x6 x7 x8 x9 x10 r k).symm

/-- The second output from the arguments is the reference's second result. -/
theorem result_eq : result (inputRows x0) (modRows x1) x2 x3 x4 (mixers x5) (biases x6) (branchWeight x7) (branchWeight x8) (outWeight x9) (scaleRow x10)
      (scaleRow x11)
    = Cert.MergeReferenceIdeal.Read.val_main_v77 (F := Ideal) x0 x1 x2 x3 x4 x5 x6 x7 x8 x9 x10 x11 := by
  refine funext fun (z : S4096x2048.Idx) => ?_
  obtain ⟨r, k, rfl⟩ : ∃ (a : Fin 4096) (b : Fin 2048), z = ix2 a b := ⟨z 0, z 1, eq_ix2 z⟩
  exact (congrFun (hiddenAt_eq x0 x1 x2 x3 x4 x5 x6 x7 x8 x9 x10 x11 r) k).trans
    (Cert.MergeReferenceIdeal.Block.out_apply x0 x1 x2 x3 x4 x5 x6 x7 x8 x9 x10 x11 r k).symm

end Reference

theorem staged0 : V m c main_v0 = inputRows (m ((c.tc : Thread nD τ).loc main_arg0)) := by unfold_abbrev_sides; after_results; rfl
theorem staged1 : V m c main_v1 = modRows (m ((c.tc : Thread nD τ).loc main_arg1)) := by unfold_abbrev_sides; after_results; rfl
theorem staged2 : V m c main_arg2 = m ((c.tc : Thread nD τ).loc main_arg2) := by unfold_abbrev_sides; after_results
theorem staged3 : V m c main_arg3 = m ((c.tc : Thread nD τ).loc main_arg3) := by unfold_abbrev_sides; after_results
theorem staged4 : V m c main_arg4 = m ((c.tc : Thread nD τ).loc main_arg4) := by unfold_abbrev_sides; after_results
theorem staged5 : V m c main_v3 = mixers (m ((c.tc : Thread nD τ).loc main_arg5)) := by unfold_abbrev_sides; after_results; rfl
theorem staged6 : V m c main_v5 = biases (m ((c.tc : Thread nD τ).loc main_arg6)) := by unfold_abbrev_sides; after_results; rfl
theorem staged7 : V m c main_v7 = branchWeight (m ((c.tc : Thread nD τ).loc main_arg7)) := by unfold_abbrev_sides; after_results; rfl
theorem staged8 : V m c main_v9 = branchWeight (m ((c.tc : Thread nD τ).loc main_arg8)) := by unfold_abbrev_sides; after_results; rfl
theorem staged9 : V m c main_v11 = outWeight (m ((c.tc : Thread nD τ).loc main_arg9)) := by unfold_abbrev_sides; after_results; rfl
theorem staged10 : V m c main_v13 = scaleRow (m ((c.tc : Thread nD τ).loc main_arg10)) := by unfold_abbrev_sides; after_results; rfl
theorem staged11 : V m c main_v15 = scaleRow (m ((c.tc : Thread nD τ).loc main_arg11)) := by unfold_abbrev_sides; after_results; rfl

/-- The call runs: its two results are the reference's functions of the arguments, and the arguments are unchanged. -/
theorem run : θ_run defs (onTc (τ := τ) (main (F := Ideal))) ⟨m, fun _ => 0, ρ⟩ (fun r => ∀ c : Dev nD,
      r.2.mem ((c.tc : Thread nD τ).loc main_v16_0) = Cert.MergeReferenceIdeal.Read.val_main_v75 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v16_1) = Cert.MergeReferenceIdeal.Read.val_main_v77 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h.1 c).1 12).trans ((final_rows m c).trans (by
      rw [staged0, staged1, staged2, staged3, staged4, staged5, staged6, staged7, staged8, staged9, staged10]; exact rows_eq _ _ _ _ _ _ _ _ _ _ _)),
    ((h.1 c).1 13).trans ((final m c).trans (by
      rw [staged0, staged1, staged2, staged3, staged4, staged5, staged6, staged7, staged8, staged9, staged10, staged11]
      exact result_eq _ _ _ _ _ _ _ _ _ _ _ _)), h.2 c⟩)
    (θ_run_and (run_main m ρ) (unchanged m ρ))

end

end Cert.MergeValue
-- ==== Proof.FfnArray.lean ====
module

public import proofs.«01_k».proof.Proof.FfnTerm

/-!
# The array the feed-forward call leaves, over the extended reals

Each output block holds, row by row, the residual plus the normalized, gated sum over all 5632 hidden units: the accumulator collects that
sum over eleven blocks of 512 units.
-/

@[expose] public section

namespace Cert.Ffw

open Idealize.ShloMosaic Idealize.ShloMosaic.TcCoe Cert.FfnIdeal Cert.FfnIdeal.Gen Idealize.SL.Sem

noncomputable section

set_option maxRecDepth 16384

/-- A projection of row `r` of `h` onto hidden unit `j`. -/
def proj (h : Vec Ideal S4096x2048 .bf16) (w : Vec Ideal S2048x5632 .bf16) (r : Fin 4096) (j : Fin 5632) : EReal :=
  ∑ k : Fin 2048, h (ix2 r k) * w (ix2 k j)

/-- What hidden unit `j` of row `r` adds to output `d`. -/
def unit (h : Vec Ideal S4096x2048 .bf16) (wg wu : Vec Ideal S2048x5632 .bf16) (wd : Vec Ideal S5632x2048 .bf16) (r : Fin 4096) (d : Fin 2048) (j : Fin 5632) :
    EReal :=
  proj h wg r j * Ideal.logistic (proj h wg r j) * proj h wu r j * wd (ix2 j d)

/-- Row `r` of the two-layer product at output `d`. -/
def down (h : Vec Ideal S4096x2048 .bf16) (wg wu : Vec Ideal S2048x5632 .bf16) (wd : Vec Ideal S5632x2048 .bf16) (r : Fin 4096) (d : Fin 2048) : EReal :=
  ∑ j : Fin 5632, unit h wg wu wd r d j

/-- The call's output from the arrays its windows stage. -/
def ffn (x : Vec Ideal S4096x2048 .f32) (h : Vec Ideal S4096x2048 .bf16) (mods : Vec Ideal S4x6x2048 .f32) (s : Vec Ideal S1x2048 .f32)
    (wg wu : Vec Ideal S2048x5632 .bf16) (wd : Vec Ideal S5632x2048 .bf16) (r : Fin 4096) (d : Fin 2048) : EReal :=
  x (ix2 r d) + down h wg wu wd r d
    * Ideal.rsqrt (Ideal.div (∑ e : Fin 2048, down h wg wu wd r e * down h wg wu wd r e) width + tiny)
    * (mods (ix3 ⟨r.val / 1024, by omega⟩ 5 d) * s (ix2 0 d))

/-- A sum over the hidden units, gathered by eleven blocks of 512. -/
theorem sum_blocks (f : Fin 5632 → EReal) :
    ∑ j, f j = ∑ b : Fin 11, ∑ p : Fin 512, f ⟨512 * b.val + p.val, by omega⟩ := by
  rw [← Finset.sum_product', ← (finProdFinEquiv (m := 11) (n := 512)).sum_comp f]
  refine Finset.sum_congr rfl fun q _ => congrArg f (Fin.ext ?_)
  show q.2.val + 512 * q.1.val = 512 * q.1.val + q.2.val
  omega

variable (m : (ℓ : Loc nD τ sig) → Buf (Elt Ideal) ℓ) (c : Dev nD)

theorem idx_1 : ∀ t : Fin grid0.N, win0_1.index t = ![t.val / 11, 0] := by decide +kernel
theorem idx_2 : ∀ t : Fin grid0.N, win0_2.index t = ![t.val / 11, 0, 0] := by decide +kernel
theorem idx_3 : ∀ t : Fin grid0.N, win0_3.index t = ![0, 0] := by decide +kernel
theorem idx_4 : ∀ t : Fin grid0.N, win0_4.index t = ![0, t.val % 11] := by decide +kernel
theorem idx_5 : ∀ t : Fin grid0.N, win0_5.index t = ![0, t.val % 11] := by decide +kernel
theorem idx_6 : ∀ t : Fin grid0.N, win0_6.index t = ![t.val % 11, 0] := by decide +kernel
theorem idx_7 : ∀ t : Fin grid0.N, win0_7.index t = ![t.val / 11, 0] := by decide +kernel

theorem iblk1_apply (t : Fin cfg0.N) (a : Fin 1024) (k : Fin 2048) (r : Fin 4096) (hr : r.val = 1024 * (t.val / 11) + a.val) :
    (iblk m c 1 t : Vec Ideal S1024x2048 .bf16) (ix2 a k) = (V m c main_v1 : Vec Ideal S4096x2048 .bf16) (ix2 r k) := by
  blk_simp [iblk]
  refine congrArg (V m c main_v1) (funext (Fin.forall_fin_two.mpr ⟨Fin.ext ?_, Fin.ext ?_⟩))
  · blk_simp [idx_1 t]; omega
  · blk_simp [idx_1 t]

theorem iblk2_apply (t : Fin cfg0.N) (d : Fin 2048) (b : Fin 4) (hb : b.val = t.val / 11) :
    gateRow (iblk m c 2 t : Vec Ideal S1x6x2048 .f32) (ix3 0 0 d) = (V m c main_v2 : Vec Ideal S4x6x2048 .f32) (ix3 b 5 d) := by
  unfold gateRow
  blk_simp [iblk]
  refine congrArg (V m c main_v2) (funext fun i => ?_)
  match i with
  | 0 => apply Fin.ext; blk_simp [idx_2 t]; omega
  | 1 => apply Fin.ext; blk_simp [idx_2 t]; rfl
  | 2 => apply Fin.ext; blk_simp [idx_2 t]

theorem iblk3_apply (t : Fin cfg0.N) (d : Fin 2048) :
    (iblk m c 3 t : Vec Ideal S1x2048 .f32) (ix2 0 d) = (V m c main_v4 : Vec Ideal S1x2048 .f32) (ix2 0 d) := by
  blk_simp [iblk]
  refine congrArg (V m c main_v4) (funext (Fin.forall_fin_two.mpr ⟨Fin.ext ?_, Fin.ext ?_⟩))
  · blk_simp [idx_3 t]
  · blk_simp [idx_3 t]

theorem iblk4_apply (t : Fin cfg0.N) (k : Fin 2048) (p : Fin 512) (j : Fin 5632) (hj : j.val = 512 * (t.val % 11) + p.val) :
    (iblk m c 4 t : Vec Ideal S2048x512 .bf16) (ix2 k p) = (V m c main_v6 : Vec Ideal S2048x5632 .bf16) (ix2 k j) := by
  blk_simp [iblk]
  refine congrArg (V m c main_v6) (funext (Fin.forall_fin_two.mpr ⟨Fin.ext ?_, Fin.ext ?_⟩))
  · blk_simp [idx_4 t]
  · blk_simp [idx_4 t]; omega

theorem iblk5_apply (t : Fin cfg0.N) (k : Fin 2048) (p : Fin 512) (j : Fin 5632) (hj : j.val = 512 * (t.val % 11) + p.val) :
    (iblk m c 5 t : Vec Ideal S2048x512 .bf16) (ix2 k p) = (V m c main_v8 : Vec Ideal S2048x5632 .bf16) (ix2 k j) := by
  blk_simp [iblk]
  refine congrArg (V m c main_v8) (funext (Fin.forall_fin_two.mpr ⟨Fin.ext ?_, Fin.ext ?_⟩))
  · blk_simp [idx_5 t]
  · blk_simp [idx_5 t]; omega

theorem iblk6_apply (t : Fin cfg0.N) (p : Fin 512) (d : Fin 2048) (j : Fin 5632) (hj : j.val = 512 * (t.val % 11) + p.val) :
    (iblk m c 6 t : Vec Ideal S512x2048 .bf16) (ix2 p d) = (V m c main_v10 : Vec Ideal S5632x2048 .bf16) (ix2 j d) := by
  blk_simp [iblk]
  refine congrArg (V m c main_v10) (funext (Fin.forall_fin_two.mpr ⟨Fin.ext ?_, Fin.ext ?_⟩))
  · blk_simp [idx_6 t]; omega
  · blk_simp [idx_6 t]

/-- A unit's term of a block's product is that unit's term of the whole product. -/
theorem unit_eq (H : Vec Ideal S1024x2048 .bf16) (G U : Vec Ideal S2048x512 .bf16) (D : Vec Ideal S512x2048 .bf16) (h : Vec Ideal S4096x2048 .bf16)
    (wg wu : Vec Ideal S2048x5632 .bf16) (wd : Vec Ideal S5632x2048 .bf16) (a : Fin 1024) (p : Fin 512) (d : Fin 2048) (r : Fin 4096) (j : Fin 5632)
    (hH : ∀ k, H (ix2 a k) = h (ix2 r k)) (hG : ∀ k, G (ix2 k p) = wg (ix2 k j)) (hU : ∀ k, U (ix2 k p) = wu (ix2 k j)) (hD : D (ix2 p d) = wd (ix2 j d)) :
    hidden H G U a p * D (ix2 p d) = unit h wg wu wd r d j := by
  unfold unit hidden proj
  simp only [hH, hG, hU, hD]

/-- What one point's product adds to the accumulator: its 512 units' share. -/
theorem share_eq (t : Fin cfg0.N) (a : Fin 1024) (d : Fin 2048) (r : Fin 4096) (hr : r.val = 1024 * (t.val / 11) + a.val) :
    ∑ p : Fin 512, hidden (iblk m c 1 t) (iblk m c 4 t) (iblk m c 5 t) a p * (iblk m c 6 t : Vec Ideal S512x2048 .bf16) (ix2 p d)
      = ∑ p : Fin 512, unit (V m c main_v1) (V m c main_v6) (V m c main_v8) (V m c main_v10) r d ⟨512 * (t.val % 11) + p.val, by omega⟩ := by
  exact Finset.sum_congr rfl fun p _ => unit_eq (iblk m c 1 t) (iblk m c 4 t) (iblk m c 5 t) (iblk m c 6 t) _ _ _ _ a p d r _
    (fun k => iblk1_apply m c t a k r hr) (fun k => iblk4_apply m c t k p _ rfl) (fun k => iblk5_apply m c t k p _ rfl) (iblk6_apply m c t p d _ rfl)

/-- The accumulator after the point of block `f`: the units of blocks `0 .. f`. -/
theorem acc_apply (b : Fin 4) (a : Fin 1024) (d : Fin 2048) (r : Fin 4096) (hr : r.val = 1024 * b.val + a.val) (f : ℕ) (hf : f < 11)
    (hn : 11 * b.val + f < cfg0.N) :
    acc m c (11 * b.val + f) hn (ix2 a d) = ∑ q ∈ Finset.range (f + 1), if hq : q < 11 then ∑ p : Fin 512,
      unit (V m c main_v1) (V m c main_v6) (V m c main_v8) (V m c main_v10) r d ⟨512 * q + p.val, by omega⟩ else 0 := by
  induction f with
  | zero =>
    have e := acc_first m c ⟨11 * b.val + 0, hn⟩ (by show (11 * b.val + 0) % 11 = 0; omega)
    rw [show acc m c (11 * b.val + 0) hn = _ from e]
    refine (first_apply _ _ _ _ a d).trans ((share_eq m c _ a d r (by show r.val = 1024 * ((11 * b.val + 0) / 11) + a.val; omega)).trans ?_)
    rw [Finset.sum_range_one, dif_pos (by omega)]
    refine Finset.sum_congr rfl fun p _ => congrArg (unit _ _ _ _ r d) (Fin.ext ?_)
    show 512 * ((11 * b.val + 0) % 11) + p.val = 512 * 0 + p.val
    omega
  | succ f ih =>
    have e := acc_later m c ⟨11 * b.val + (f + 1), hn⟩ (by show ¬(11 * b.val + (f + 1)) % 11 = 0; omega) (by show 11 * b.val + (f + 1) - 1 < _; omega)
    rw [show acc m c (11 * b.val + (f + 1)) hn = _ from e]
    refine (later_apply _ _ _ _ _ a d).trans ?_
    rw [Finset.sum_range_succ, dif_pos hf]
    refine congrArg₂ (· + ·) (ih (by omega) (by omega)) ?_
    refine (share_eq m c _ a d r (by show r.val = 1024 * ((11 * b.val + (f + 1)) / 11) + a.val; omega)).trans ?_
    refine Finset.sum_congr rfl fun p _ => congrArg (unit _ _ _ _ r d) (Fin.ext ?_)
    show 512 * ((11 * b.val + (f + 1)) % 11) + p.val = 512 * (f + 1) + p.val
    omega

/-- After the eleventh block the accumulator holds the whole sum. -/
theorem acc_last (t : Fin cfg0.N) (ht : t.val % 11 = 10) (a : Fin 1024) (d : Fin 2048) (r : Fin 4096) (hr : r.val = 1024 * (t.val / 11) + a.val) :
    acc m c t.val t.isLt (ix2 a d) = down (V m c main_v1) (V m c main_v6) (V m c main_v8) (V m c main_v10) r d := by
  have hN : t.val < 44 := Nat.lt_of_lt_of_eq t.isLt N_0
  obtain ⟨n, hn⟩ := t
  obtain ⟨b, rfl⟩ : ∃ b : Fin 4, n = 11 * b.val + 10 := ⟨⟨n / 11, by dsimp only at hN; omega⟩, by dsimp only at ht ⊢; omega⟩
  refine (acc_apply m c b a d r (by dsimp only at hr; omega) 10 (by omega) hn).trans ?_
  unfold down
  rw [sum_blocks, Finset.sum_range]
  exact Finset.sum_congr rfl fun q _ => dif_pos q.isLt

theorem eightRows_apply (x : Vec Ideal S1024x2048 .f32) (a : Fin 1024) (d : Fin 2048) :
    eightRows x a (ix2 ⟨a.val % 8, Nat.mod_lt _ (by omega)⟩ d) = x (ix2 a d) := by
  unfold eightRows
  refine congrArg x (funext (Fin.forall_fin_two.mpr ⟨Fin.ext ?_, Fin.ext ?_⟩))
  · blk_simp
    show 8 * (a.val / 8) + a.val % 8 = a.val
    omega
  · blk_simp

/-- One row of an output block. -/
theorem outBlock_apply (t : Fin cfg0.N) (ht : t.val % 11 = 10) (a : Fin 1024) (d : Fin 2048) (r : Fin 4096) (hr : r.val = 1024 * (t.val / 11) + a.val) :
    outBlock m c t (ix2 a d)
      = ffn (V m c main_v0) (V m c main_v1) (V m c main_v2) (V m c main_v4) (V m c main_v6) (V m c main_v8) (V m c main_v10) r d := by
  have hN : t.val < 44 := Nat.lt_of_lt_of_eq t.isLt N_0
  unfold outBlock finish ffn
  refine (normed_apply _ _ _ _ _ d).trans ?_
  have hy : ∀ e : Fin 2048, eightRows (acc m c t.val t.isLt) a (ix2 ⟨a.val % 8, Nat.mod_lt _ (by omega)⟩ e) = _ := fun e =>
    (eightRows_apply _ a e).trans (acc_last m c t ht a e r hr)
  have hx : eightRows (xRows m c (t.val / 11)) a (ix2 ⟨a.val % 8, Nat.mod_lt _ (by omega)⟩ d) = (V m c main_v0 : Vec Ideal S4096x2048 .f32) (ix2 r d) := by
    refine (eightRows_apply _ a d).trans ?_
    unfold xRows
    refine congrArg (fun q => (V m c main_v0 : Vec Ideal S4096x2048 .f32) (ix2 q d)) (Fin.ext ?_)
    show (1024 * (t.val / 11) + a.val) % 4096 = r.val
    omega
  refine congrArg₂ (· + ·) hx (congrArg₂ (· * ·) (congrArg₂ (· * ·) (hy d) (congrArg Ideal.rsqrt (congrArg (Ideal.div · width + tiny) ?_))) ?_)
  · exact Finset.sum_congr rfl fun e _ => congrArg₂ (· * ·) (hy e) (hy e)
  · exact congrArg₂ (· * ·) (iblk2_apply m c t d ⟨r.val / 1024, by omega⟩ (by show r.val / 1024 = t.val / 11; omega)) (iblk3_apply m c t d)

end

end Cert.Ffw
-- ==== Proof.FfnReference.lean ====
module

public import proofs.«01_k».proof.Proof.FfnArray
public import proofs.«01_k».proof.Proof.Gen.FfnReferenceIdeal.Read
public import Idealize.ShloMosaic.Lib.Tactic.CleanTypes

/-!
# The feed-forward reference's result at an index, over the extended reals
-/

@[expose] public section

namespace Cert.FfnReferenceIdeal.Block

open Cert.FfnReferenceIdeal Cert.FfnReferenceIdeal.Gen Cert.FfnReferenceIdeal.Read Idealize.ShloMosaic Idealize.ShloMosaic.TcCoe
open Cert.Ffw (width tiny)

noncomputable section

set_option maxRecDepth 16384

variable (x0 : Vec Ideal S4x1024x2048 .f32) (x1 : Vec Ideal S4x1024x2048 .bf16) (x2 : Vec Ideal S4x12288 .f32) (x3 : Vec Ideal S1x2048 .f32)
  (x4 x5 : Vec Ideal S1x2048x5632 .f32) (x6 : Vec Ideal S1x5632x2048 .f32)

/-- A projection of row `a` of sample `b`. -/
def projR (w : Vec Ideal S1x2048x5632 .f32) (b : Fin 4) (a : Fin 1024) (j : Fin 5632) : EReal := ∑ k : Fin 2048, x1 (ix3 b a k) * w (ix3 0 k j)

/-- The two-layer product. -/
def downR (b : Fin 4) (a : Fin 1024) (d : Fin 2048) : EReal :=
  ∑ j : Fin 5632, projR x1 x4 b a j * Ideal.logistic (projR x1 x4 b a j) * projR x1 x5 b a j * x6 (ix3 0 j d)

theorem gate_apply (b : Fin 4) (a : Fin 1024) (j : Fin 5632) : val_main_v9 (F := Ideal) x1 x4 (ix3 b a j) = projR x1 x4 b a j := by
  unfold val_main_v9 val_main_v7 val_main_v8 projR
  clean_types
  pointwise []

theorem up_apply (b : Fin 4) (a : Fin 1024) (j : Fin 5632) : val_main_v12 (F := Ideal) x1 x5 (ix3 b a j) = projR x1 x5 b a j := gate_apply x1 x5 b a j

theorem silu_apply (b : Fin 4) (a : Fin 1024) (j : Fin 5632) :
    val_main_v10 (F := Ideal) x1 x4 (ix3 b a j) = projR x1 x4 b a j * Ideal.logistic (projR x1 x4 b a j) := by
  rw [← gate_apply]
  unfold val_main_v10 val_main_call0_v5 val_main_call0_v4 val_main_call0_v3 val_main_call0_v2 val_main_call0_v1 val_main_call0_v0 val_main_call0_cst val_main_call0_cst_0
  generalize val_main_v9 (F := Ideal) x1 x4 = y
  clean_types
  pointwise []
  rfl

theorem down_apply (b : Fin 4) (a : Fin 1024) (d : Fin 2048) : val_main_v15 (F := Ideal) x1 x4 x5 x6 (ix3 b a d) = downR x1 x4 x5 x6 b a d := by
  unfold downR
  simp only [← silu_apply]
  simp only [← up_apply]
  unfold val_main_v15 val_main_v13 val_main_v14
  generalize val_main_v10 (F := Ideal) x1 x4 = y
  generalize val_main_v12 (F := Ideal) x1 x5 = z
  clean_types
  pointwise []

theorem out_apply (r : Fin 4096) (d : Fin 2048) :
    val_main_v33 (F := Ideal) x0 x1 x2 x3 x4 x5 x6 (ix2 r d) = x0 (ix3 ⟨r.val / 1024, by omega⟩ ⟨r.val % 1024, by omega⟩ d)
      + x2 (ix2 ⟨r.val / 1024, by omega⟩ ⟨10240 + d.val, by omega⟩) * (downR x1 x4 x5 x6 ⟨r.val / 1024, by omega⟩ ⟨r.val % 1024, by omega⟩ d
        * Ideal.rsqrt (Ideal.div (∑ e : Fin 2048, downR x1 x4 x5 x6 ⟨r.val / 1024, by omega⟩ ⟨r.val % 1024, by omega⟩ e
          * downR x1 x4 x5 x6 ⟨r.val / 1024, by omega⟩ ⟨r.val % 1024, by omega⟩ e) width + tiny) * x3 (ix2 0 d)) := by
  simp only [← down_apply]
  unfold val_main_v33 val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v6 val_main_v0 val_main_cst val_main_cst_0 val_main_cst_1
    width tiny
  generalize val_main_v15 (F := Ideal) x1 x4 x5 x6 = y
  clean_types
  pointwise []

end

end Cert.FfnReferenceIdeal.Block
-- ==== Proof.FfnValue.lean ====
module

public import proofs.«01_k».proof.Proof.FfnReference
public import Idealize.ShloMosaic.Lib.Pipeline.ArrRel
public import Idealize.ShloMosaic.Lib.Pipeline.ValueKit.Tiles

/-!
# The feed-forward call's final array, and that it is the reference's
-/

@[expose] public section

namespace Cert.Ffw

open Idealize.ShloMosaic Idealize.ShloMosaic.TcCoe Cert.FfnIdeal Cert.FfnIdeal.Gen Idealize.SL.Sem

noncomputable section

set_option maxRecDepth 16384

variable (m : (ℓ : Loc nD τ sig) → Buf (Elt Ideal) ℓ) (ρ : Dev nD → PrngReg) (c : Dev nD)

/-- The output array as one function of the staged arrays. -/
def out : Vec Ideal S4096x2048 .f32 :=
  fun z => ffn (V m c main_v0) (V m c main_v1) (V m c main_v2) (V m c main_v4) (V m c main_v6) (V m c main_v8) (V m c main_v10) (z 0) (z 1)

theorem flush_iff : ∀ t : Fin cfg0.N, (cfg0.win 7).flush t = true ↔ t.val % 11 = 10 := by decide +kernel

/-- What the run leaves in the output array. -/
theorem result_of (r : PUnit × MemSt nD τ sig (Elt Ideal)) (h : Pipeline.RDat.FramePost cfg0 (rdats m) (V m) r) :
    r.2.mem ((c.tc : Thread nD τ).loc main_v11) = out m c := by
  obtain ⟨after, hL, hA⟩ := h.exists_exact c
  refine (hA 7).trans ?_
  refine ((rdats m c).withAfter after).arrAt_eq_of_covers 7 _ (by decide +kernel) fun t hf y => ?_
  have hX : Held m c t (after 7 t) := (dats m c).toRRel_leaves (w := 7) rfl (hL 7 t hf)
  have ht : t.val % 11 = 10 := (flush_iff t).mp hf
  have hX' : after 7 t = outBlock m c t := by unfold Held at hX; rwa [if_pos ht] at hX
  have hN : t.val < 44 := Nat.lt_of_lt_of_eq t.isLt N_0
  rw [Pipeline.RDat.withAfter_after, hX']
  blk_simp
  obtain ⟨a, d, rfl⟩ : ∃ (a : Fin 1024) (b : Fin 2048), y = ix2 a b := ⟨y 0, y 1, eq_ix2 y⟩
  refine (outBlock_apply m c t ht a d ⟨1024 * (t.val / 11) + a.val, by omega⟩ rfl).trans ?_
  unfold out
  refine congrArg₂ (ffn _ _ _ _ _ _ _) (Fin.ext ?_) (Fin.ext ?_)
  · blk_simp [idx_7 t]
    show 1024 * (t.val / 11) + a.val = _
    omega
  · blk_simp [idx_7 t]

/-- The layer's input rows as they are staged. -/
def hRows (x : Vec Ideal S4x1024x2048 .bf16) : Vec Ideal S4096x2048 .bf16 := shapeCast S4096x2048 x shapeCasts_S4x1024x2048_S4096x2048

/-- A weight of the first layer as it is staged. -/
def inWeights (w : Vec Ideal S1x2048x5632 .f32) : Vec Ideal S2048x5632 .bf16 :=
  truncf (F := Ideal) (φ := .f32) .bf16 (shapeCast S2048x5632 w shapeCasts_S1x2048x5632_S2048x5632) bitsLt_bf16_f32

/-- The second layer's weight as it is staged. -/
def outWeights (w : Vec Ideal S1x5632x2048 .f32) : Vec Ideal S5632x2048 .bf16 :=
  truncf (F := Ideal) (φ := .f32) .bf16 (shapeCast S5632x2048 w shapeCasts_S1x5632x2048_S5632x2048) bitsLt_bf16_f32

/-- The projection of a row of the staged arrays is the reference's projection. -/
theorem proj_eq (x1 : Vec Ideal S4x1024x2048 .bf16) (w : Vec Ideal S1x2048x5632 .f32) (r : Fin 4096) (j : Fin 5632) :
    proj (hRows x1) (inWeights w) r j
      = Cert.FfnReferenceIdeal.Block.projR x1 w ⟨r.val / 1024, by omega⟩ ⟨r.val % 1024, by omega⟩ j := by
  unfold proj Cert.FfnReferenceIdeal.Block.projR inWeights hRows
  pointwise []

theorem down_eq (x1 : Vec Ideal S4x1024x2048 .bf16) (x4 x5 : Vec Ideal S1x2048x5632 .f32) (x6 : Vec Ideal S1x5632x2048 .f32) (r : Fin 4096) (d : Fin 2048) :
    down (hRows x1) (inWeights x4)
        (inWeights x5)
        (outWeights x6) r d
      = Cert.FfnReferenceIdeal.Block.downR x1 x4 x5 x6 ⟨r.val / 1024, by omega⟩ ⟨r.val % 1024, by omega⟩ d := by
  unfold down unit Cert.FfnReferenceIdeal.Block.downR
  simp only [proj_eq]
  refine Finset.sum_congr rfl fun j _ => congrArg₂ (· * ·) rfl ?_
  unfold outWeights
  pointwise []

/-- The call's output from the arguments is the reference's result: only the order of the last factors differs. -/
theorem ffn_eq (x0 : Vec Ideal S4x1024x2048 .f32) (x1 : Vec Ideal S4x1024x2048 .bf16) (x2 : Vec Ideal S4x12288 .f32) (x3 : Vec Ideal S1x2048 .f32)
    (x4 x5 : Vec Ideal S1x2048x5632 .f32) (x6 : Vec Ideal S1x5632x2048 .f32) (r : Fin 4096) (d : Fin 2048) :
    ffn (shapeCast S4096x2048 x0 shapeCasts_S4x1024x2048_S4096x2048) (hRows x1)
        (shapeCast S4x6x2048 x2 shapeCasts_S4x12288_S4x6x2048) (shapeCast S1x2048 (shapeCast S2048 x3 shapeCasts_S1x2048_S2048) shapeCasts_S2048_S1x2048)
        (inWeights x4)
        (inWeights x5)
        (outWeights x6) r d
      = Cert.FfnReferenceIdeal.Read.val_main_v33 (F := Ideal) x0 x1 x2 x3 x4 x5 x6 (ix2 r d) := by
  refine Eq.trans ?_ (Cert.FfnReferenceIdeal.Block.out_apply x0 x1 x2 x3 x4 x5 x6 r d).symm
  unfold ffn
  simp only [down_eq]
  have ex : shapeCast S4096x2048 x0 shapeCasts_S4x1024x2048_S4096x2048 (ix2 r d) = x0 (ix3 ⟨r.val / 1024, by omega⟩ ⟨r.val % 1024, by omega⟩ d) := by
    pointwise []
  have eg : shapeCast S4x6x2048 x2 shapeCasts_S4x12288_S4x6x2048 (ix3 ⟨r.val / 1024, by omega⟩ 5 d)
      = x2 (ix2 ⟨r.val / 1024, by omega⟩ ⟨10240 + d.val, by omega⟩) := by
    pointwise []
  have es : shapeCast S1x2048 (shapeCast S2048 x3 shapeCasts_S1x2048_S2048) shapeCasts_S2048_S1x2048 (ix2 0 d) = x3 (ix2 0 d) := by
    pointwise []
  rw [ex, eg, es]
  refine congrArg (_ + ·) ?_
  rw [mul_comm (x2 _) (x3 _), ← mul_assoc, mul_comm (x2 _)]

/-- The output array, as the reference's result on the same arguments. -/
theorem out_eq : out m c = Cert.FfnReferenceIdeal.Read.val_main_v33 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  have e0 : V m c main_v0 = shapeCast S4096x2048 (m ((c.tc : Thread nD τ).loc main_arg0)) shapeCasts_S4x1024x2048_S4096x2048 := by
    unfold_abbrev_sides; after_results; rfl
  have e1 : V m c main_v1 = hRows (m ((c.tc : Thread nD τ).loc main_arg1)) := by
    unfold_abbrev_sides; after_results; rfl
  have e2 : V m c main_v2 = shapeCast S4x6x2048 (m ((c.tc : Thread nD τ).loc main_arg2)) shapeCasts_S4x12288_S4x6x2048 := by
    unfold_abbrev_sides; after_results; rfl
  have e4 : V m c main_v4 = shapeCast S1x2048 (shapeCast S2048 (m ((c.tc : Thread nD τ).loc main_arg3)) shapeCasts_S1x2048_S2048) shapeCasts_S2048_S1x2048 := by
    unfold_abbrev_sides; after_results; rfl
  have e6 : V m c main_v6 = inWeights (m ((c.tc : Thread nD τ).loc main_arg4)) := by
    unfold_abbrev_sides; after_results; rfl
  have e8 : V m c main_v8 = inWeights (m ((c.tc : Thread nD τ).loc main_arg5)) := by
    unfold_abbrev_sides; after_results; rfl
  have e10 : V m c main_v10 = outWeights (m ((c.tc : Thread nD τ).loc main_arg6)) := by
    unfold_abbrev_sides; after_results; rfl
  refine funext fun (z : S4096x2048.Idx) => ?_
  obtain ⟨r, d, rfl⟩ : ∃ (a : Fin 4096) (b : Fin 2048), z = ix2 a b := ⟨z 0, z 1, eq_ix2 z⟩
  refine Eq.trans ?_ (ffn_eq _ _ _ _ _ _ _ r d)
  unfold out
  rw [e0, e1, e2, e4, e6, e8, e10]
  rfl

/-- The feed-forward call runs: its result is the reference's function of the arguments, and the arguments are unchanged. -/
theorem run : θ_run defs (onTc (τ := τ) (main (F := Ideal))) ⟨m, fun _ => 0, ρ⟩ (fun r => ∀ c : Dev nD,
      r.2.mem ((c.tc : Thread nD τ).loc main_v11) = Cert.FfnReferenceIdeal.Read.val_main_v33 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(result_of m c r h.1).trans (out_eq m c), args_of m r h.1 c⟩) (run_quiescent m ρ)

end

end Cert.Ffw
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesReferenceIdeal
public import proofs.«01_k».proof.Proof.Gen.Qkvu
public import proofs.«01_k».proof.Proof.Gen.Qkvu.Skeleton
public import proofs.«01_k».proof.Proof.Gen.Qkvu.Launch
public import proofs.«01_k».proof.Proof.Gen.Qkvu.Points
public import proofs.«01_k».proof.Proof.Gen.Qkvu.Frame
public import proofs.«01_k».proof.Proof.Gen.QkvuIdeal
public import proofs.«01_k».proof.Proof.Gen.QkvuIdeal.Skeleton
public import proofs.«01_k».proof.Proof.Gen.QkvuIdeal.Launch
public import proofs.«01_k».proof.Proof.Gen.QkvuIdeal.Points
public import proofs.«01_k».proof.Proof.Gen.QkvuIdeal.Frame
public import proofs.«01_k».proof.Proof.Gen.QkvuReferenceIdeal
public import proofs.«01_k».proof.Proof.Gen.Pre_finite_logits
public import Idealize.ShloMosaic.Adequacy
public import Idealize.ShloMosaic.Init
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Bridge
public import proofs.«01_k».proof.Proof.FfnWords
public import proofs.«01_k».proof.Proof.GatesValue
public import proofs.«01_k».proof.Proof.QkvuValue
public import proofs.«01_k».proof.Proof.MergeValue
public import proofs.«01_k».proof.Proof.FfnValue
public import proofs.«01_k».proof.Proof.Gen.GatesReferenceIdeal.Run
public import proofs.«01_k».proof.Proof.Gen.GatesReferenceIdeal.Read
public import proofs.«01_k».proof.Proof.Gen.QkvuReferenceIdeal.Run
public import proofs.«01_k».proof.Proof.Gen.QkvuReferenceIdeal.Read

@[expose] public section

noncomputable section

namespace Cert.Proof

open Idealize.ShloMosaic Idealize.SL.Sem Cert.Kernel

/-- The side conditions of the precondition's operations. -/
theorem preFacts : Cert.Pre_finite_logits.Facts where
  slices_S4096x4096_S4096x2048_0_0 := by decide
  bitsLt_bf16_f32 := by decide
  bcast_S_S4096x2048 := by decide
  reducesTo_S4096x2048_S_d0_1 := by decide
  h_S_ := by decide
  bcast_S_S4x1x512x8x128 := by decide
  reducesTo_S4x1x512x8x128_S_d0_1_2_3_4 := by decide
  bcast_S_S1x8x15x31 := by decide
  reducesTo_S1x8x15x31_S_d0_1_2_3 := by decide

theorem kernelFrame : Cert.quiescent_KernelIdeal (hKernelIdeal := Cert.KernelIdeal.Gen.facts) := fun m ρ _ => Cert.KernelIdeal.Gen.frame m ρ

theorem referenceFrame : Cert.quiescent_ReferenceIdeal (hReferenceIdeal := Cert.ReferenceIdeal.Gen.facts) :=
  fun m ρ _ => (θ_run Cert.ReferenceIdeal.defs _ _).mono (fun r h => ⟨fun c => (h c).2,
    Idealize.ShloMosaic.sem_eq_zero_of_no_sems (by decide) r.2⟩) (Cert.ReferenceIdeal.Value.run m ρ)

/-- Both programs run and leave the same result, from arrays that meet the precondition. -/
theorem value : Cert.algebraic_KernelIdeal_ReferenceIdeal_pre_finite_logits (hKernelIdeal := Cert.KernelIdeal.Gen.facts)
    (hReferenceIdeal := Cert.ReferenceIdeal.Gen.facts) (hPre_finite_logits := preFacts) := by
  intro m g m' g' hpre hargs
  haveI := preFacts
  refine ⟨_, (θ_run Cert.KernelIdeal.defs _ _).mono (fun r h => h.1) (Cert.KernelIdeal.Block.run m g), ?_⟩
  refine (θ_run Cert.ReferenceIdeal.defs _ _).mono (fun r h c => ⟨?_, (h c).2⟩) (Cert.ReferenceIdeal.Value.run m' g')
  obtain ⟨e0, e1, e2, e3⟩ := hargs c
  have hr := Cert.Bridge.realLogits_of_pre _ (hpre c)
  refine Eq.trans (h c).1 ?_
  clear h
  refine Eq.trans (Cert.ReferenceIdeal.Read.val_main_v123_eq (Idealize.ShloMosaic.StableHlo.launchContents m' c)) ?_
  refine Eq.trans ?_ (Cert.Bridge.result_eq_reference (m ((c.tc : Thread Cert.KernelIdeal.nD Cert.KernelIdeal.τ).loc Cert.KernelIdeal.main_arg2)) hr).symm
  rw [← e0, ← e1, ← e2, ← e3]

theorem ffnReferenceFrame : Cert.quiescent_FfnReferenceIdeal (hFfnReferenceIdeal := Cert.FfnReferenceIdeal.Gen.facts) :=
  fun m ρ _ => (θ_run Cert.FfnReferenceIdeal.defs _ _).mono (fun r h => ⟨fun c => (h c).2,
    Idealize.ShloMosaic.sem_eq_zero_of_no_sems (by decide) r.2⟩) (Cert.FfnReferenceIdeal.Value.run m ρ)

/-- The feed-forward call and its reference run and leave the same result, from any arrays. -/
theorem ffnValue : Cert.algebraic_FfnIdeal_FfnReferenceIdeal (hFfnIdeal := Cert.FfnIdeal.Gen.facts)
    (hFfnReferenceIdeal := Cert.FfnReferenceIdeal.Gen.facts) := by
  intro m g m' g' _ hargs
  refine ⟨_, Cert.Ffw.run m g, ?_⟩
  refine (θ_run Cert.FfnReferenceIdeal.defs _ _).mono (fun r h c => ⟨?_, (h c).2⟩) (Cert.FfnReferenceIdeal.Value.run m' g')
  obtain ⟨e0, e1, e2, e3, e4, e5, e6⟩ := hargs c
  refine Eq.trans (h c).1 ?_
  clear h
  refine Eq.trans (Cert.FfnReferenceIdeal.Read.val_main_v33_eq m' c) ?_
  rw [e0, e1, e2, e3, e4, e5, e6]

theorem gatesReferenceFrame : Cert.quiescent_GatesReferenceIdeal (hGatesReferenceIdeal := Cert.GatesReferenceIdeal.Gen.facts) :=
  fun m ρ _ => (θ_run Cert.GatesReferenceIdeal.defs _ _).mono (fun r h => ⟨fun c => (h c).2,
    Idealize.ShloMosaic.sem_eq_zero_of_no_sems (by decide) r.2⟩) (Cert.GatesReferenceIdeal.Value.run m ρ)

/-- The gates' call and its reference run and leave the same result, from any arrays. -/
theorem gatesValue : Cert.algebraic_GatesIdeal_GatesReferenceIdeal (hGatesIdeal := Cert.GatesIdeal.Gen.facts)
    (hGatesReferenceIdeal := Cert.GatesReferenceIdeal.Gen.facts) := by
  intro m g m' g' _ hargs
  refine ⟨_, Cert.GatesValue.run m g, ?_⟩
  refine (θ_run Cert.GatesReferenceIdeal.defs _ _).mono (fun r h c => ⟨?_, (h c).2⟩) (Cert.GatesReferenceIdeal.Value.run m' g')
  obtain ⟨e0, e1, e2, e3⟩ := hargs c
  refine Eq.trans (h c).1 ?_
  clear h
  refine Eq.trans (Cert.GatesReferenceIdeal.Read.val_main_v115_eq m' c) ?_
  rw [e0, e1, e2, e3]

theorem qkvuReferenceFrame : Cert.quiescent_QkvuReferenceIdeal (hQkvuReferenceIdeal := Cert.QkvuReferenceIdeal.Gen.facts) :=
  fun m ρ _ => (θ_run Cert.QkvuReferenceIdeal.defs _ _).mono (fun r h => ⟨fun c => (h c).2.2,
    Idealize.ShloMosaic.sem_eq_zero_of_no_sems (by decide) r.2⟩) (Cert.QkvuReferenceIdeal.Value.run m ρ)

/-- The sample batch's projection call and its reference run and leave the same two results, from any arrays. -/
theorem qkvuValue : Cert.algebraic_QkvuIdeal_QkvuReferenceIdeal (hQkvuIdeal := Cert.QkvuIdeal.Gen.facts)
    (hQkvuReferenceIdeal := Cert.QkvuReferenceIdeal.Gen.facts) := by
  intro m g m' g' _ hargs
  refine ⟨_, _, Cert.QkvuValue.run m g, ?_⟩
  refine (θ_run Cert.QkvuReferenceIdeal.defs _ _).mono (fun r h c => ⟨?_, ?_, (h c).2.2⟩) (Cert.QkvuReferenceIdeal.Value.run m' g')
  · obtain ⟨e0, e1, e2, e3⟩ := hargs c
    refine Eq.trans (h c).1 ?_
    clear h
    refine Eq.trans (Cert.QkvuReferenceIdeal.Read.val_main_v51_eq _ _ _) ?_
    rw [e0, e1, e2]
  · obtain ⟨e0, e1, e2, e3⟩ := hargs c
    refine Eq.trans (h c).2.1 ?_
    clear h
    refine Eq.trans (Cert.QkvuReferenceIdeal.Read.val_main_v53_eq m' c) ?_
    rw [e0, e1, e2, e3]

theorem mergeReferenceFrame : Cert.quiescent_MergeReferenceIdeal (hMergeReferenceIdeal := Cert.MergeReferenceIdeal.Gen.facts) :=
  fun m ρ _ => (θ_run Cert.MergeReferenceIdeal.defs _ _).mono (fun r h => ⟨fun c => (h c).2.2,
    Idealize.ShloMosaic.sem_eq_zero_of_no_sems (by decide) r.2⟩) (Cert.MergeReferenceIdeal.Value.run m ρ)

/-- The merge call and its reference run and leave the same two results, from any arrays. -/
theorem mergeValue : Cert.algebraic_MergeIdeal_MergeReferenceIdeal (hMergeIdeal := Cert.MergeIdeal.Gen.facts)
    (hMergeReferenceIdeal := Cert.MergeReferenceIdeal.Gen.facts) := by
  intro m g m' g' _ hargs
  refine ⟨_, _, Cert.MergeValue.run m g, ?_⟩
  refine (θ_run Cert.MergeReferenceIdeal.defs _ _).mono (fun r h c => ⟨?_, ?_, (h c).2.2⟩) (Cert.MergeReferenceIdeal.Value.run m' g')
  · obtain ⟨e0, e1, e2, e3, e4, e5, e6, e7, e8, e9, e10, e11⟩ := hargs c
    refine Eq.trans (h c).1 ?_
    clear h
    refine Eq.trans (Cert.MergeReferenceIdeal.Read.val_main_v75_eq m' c) ?_
    rw [e0, e1, e2, e3, e4, e5, e6, e7, e8, e9, e10]
  · obtain ⟨e0, e1, e2, e3, e4, e5, e6, e7, e8, e9, e10, e11⟩ := hargs c
    refine Eq.trans (h c).2.1 ?_
    clear h
    refine Eq.trans (Cert.MergeReferenceIdeal.Read.val_main_v77_eq m' c) ?_
    rw [e0, e1, e2, e3, e4, e5, e6, e7, e8, e9, e10, e11]

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Gates.Gen.facts, Cert.GatesIdeal.Gen.facts, Cert.GatesReferenceIdeal.Gen.facts, Cert.Qkvu.Gen.facts,
  Cert.QkvuIdeal.Gen.facts, Cert.QkvuReferenceIdeal.Gen.facts,
  Cert.Merge.Gen.facts, Cert.MergeIdeal.Gen.facts, Cert.MergeReferenceIdeal.Gen.facts, preFacts,
  fun m ρ _ => Cert.Kernel.Gen.frame m ρ,
  kernelFrame,
  fun m ρ _ => kernelFrame m ρ trivial,
  referenceFrame,
  fun m ρ _ => referenceFrame m ρ trivial,
  fun m ρ _ => Cert.Ffw.words_frame m ρ,
  fun m ρ _ => Cert.Ffw.frame m ρ,
  ffnReferenceFrame,
  fun m ρ _ => Cert.Gates.Gen.frame m ρ,
  fun m ρ _ => Cert.GatesIdeal.Gen.frame m ρ,
  gatesReferenceFrame,
  fun m ρ _ => Cert.Qkvu.Gen.frame m ρ,
  fun m ρ _ => Cert.QkvuIdeal.Gen.frame m ρ,
  qkvuReferenceFrame,
  fun m ρ _ => Cert.Merge.Gen.frame m ρ,
  fun m ρ _ => Cert.MergeIdeal.Gen.frame m ρ,
  mergeReferenceFrame,
  ⟨IdealRules.named_const.statement Cert.KernelIdeal.κ "log2e" .f32 0x3FB8AA3B#32 _ rfl,
  IdealRules.named_const.statement Cert.KernelIdeal.κ "logits" .f32 0x3E0293EE#32 _ rfl⟩,
  value,
  trivial,
  ffnValue,
  trivial,
  gatesValue,
  trivial,
  qkvuValue,
  trivial,
  mergeValue⟩

end Cert.Proof

end
